-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def preserves_Kernel_KernelIdeal : Prop :=
  IdealRules.named_const.Statement Cert.KernelIdeal.κ "scale2" .f32 0x3E0293EE#32 (((Real.sqrt 128)⁻¹ * (Real.log 2)⁻¹ : ℝ) : EReal)
  ∧ IdealRules.named_const.Statement Cert.KernelIdeal.κ "mask" .f32 0xF149F2CA#32 ⊥
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v59_0)) (v1 : (c : Dev Cert.KernelIdeal.nD) → Buf (Elt Ideal) ((c.tc : Thread Cert.KernelIdeal.nD Cert.KernelIdeal.τ).loc Cert.KernelIdeal.main_v59_1)) (v2 : (c : Dev Cert.KernelIdeal.nD) → Buf (Elt Ideal) ((c.tc : Thread Cert.KernelIdeal.nD Cert.KernelIdeal.τ).loc Cert.KernelIdeal.main_v59_2)) (v3 : (c : Dev Cert.KernelIdeal.nD) → Buf (Elt Ideal) ((c.tc : Thread Cert.KernelIdeal.nD Cert.KernelIdeal.τ).loc Cert.KernelIdeal.main_v59_3)) (v4 : (c : Dev Cert.KernelIdeal.nD) → Buf (Elt Ideal) ((c.tc : Thread Cert.KernelIdeal.nD Cert.KernelIdeal.τ).loc Cert.KernelIdeal.main_v59_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_0) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_v59_2) = v2 c
          ∧ r.2.mem ((c.tc : Thread Cert.KernelIdeal.nD Cert.KernelIdeal.τ).loc Cert.KernelIdeal.main_v59_3) = v3 c
          ∧ r.2.mem ((c.tc : Thread Cert.KernelIdeal.nD Cert.KernelIdeal.τ).loc Cert.KernelIdeal.main_v59_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v101) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_v10) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_v16) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_v9) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v18) = v0 c
          ∧ r.2.mem ((c.tc : Thread Cert.Reference17Ideal.nD Cert.Reference17Ideal.τ).loc Cert.Reference17Ideal.main_v19) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel20_Kernel20Ideal : Prop :=
  IdealRules.named_const.Statement Cert.Kernel20Ideal.κ "c1" .f32 0x3FC48605#32 (((5463681 / 8388608)⁻¹ : ℝ) : EReal)
  ∧ IdealRules.named_const.Statement Cert.Kernel20Ideal.κ "c2" .f32 0x42C8E6D3#32 (((2672307 / 268435456)⁻¹ : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_v32) = v1 c
          ∧ r.2.mem ((c.tc : Thread Cert.Reference20Ideal.nD Cert.Reference20Ideal.τ).loc Cert.Reference20Ideal.main_v13) = v2 c
          ∧ r.2.mem ((c.tc : Thread Cert.Reference20Ideal.nD Cert.Reference20Ideal.τ).loc Cert.Reference20Ideal.main_v19) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel21_Kernel21Ideal : Prop :=
  IdealRules.named_const.Statement Cert.Kernel21Ideal.κ "c1" .f32 0x3FC48605#32 (((5463681 / 8388608)⁻¹ : ℝ) : EReal)
  ∧ IdealRules.named_const.Statement Cert.Kernel21Ideal.κ "c2" .f32 0x42C8E6D3#32 (((2672307 / 268435456)⁻¹ : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_v32) = v1 c
          ∧ r.2.mem ((c.tc : Thread Cert.Reference21Ideal.nD Cert.Reference21Ideal.τ).loc Cert.Reference21Ideal.main_v13) = v2 c
          ∧ r.2.mem ((c.tc : Thread Cert.Reference21Ideal.nD Cert.Reference21Ideal.τ).loc Cert.Reference21Ideal.main_v19) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  IdealRules.named_const.Statement Cert.Kernel22Ideal.κ "c1" .f32 0x3FC48605#32 (((5463681 / 8388608)⁻¹ : ℝ) : EReal)
  ∧ IdealRules.named_const.Statement Cert.Kernel22Ideal.κ "c2" .f32 0x42C8E6D3#32 (((2672307 / 268435456)⁻¹ : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_v32) = v1 c
          ∧ r.2.mem ((c.tc : Thread Cert.Reference22Ideal.nD Cert.Reference22Ideal.τ).loc Cert.Reference22Ideal.main_v13) = v2 c
          ∧ r.2.mem ((c.tc : Thread Cert.Reference22Ideal.nD Cert.Reference22Ideal.τ).loc Cert.Reference22Ideal.main_v19) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S8192x13824 : Shape := ⟨2, ![8192, 13824]⟩
abbrev S8192x1024 : Shape := ⟨2, ![8192, 1024]⟩
abbrev S8192x8 : Shape := ⟨2, ![8192, 8]⟩
abbrev S8192x3072 : Shape := ⟨2, ![8192, 3072]⟩
abbrev S_ : Shape := ⟨0, ![]⟩

class Facts : Prop where
  slices_S8192x13824_S8192x3072_0_0 : S8192x13824.Slices ![0, 0] S8192x3072
  bcast_S_S8192x3072 : S_.BroadcastsInDim S8192x3072 (![] : Fin 0 → Fin S8192x3072.rank)
  bcast_S_S8192x1024 : S_.BroadcastsInDim S8192x1024 (![] : Fin 0 → Fin S8192x1024.rank)
  bcast_S_S8192x8 : S_.BroadcastsInDim S8192x8 (![] : Fin 0 → Fin S8192x8.rank)

variable [Facts]

def fn {F : FTy → Type} [FloatOps F] (main_arg0 : FVec F S8192x13824 .bf16) (main_arg1 : FVec F S8192x1024 .bf16) (main_arg2 : FVec F S8192x8 .f32) : IVec S8192x3072 1 × IVec S8192x1024 1 × IVec S8192x8 1 :=
  let main_v0 : FVec F S8192x3072 .bf16 := (extractStridedSlice S8192x3072 ![0, 0] · slices_S8192x13824_S8192x3072_0_0) main_arg0
  let main_v1 : FVec F S8192x3072 .bf16 := Host.absf main_v0
  let main_cst : FVec F S_ .bf16 := constant S_ .bf16 0x7F80#16
  let main_v2 : FVec F S8192x3072 .bf16 := broadcastInDim S8192x3072 ![] bcast_S_S8192x3072 main_cst
  let main_v3 : IVec S8192x3072 1 := cmpf .olt main_v1 main_v2
  let main_v4 : FVec F S8192x1024 .bf16 := Host.absf main_arg1
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_v7 : FVec F S8192x8 .f32 := Host.absf main_arg2
  let main_cst_1 : FVec F S_ .f32 := constant S_ .f32 0x7F800000#32
  let main_v8 : FVec F S8192x8 .f32 := broadcastInDim S8192x8 ![] bcast_S_S8192x8 main_cst_1
  let main_v9 : IVec S8192x8 1 := cmpf .olt main_v7 main_v8
  (main_v3, main_v6, main_v9)
-- ==== Kernel.lean ====
abbrev S8192x13824 : Shape := ⟨2, ![8192, 13824]⟩
abbrev S8192x1024 : Shape := ⟨2, ![8192, 1024]⟩
abbrev S8192x8 : Shape := ⟨2, ![8192, 8]⟩
abbrev S32x256x8x128 : Shape := ⟨4, ![32, 256, 8, 128]⟩
abbrev S8x32x128x256 : Shape := ⟨4, ![8, 32, 128, 256]⟩
abbrev S8x1024x8x128 : Shape := ⟨4, ![8, 1024, 8, 128]⟩
abbrev S8x8x128x1024 : Shape := ⟨4, ![8, 8, 128, 1024]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x1x8192 : Shape := ⟨3, ![8, 1, 8192]⟩
abbrev S8x32x1x256 : Shape := ⟨4, ![8, 32, 1, 256]⟩
abbrev S8x128x8192 : Shape := ⟨3, ![8, 128, 8192]⟩
abbrev S8192x128 : Shape := ⟨2, ![8192, 128]⟩
abbrev S1024x128 : Shape := ⟨2, ![1024, 128]⟩
abbrev S1x32x128x256 : Shape := ⟨4, ![1, 32, 128, 256]⟩
abbrev S1x1x128x1024 : Shape := ⟨4, ![1, 1, 128, 1024]⟩
abbrev S1x1024x1 : Shape := ⟨3, ![1, 1024, 1]⟩
abbrev S1x32x1x256 : Shape := ⟨4, ![1, 32, 1, 256]⟩
abbrev S32x128x256 : Shape := ⟨3, ![32, 128, 256]⟩
abbrev S32x1x256 : Shape := ⟨3, ![32, 1, 256]⟩
abbrev S128x1024 : Shape := ⟨2, ![128, 1024]⟩
abbrev S1024x1 : Shape := ⟨2, ![1024, 1]⟩
abbrev S1x1x128x256 : Shape := ⟨4, ![1, 1, 128, 256]⟩
abbrev S128x256 : Shape := ⟨2, ![128, 256]⟩
abbrev S1024x256 : Shape := ⟨2, ![1024, 256]⟩
abbrev S1x1x1x256 : Shape := ⟨4, ![1, 1, 1, 256]⟩
abbrev S1x256 : Shape := ⟨2, ![1, 256]⟩
abbrev S256x128 : Shape := ⟨2, ![256, 128]⟩
abbrev S256 : Shape := ⟨1, ![256]⟩
abbrev S1024 : Shape := ⟨1, ![1024]⟩

abbrev nBuf : Space → Nat
  | .hbm => 76
  | .vmem => 33
  | .smem => 0
  | _ => 0

abbrev bufTy : (tb : Table) → Fin (tcTables nBuf tb) → BufTy
  | .hbm, ⟨0, _⟩ => ⟨S8192x13824, .bf16⟩
  | .hbm, ⟨1, _⟩ => ⟨S8192x1024, .bf16⟩
  | .hbm, ⟨2, _⟩ => ⟨S8192x8, .f32⟩
  | .hbm, ⟨3, _⟩ => ⟨S8192x1024, .bf16⟩
  | .hbm, ⟨4, _⟩ => ⟨S32x256x8x128, .bf16⟩
  | .hbm, ⟨5, _⟩ => ⟨S8x32x128x256, .bf16⟩
  | .hbm, ⟨6, _⟩ => ⟨S8192x1024, .bf16⟩
  | .hbm, ⟨7, _⟩ => ⟨S8x1024x8x128, .bf16⟩
  | .hbm, ⟨8, _⟩ => ⟨S8x8x128x1024, .bf16⟩
  | .hbm, ⟨9, _⟩ => ⟨S32x256x8x128, .bf16⟩
  | .hbm, ⟨10, _⟩ => ⟨S8x32x128x256, .bf16⟩
  | .hbm, ⟨11, _⟩ => ⟨S8192x1024, .bf16⟩
  | .hbm, ⟨12, _⟩ => ⟨S8192x1024, .f32⟩
  | .hbm, ⟨13, _⟩ => ⟨S8192x8x128, .f32⟩
  | .hbm, ⟨14, _⟩ => ⟨S8192x1024, .bf16⟩
  | .hbm, ⟨15, _⟩ => ⟨S8192x1024, .f32⟩
  | .hbm, ⟨16, _⟩ => ⟨S8192x8x128, .f32⟩
  | .hbm, ⟨17, _⟩ => ⟨S8192x1024, .bf16⟩
  | .hbm, ⟨18, _⟩ => ⟨S8192x1024, .f32⟩
  | .hbm, ⟨19, _⟩ => ⟨S8192x8x128, .f32⟩
  | .hbm, ⟨20, _⟩ => ⟨S8x8192x8192, .f32⟩
  | .hbm, ⟨21, _⟩ => ⟨S_, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S_, .f32⟩
  | .hbm, ⟨27, _⟩ => ⟨S8192x8, .f32⟩
  | .hbm, ⟨28, _⟩ => ⟨S8192x8, .f32⟩
  | .hbm, ⟨29, _⟩ => ⟨S8x8192, .f32⟩
  | .hbm, ⟨30, _⟩ => ⟨S8x8192x1, .f32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S8x8192, .f32⟩
  | .hbm, ⟨38, _⟩ => ⟨S8x1x8192, .f32⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S_, .f32⟩
  | .hbm, ⟨43, _⟩ => ⟨S8x8192x8192, .i1⟩
  | .hbm, ⟨44, _⟩ => ⟨S8x8192x8192, .f32⟩
  | .hbm, ⟨45, _⟩ => ⟨S8x8192x8192, .f32⟩
  | .hbm, ⟨46, _⟩ => ⟨S_, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192, .f32⟩
  | .hbm, ⟨54, _⟩ => ⟨S8x8192, .f32⟩
  | .hbm, ⟨55, _⟩ => ⟨S8x8192, .f32⟩
  | .hbm, ⟨56, _⟩ => ⟨S8x8192, .f32⟩
  | .hbm, ⟨57, _⟩ => ⟨S8x8192, .f32⟩
  | .hbm, ⟨58, _⟩ => ⟨S8x32x1x256, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x128x8192, .f32⟩
  | .hbm, ⟨63, _⟩ => ⟨S8192x8x128, .f32⟩
  | .hbm, ⟨64, _⟩ => ⟨S8192x1024, .f32⟩
  | .hbm, ⟨65, _⟩ => ⟨S8192x8x128, .f32⟩
  | .hbm, ⟨66, _⟩ => ⟨S8192x8x128, .f32⟩
  | .hbm, ⟨67, _⟩ => ⟨S_, .f32⟩
  | .hbm, ⟨68, _⟩ => ⟨S8192x8, .f32⟩
  | .hbm, ⟨69, _⟩ => ⟨S8x8192, .f32⟩
  | .hbm, ⟨70, _⟩ => ⟨S8x32x1x256, .f32⟩
  | .hbm, ⟨71, _⟩ => ⟨S8192x1024, .bf16⟩
  | .hbm, ⟨72, _⟩ => ⟨S8192x1024, .bf16⟩
  | .hbm, ⟨73, _⟩ => ⟨S8x8192x1, .f32⟩
  | .hbm, ⟨74, _⟩ => ⟨S8x32x128x256, .f32⟩
  | .hbm, ⟨75, _⟩ => ⟨S8x32x1x256, .f32⟩
  | .local _ .vmem, ⟨0, _⟩ => ⟨S8192x128, .bf16⟩
  | .local _ .vmem, ⟨1, _⟩ => ⟨S8192x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x32x128x256, .bf16⟩
  | .local _ .vmem, ⟨7, _⟩ => ⟨S1x32x128x256, .bf16⟩
  | .local _ .vmem, ⟨8, _⟩ => ⟨S1x1x128x1024, .bf16⟩
  | .local _ .vmem, ⟨9, _⟩ => ⟨S1x1x128x1024, .bf16⟩
  | .local _ .vmem, ⟨10, _⟩ => ⟨S8192x128, .bf16⟩
  | .local _ .vmem, ⟨11, _⟩ => ⟨S8192x128, .bf16⟩
  | .local _ .vmem, ⟨12, _⟩ => ⟨S1x32x128x256, .bf16⟩
  | .local _ .vmem, ⟨13, _⟩ => ⟨S1x32x128x256, .bf16⟩
  | .local _ .vmem, ⟨14, _⟩ => ⟨S1x1024x1, .f32⟩
  | .local _ .vmem, ⟨15, _⟩ => ⟨S1x1024x1, .f32⟩
  | .local _ .vmem, ⟨16, _⟩ => ⟨S1x32x1x256, .f32⟩
  | .local _ .vmem, ⟨17, _⟩ => ⟨S1x32x1x256, .f32⟩
  | .local _ .vmem, ⟨18, _⟩ => ⟨S1x32x1x256, .f32⟩
  | .local _ .vmem, ⟨19, _⟩ => ⟨S1x32x1x256, .f32⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1x1024x1, .f32⟩
  | .local _ .vmem, ⟨25, _⟩ => ⟨S1x1024x1, .f32⟩
  | .local _ .vmem, ⟨26, _⟩ => ⟨S1x32x128x256, .f32⟩
  | .local _ .vmem, ⟨27, _⟩ => ⟨S1x32x128x256, .f32⟩
  | .local _ .vmem, ⟨28, _⟩ => ⟨S1x32x1x256, .f32⟩
  | .local _ .vmem, ⟨29, _⟩ => ⟨S1x32x1x256, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_4 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59_0 : Ref sig .tc := ⟨.hbm, 71, rfl⟩
abbrev main_v59_1 : Ref sig .tc := ⟨.hbm, 72, rfl⟩
abbrev main_v59_2 : Ref sig .tc := ⟨.hbm, 73, rfl⟩
abbrev main_v59_3 : Ref sig .tc := ⟨.hbm, 74, rfl⟩
abbrev main_v59_4 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c4_i32 : BitVec 32 := 4#32
  let v21 : BitVec 32 := Scalar.muli arg1 c4_i32
  let c0_i32_19 : BitVec 32 := 0#32
  let v22 : BitVec 32 := Scalar.addi v21 c0_i32_19
  let c256_i32 : BitVec 32 := 256#32
  let v23 : BitVec 32 := Scalar.muli v22 c256_i32
  v23
def k0_off1 (i : grid0.Coords) (c0_i32_19 : BitVec 32) : Fin 4 → Nat :=
  let c0_20 : Index := 0#32
  let arg1 : BitVec 32 := BitVec.ofNat 32 (i 1).val
  let c4_i32 : BitVec 32 := 4#32
  let v21 : BitVec 32 := Scalar.muli arg1 c4_i32
  let v22 : BitVec 32 := Scalar.addi v21 c0_i32_19
  let v25 : Index := Scalar.indexCast v22
  let c0_21 : Index := 0#32
  let c0_22 : Index := 0#32
  ![0, v25.toNat, 0, 0]
def k0_off2 (i : grid0.Coords) (c0_i32_19 : BitVec 32) : Fin 4 → Nat :=
  let c0_27 : Index := 0#32
  let arg1 : BitVec 32 := BitVec.ofNat 32 (i 1).val
  let c4_i32 : BitVec 32 := 4#32
  let v21 : BitVec 32 := Scalar.muli arg1 c4_i32
  let v22 : BitVec 32 := Scalar.addi v21 c0_i32_19
  let v40 : Index := Scalar.indexCast v22
  let c0_28 : Index := 0#32
  let c0_29 : Index := 0#32
  ![0, v40.toNat, 0, 0]
def k0_off3 (i : grid0.Coords) (c0_i32_19 : BitVec 32) : Fin 2 → Nat :=
  let arg1 : BitVec 32 := BitVec.ofNat 32 (i 1).val
  let c4_i32 : BitVec 32 := 4#32
  let v21 : BitVec 32 := Scalar.muli arg1 c4_i32
  let v22 : BitVec 32 := Scalar.addi v21 c0_i32_19
  let c256_i32 : BitVec 32 := 256#32
  let v23 : BitVec 32 := Scalar.muli v22 c256_i32
  let v24 : BitVec 32 := v23
  let v59 : Index := Scalar.indexCast v24
  let c0_39 : Index := 0#32
  ![v59.toNat, 0]
def k0_mult2 (i : grid0.Coords) : BitVec 32 :=
  let arg1 : BitVec 32 := BitVec.ofNat 32 (i 1).val
  let c4_i32_67 : BitVec 32 := 4#32
  let v101 : BitVec 32 := Scalar.muli arg1 c4_i32_67
  let c1_i32 : BitVec 32 := 1#32
  let v102 : BitVec 32 := Scalar.addi v101 c1_i32
  let c256_i32_68 : BitVec 32 := 256#32
  let v103 : BitVec 32 := Scalar.muli v102 c256_i32_68
  v103
def k0_mult3 (i : grid0.Coords) : BitVec 32 :=
  let arg1 : BitVec 32 := BitVec.ofNat 32 (i 1).val
  let c4_i32_116 : BitVec 32 := 4#32
  let v181 : BitVec 32 := Scalar.muli arg1 c4_i32_116
  let c2_i32 : BitVec 32 := 2#32
  let v182 : BitVec 32 := Scalar.addi v181 c2_i32
  let c256_i32_117 : BitVec 32 := 256#32
  let v183 : BitVec 32 := Scalar.muli v182 c256_i32_117
  v183
def k0_mult4 (i : grid0.Coords) : BitVec 32 :=
  let arg1 : BitVec 32 := BitVec.ofNat 32 (i 1).val
  let c4_i32_164 : BitVec 32 := 4#32
  let v261 : BitVec 32 := Scalar.muli arg1 c4_i32_164
  let c3_i32 : BitVec 32 := 3#32
  let v262 : BitVec 32 := Scalar.addi v261 c3_i32
  let c256_i32_165 : BitVec 32 := 256#32
  let v263 : BitVec 32 := Scalar.muli v262 c256_i32_165
  v263
@[reducible] def k0_t1_loop (i : grid0.Coords) : Scf.Loop 32 :=
  let arg1 : BitVec 32 := BitVec.ofNat 32 (i 1).val
  let c4_i32_212 : BitVec 32 := 4#32
  let v341 : BitVec 32 := Scalar.muli arg1 c4_i32_212
  let c4_i32_213 : BitVec 32 := 4#32
  let v342 : BitVec 32 := Scalar.addi v341 c4_i32_213
  let c32_i32 : BitVec 32 := 32#32
  let v343 : BitVec 32 := Scalar.subi c32_i32 v342
  let c1_i32_215 : BitVec 32 := 1#32
  let v345 : BitVec 32 := Scalar.divsi v343 c1_i32_215
  let v346 : BitVec 32 := Scalar.muli v345 c1_i32_215
  let v347 : BitVec 32 := Scalar.addi v342 v346
  let c1_i32_216 : BitVec 32 := 1#32
  ⟨v342, v347, c1_i32_216⟩
def k0_mult5 (i : grid0.Coords) (k0_t1 : Fin (k0_t1_loop i).trips) : BitVec 32 :=
  let arg1 : BitVec 32 := BitVec.ofNat 32 (i 1).val
  let c4_i32_212 : BitVec 32 := 4#32
  let v341 : BitVec 32 := Scalar.muli arg1 c4_i32_212
  let c4_i32_213 : BitVec 32 := 4#32
  let v342 : BitVec 32 := Scalar.addi v341 c4_i32_213
  let c1_i32_216 : BitVec 32 := 1#32
  let arg20 : BitVec 32 := Scf.iv v342 c1_i32_216 k0_t1
  let c256_i32_235 : BitVec 32 := 256#32
  let v367 : BitVec 32 := Scalar.muli arg20 c256_i32_235
  v367
def k0_off4 (i : grid0.Coords) (k0_t1 : Fin (k0_t1_loop i).trips) : Fin 4 → Nat :=
  let c0_236 : Index := 0#32
  let arg1 : BitVec 32 := BitVec.ofNat 32 (i 1).val
  let c4_i32_212 : BitVec 32 := 4#32
  let v341 : BitVec 32 := Scalar.muli arg1 c4_i32_212
  let c4_i32_213 : BitVec 32 := 4#32
  let v342 : BitVec 32 := Scalar.addi v341 c4_i32_213
  let c1_i32_216 : BitVec 32 := 1#32
  let arg20 : BitVec 32 := Scf.iv v342 c1_i32_216 k0_t1
  let v369 : Index := Scalar.indexCast arg20
  let c0_237 : Index := 0#32
  let c0_238 : Index := 0#32
  ![0, v369.toNat, 0, 0]
def k0_off5 (i : grid0.Coords) (k0_t1 : Fin (k0_t1_loop i).trips) : Fin 4 → Nat :=
  let c0_241 : Index := 0#32
  let arg1 : BitVec 32 := BitVec.ofNat 32 (i 1).val
  let c4_i32_212 : BitVec 32 := 4#32
  let v341 : BitVec 32 := Scalar.muli arg1 c4_i32_212
  let c4_i32_213 : BitVec 32 := 4#32
  let v342 : BitVec 32 := Scalar.addi v341 c4_i32_213
  let c1_i32_216 : BitVec 32 := 1#32
  let arg20 : BitVec 32 := Scf.iv v342 c1_i32_216 k0_t1
  let v377 : Index := Scalar.indexCast arg20
  let c0_242 : Index := 0#32
  let c0_243 : Index := 0#32
  ![0, v377.toNat, 0, 0]
def k0_off6 (i : grid0.Coords) (k0_t1 : Fin (k0_t1_loop i).trips) : Fin 2 → Nat :=
  let arg1 : BitVec 32 := BitVec.ofNat 32 (i 1).val
  let c4_i32_212 : BitVec 32 := 4#32
  let v341 : BitVec 32 := Scalar.muli arg1 c4_i32_212
  let c4_i32_213 : BitVec 32 := 4#32
  let v342 : BitVec 32 := Scalar.addi v341 c4_i32_213
  let c1_i32_216 : BitVec 32 := 1#32
  let arg20 : BitVec 32 := Scf.iv v342 c1_i32_216 k0_t1
  let c256_i32_235 : BitVec 32 := 256#32
  let v367 : BitVec 32 := Scalar.muli arg20 c256_i32_235
  let v368 : BitVec 32 := v367
  let v396 : Index := Scalar.indexCast v368
  let c0_253 : Index := 0#32
  ![v396.toNat, 0]
@[reducible] def k0_t2_loop (i : grid0.Coords) : Scf.Loop 32 :=
  let arg1 : BitVec 32 := BitVec.ofNat 32 (i 1).val
  let c4_i32_212 : BitVec 32 := 4#32
  let v341 : BitVec 32 := Scalar.muli arg1 c4_i32_212
  let c4_i32_213 : BitVec 32 := 4#32
  let v342 : BitVec 32 := Scalar.addi v341 c4_i32_213
  let c32_i32 : BitVec 32 := 32#32
  let v343 : BitVec 32 := Scalar.subi c32_i32 v342
  let c1_i32_215 : BitVec 32 := 1#32
  let v345 : BitVec 32 := Scalar.divsi v343 c1_i32_215
  let v346 : BitVec 32 := Scalar.muli v345 c1_i32_215
  let v347 : BitVec 32 := Scalar.addi v342 v346
  let v344 : BitVec 32 := Scalar.addi v342 v343
  let c1_i32_217 : BitVec 32 := 1#32
  ⟨v347, v344, c1_i32_217⟩
def k0_mult6 (i : grid0.Coords) (k0_t2 : Fin (k0_t2_loop i).trips) : BitVec 32 :=
  let arg1 : BitVec 32 := BitVec.ofNat 32 (i 1).val
  let c4_i32_212 : BitVec 32 := 4#32
  let v341 : BitVec 32 := Scalar.muli arg1 c4_i32_212
  let c4_i32_213 : BitVec 32 := 4#32
  let v342 : BitVec 32 := Scalar.addi v341 c4_i32_213
  let c32_i32 : BitVec 32 := 32#32
  let v343 : BitVec 32 := Scalar.subi c32_i32 v342
  let c1_i32_215 : BitVec 32 := 1#32
  let v345 : BitVec 32 := Scalar.divsi v343 c1_i32_215
  let v346 : BitVec 32 := Scalar.muli v345 c1_i32_215
  let v347 : BitVec 32 := Scalar.addi v342 v346
  let c1_i32_217 : BitVec 32 := 1#32
  let arg20 : BitVec 32 := Scf.iv v347 c1_i32_217 k0_t2
  let c256_i32_235 : BitVec 32 := 256#32
  let v367 : BitVec 32 := Scalar.muli arg20 c256_i32_235
  v367
def k0_off7 (i : grid0.Coords) (k0_t2 : Fin (k0_t2_loop i).trips) : Fin 4 → Nat :=
  let c0_236 : Index := 0#32
  let arg1 : BitVec 32 := BitVec.ofNat 32 (i 1).val
  let c4_i32_212 : BitVec 32 := 4#32
  let v341 : BitVec 32 := Scalar.muli arg1 c4_i32_212
  let c4_i32_213 : BitVec 32 := 4#32
  let v342 : BitVec 32 := Scalar.addi v341 c4_i32_213
  let c32_i32 : BitVec 32 := 32#32
  let v343 : BitVec 32 := Scalar.subi c32_i32 v342
  let c1_i32_215 : BitVec 32 := 1#32
  let v345 : BitVec 32 := Scalar.divsi v343 c1_i32_215
  let v346 : BitVec 32 := Scalar.muli v345 c1_i32_215
  let v347 : BitVec 32 := Scalar.addi v342 v346
  let c1_i32_217 : BitVec 32 := 1#32
  let arg20 : BitVec 32 := Scf.iv v347 c1_i32_217 k0_t2
  let v369 : Index := Scalar.indexCast arg20
  let c0_237 : Index := 0#32
  let c0_238 : Index := 0#32
  ![0, v369.toNat, 0, 0]
def k0_off8 (i : grid0.Coords) (k0_t2 : Fin (k0_t2_loop i).trips) : Fin 4 → Nat :=
  let c0_241 : Index := 0#32
  let arg1 : BitVec 32 := BitVec.ofNat 32 (i 1).val
  let c4_i32_212 : BitVec 32 := 4#32
  let v341 : BitVec 32 := Scalar.muli arg1 c4_i32_212
  let c4_i32_213 : BitVec 32 := 4#32
  let v342 : BitVec 32 := Scalar.addi v341 c4_i32_213
  let c32_i32 : BitVec 32 := 32#32
  let v343 : BitVec 32 := Scalar.subi c32_i32 v342
  let c1_i32_215 : BitVec 32 := 1#32
  let v345 : BitVec 32 := Scalar.divsi v343 c1_i32_215
  let v346 : BitVec 32 := Scalar.muli v345 c1_i32_215
  let v347 : BitVec 32 := Scalar.addi v342 v346
  let c1_i32_217 : BitVec 32 := 1#32
  let arg20 : BitVec 32 := Scf.iv v347 c1_i32_217 k0_t2
  let v377 : Index := Scalar.indexCast arg20
  let c0_242 : Index := 0#32
  let c0_243 : Index := 0#32
  ![0, v377.toNat, 0, 0]
def k0_off9 (i : grid0.Coords) (k0_t2 : Fin (k0_t2_loop i).trips) : Fin 2 → Nat :=
  let arg1 : BitVec 32 := BitVec.ofNat 32 (i 1).val
  let c4_i32_212 : BitVec 32 := 4#32
  let v341 : BitVec 32 := Scalar.muli arg1 c4_i32_212
  let c4_i32_213 : BitVec 32 := 4#32
  let v342 : BitVec 32 := Scalar.addi v341 c4_i32_213
  let c32_i32 : BitVec 32 := 32#32
  let v343 : BitVec 32 := Scalar.subi c32_i32 v342
  let c1_i32_215 : BitVec 32 := 1#32
  let v345 : BitVec 32 := Scalar.divsi v343 c1_i32_215
  let v346 : BitVec 32 := Scalar.muli v345 c1_i32_215
  let v347 : BitVec 32 := Scalar.addi v342 v346
  let c1_i32_217 : BitVec 32 := 1#32
  let arg20 : BitVec 32 := Scf.iv v347 c1_i32_217 k0_t2
  let c256_i32_235 : BitVec 32 := 256#32
  let v367 : BitVec 32 := Scalar.muli arg20 c256_i32_235
  let v368 : BitVec 32 := v367
  let v396 : Index := Scalar.indexCast v368
  let c0_253 : Index := 0#32
  ![v396.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x32x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x32x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== KernelIdeal.lean ====
variable {F : FTy → Type} [FloatOps F] [Named F]
def κ : String → Option EReal := fun
  | "mask" => some ⊥
  | "scale" => some (((Real.sqrt 128)⁻¹ : ℝ) : EReal)
  | "scale2" => some (((Real.sqrt 128)⁻¹ * (Real.log 2)⁻¹ : ℝ) : EReal)
  | _ => none
-- ==== ReferenceIdeal.lean ====
abbrev S8192x13824 : Shape := ⟨2, ![8192, 13824]⟩
abbrev S8192x1024 : Shape := ⟨2, ![8192, 1024]⟩
abbrev S8192x8 : Shape := ⟨2, ![8192, 8]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8192x128 : Shape := ⟨3, ![8, 8192, 128]⟩
abbrev S32x256x8x128 : Shape := ⟨4, ![32, 256, 8, 128]⟩
abbrev S8x32x128x256 : Shape := ⟨4, ![8, 32, 128, 256]⟩
abbrev S8x32x1x256 : Shape := ⟨4, ![8, 32, 1, 256]⟩

abbrev nBuf : Space → Nat
  | .hbm => 130
  | .vmem => 0
  | .smem => 0
  | _ => 0

abbrev hbmTy0_0 (i : Nat) : BufTy := match i % 128 with
  | 0 => ⟨S8192x13824, .bf16⟩
  | 1 => ⟨S8192x1024, .bf16⟩
  | 2 => ⟨S8192x8, .f32⟩
  | 3 => ⟨S8192x1024, .bf16⟩
  | 4 => ⟨S8192x1024, .f32⟩
  | 5 => ⟨S8192x8x128, .f32⟩
  | 6 => ⟨S8192x1024, .bf16⟩
  | 7 => ⟨S8192x1024, .f32⟩
  | 8 => ⟨S8192x8x128, .f32⟩
  | 9 => ⟨S8192x1024, .bf16⟩
  | 10 => ⟨S8192x1024, .f32⟩
  | 11 => ⟨S8192x8x128, .f32⟩
  | 12 => ⟨S8x8192x8192, .f32⟩
  | 13 => ⟨S_, .f32⟩
  | 14 => ⟨S_, .f32⟩
  | 15 => ⟨S8x8192x8192, .f32⟩
  | 16 => ⟨S8x8192x8192, .f32⟩
  | 17 => ⟨S8x8192, .f32⟩
  | 18 => ⟨S8x8192x1, .f32⟩
  | 19 => ⟨S8x8192x8192, .f32⟩
  | 20 => ⟨S8x8192x8192, .f32⟩
  | 21 => ⟨S8x8192, .f32⟩
  | 22 => ⟨S8x1x8192, .f32⟩
  | 23 => ⟨S8x8192x8192, .f32⟩
  | 24 => ⟨S8x8192x8192, .f32⟩
  | 25 => ⟨S8192, .i32⟩
  | 26 => ⟨S1x8192, .i32⟩
  | 27 => ⟨S8192x1, .i32⟩
  | 28 => ⟨S8192x8192, .i32⟩
  | 29 => ⟨S8192x8192, .i32⟩
  | 30 => ⟨S8192x8192, .i1⟩
  | 31 => ⟨S_, .f32⟩
  | 32 => ⟨S_, .f32⟩
  | 33 => ⟨S8x8192x8192, .i1⟩
  | 34 => ⟨S8x8192x8192, .f32⟩
  | 35 => ⟨S8x8192x8192, .f32⟩
  | 36 => ⟨S_, .f32⟩
  | 37 => ⟨S8x8192x8192, .f32⟩
  | 38 => ⟨S_, .f32⟩
  | 39 => ⟨S8x8192, .f32⟩
  | 40 => ⟨S8x8192x1, .f32⟩
  | 41 => ⟨S8x8192x8192, .f32⟩
  | 42 => ⟨S8x8192x8192, .i1⟩
  | 43 => ⟨S8x8192x8192, .f32⟩
  | 44 => ⟨S_, .f32⟩
  | 45 => ⟨S8x8192, .f32⟩
  | 46 => ⟨S_, .f32⟩
  | 47 => ⟨S8x8192, .f32⟩
  | 48 => ⟨S8x8192, .f32⟩
  | 49 => ⟨S_, .f32⟩
  | 50 => ⟨S8x8192, .f32⟩
  | 51 => ⟨S8x8192, .i1⟩
  | 52 => ⟨S_, .f32⟩
  | 53 => ⟨S8x8192, .f32⟩
  | 54 => ⟨S8x8192, .i1⟩
  | 55 => ⟨S_, .f32⟩
  | 56 => ⟨S8x8192, .f32⟩
  | 57 => ⟨S_, .f32⟩
  | 58 => ⟨S8x8192, .f32⟩
  | 59 => ⟨S_, .f32⟩
  | 60 => ⟨S8x8192, .f32⟩
  | 61 => ⟨S8x8192, .f32⟩
  | 62 => ⟨S8x8192, .f32⟩
  | 63 => ⟨S8x8192x1, .f32⟩
  | 64 => ⟨S8x8192x8192, .f32⟩
  | 65 => ⟨S8x8192x8192, .f32⟩
  | 66 => ⟨S8x8192x8192, .f32⟩
  | 67 => ⟨S_, .f32⟩
  | 68 => ⟨S8x8192, .f32⟩
  | 69 => ⟨S8x8192x1, .f32⟩
  | 70 => ⟨S8x8192x8192, .f32⟩
  | 71 => ⟨S8x8192x8192, .f32⟩
  | 72 => ⟨S8x8192x1, .f32⟩
  | 73 => ⟨S_, .f32⟩
  | 74 => ⟨S8x8192x1, .f32⟩
  | 75 => ⟨S8x8192x1, .f32⟩
  | 76 => ⟨S8x128x8192, .f32⟩
  | 77 => ⟨S8192x8x128, .f32⟩
  | 78 => ⟨S8192x1024, .f32⟩
  | 79 => ⟨S8192x8x128, .f32⟩
  | 80 => ⟨S8x128x8192, .f32⟩
  | 81 => ⟨S8x8192x8192, .f32⟩
  | 82 => ⟨S8x128x8192, .f32⟩
  | 83 => ⟨S8192x8x128, .f32⟩
  | 84 => ⟨S8x8192x8192, .f32⟩
  | 85 => ⟨S8x8192x8192, .f32⟩
  | 86 => ⟨S8x8192x8192, .f32⟩
  | 87 => ⟨S_, .f32⟩
  | 88 => ⟨S8x8192, .f32⟩
  | 89 => ⟨S8x8192x1, .f32⟩
  | 90 => ⟨S8x8192x1, .f32⟩
  | 91 => ⟨S8x8192x8192, .f32⟩
  | 92 => ⟨S8x8192x8192, .f32⟩
  | 93 => ⟨S_, .f32⟩
  | 94 => ⟨S8x8192, .f32⟩
  | 95 => ⟨S8x8192x8192, .f32⟩
  | 96 => ⟨S8x8192x8192, .f32⟩
  | 97 => ⟨S8x8192x8192, .f32⟩
  | 98 => ⟨S_, .f32⟩
  | 99 => ⟨S8x8192x8192, .f32⟩
  | 100 => ⟨S8x8192x8192, .f32⟩
  | 101 => ⟨S8x8192x8192, .f32⟩
  | 102 => ⟨S_, .f32⟩
  | 103 => ⟨S8x8192, .f32⟩
  | 104 => ⟨S8x1x8192, .f32⟩
  | 105 => ⟨S_, .f32⟩
  | 106 => ⟨S8x8192, .f32⟩
  | 107 => ⟨S8192x8, .f32⟩
  | 108 => ⟨S_, .f32⟩
  | 109 => ⟨S8x8192, .f32⟩
  | 110 => ⟨S8x8192x1, .f32⟩
  | 111 => ⟨S_, .f32⟩
  | 112 => ⟨S8x8192, .f32⟩
  | 113 => ⟨S8192x8, .f32⟩
  | 114 => ⟨S8x8192x8192, .f32⟩
  | 115 => ⟨S8x8192x8192, .f32⟩
  | 116 => ⟨S8x8192x128, .f32⟩
  | 117 => ⟨S8192x8x128, .f32⟩
  | 118 => ⟨S8x8192x128, .f32⟩
  | 119 => ⟨S8192x8x128, .f32⟩
  | 120 => ⟨S8192x1024, .f32⟩
  | 121 => ⟨S8192x1024, .bf16⟩
  | 122 => ⟨S8192x1024, .f32⟩
  | 123 => ⟨S8192x1024, .bf16⟩
  | 124 => ⟨S8x8192, .f32⟩
  | 125 => ⟨S8x8192x1, .f32⟩
  | 126 => ⟨S32x256x8x128, .f32⟩
  | 127 => ⟨S8x32x128x256, .f32⟩
  | _ => ⟨S8192x13824, .bf16⟩

abbrev hbmTy0_1 (i : Nat) : BufTy := match i % 128 with
  | 0 => ⟨S8x8192, .f32⟩
  | 1 => ⟨S8x32x1x256, .f32⟩
  | _ => ⟨S8192x13824, .bf16⟩

abbrev hbmTy (i : Nat) : BufTy := match i / 128 with
  | 0 => hbmTy0_0 i
  | 1 => hbmTy0_1 i
  | _ => ⟨S8192x13824, .bf16⟩

abbrev bufTy : (tb : Table) → Fin (tcTables nBuf tb) → BufTy
  | .hbm, ⟨i, _⟩ => hbmTy i
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩

abbrev nD : Nat := 1
abbrev τ : Topo := Topo.v7x

variable {F : FTy → Type} [FloatOps F]
-- ==== Kernel2.lean ====
abbrev S8192x2048 : Shape := ⟨2, ![8192, 2048]⟩
abbrev S8192x13824 : Shape := ⟨2, ![8192, 13824]⟩
abbrev S2048x13824 : Shape := ⟨2, ![2048, 13824]⟩
abbrev S2048x512 : Shape := ⟨2, ![2048, 512]⟩
abbrev S2048x1536 : Shape := ⟨2, ![2048, 1536]⟩
abbrev S512x1536 : Shape := ⟨2, ![512, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x13824, .bf16⟩
  | .hbm, ⟨2, _⟩ => ⟨S2048x13824, .bf16⟩
  | .local _ .vmem, ⟨0, _⟩ => ⟨S2048x512, .bf16⟩
  | .local _ .vmem, ⟨1, _⟩ => ⟨S2048x512, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S8192x13824 : Shape := ⟨2, ![8192, 13824]⟩
abbrev S_ : Shape := ⟨0, ![]⟩
abbrev S2048x13824 : Shape := ⟨2, ![2048, 13824]⟩
abbrev S13824x2048 : Shape := ⟨2, ![13824, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x13824, .bf16⟩
  | .hbm, ⟨2, _⟩ => ⟨S_, .f32⟩
  | .hbm, ⟨3, _⟩ => ⟨S2048x13824, .f32⟩
  | .hbm, ⟨4, _⟩ => ⟨S8192x2048, .f32⟩
  | .hbm, ⟨5, _⟩ => ⟨S8192x13824, .f32⟩
  | .hbm, ⟨6, _⟩ => ⟨S8192x13824, .f32⟩
  | .hbm, ⟨7, _⟩ => ⟨S13824x2048, .f32⟩
  | .hbm, ⟨8, _⟩ => ⟨S2048x13824, .f32⟩
  | .hbm, ⟨9, _⟩ => ⟨S2048x13824, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x13824 : Shape := ⟨2, ![8192, 13824]⟩
abbrev S2048x13824 : Shape := ⟨2, ![2048, 13824]⟩
abbrev S8192x2048 : Shape := ⟨2, ![8192, 2048]⟩
abbrev S512x1536 : Shape := ⟨2, ![512, 1536]⟩
abbrev S1024x1536 : Shape := ⟨2, ![1024, 1536]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x13824, .bf16⟩
  | .hbm, ⟨1, _⟩ => ⟨S2048x13824, .bf16⟩
  | .hbm, ⟨2, _⟩ => ⟨S8192x2048, .f32⟩
  | .hbm, ⟨3, _⟩ => ⟨S8192x2048, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S1024x1536, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 9], ![false, false, false]⟩

def k0_cond3 (i : grid0.Coords) : BitVec 1 :=
  let arg2 : BitVec 32 := BitVec.ofNat 32 (i 2).val
  let c8_i32 : BitVec 32 := 8#32
  let v9 : BitVec 1 := Scalar.cmpi .eq arg2 c8_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x13824 : Shape := ⟨2, ![8192, 13824]⟩
abbrev S2048x13824 : Shape := ⟨2, ![2048, 13824]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x13824, .bf16⟩
  | .hbm, ⟨1, _⟩ => ⟨S2048x13824, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x13824, .f32⟩
  | .hbm, ⟨6, _⟩ => ⟨S8192x13824, .f32⟩
  | .hbm, ⟨7, _⟩ => ⟨S8192x13824, .f32⟩
  | .hbm, ⟨8, _⟩ => ⟨S8192x2048, .f32⟩
  | .hbm, ⟨9, _⟩ => ⟨S8192x2048, .f32⟩
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x2048 : Shape := ⟨2, ![8192, 2048]⟩
abbrev S1024x2048 : Shape := ⟨2, ![1024, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x2048 : Shape := ⟨2, ![8192, 2048]⟩
abbrev S1024x2048 : Shape := ⟨2, ![1024, 2048]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x2048 : Shape := ⟨2, ![8192, 2048]⟩
abbrev S2048x13824 : Shape := ⟨2, ![2048, 13824]⟩
abbrev S8192x13824 : Shape := ⟨2, ![8192, 13824]⟩
abbrev S512x2048 : Shape := ⟨2, ![512, 2048]⟩
abbrev S2048x1536 : Shape := ⟨2, ![2048, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x13824, .bf16⟩
  | .hbm, ⟨2, _⟩ => ⟨S8192x13824, .bf16⟩
  | .local _ .vmem, ⟨0, _⟩ => ⟨S512x2048, .bf16⟩
  | .local _ .vmem, ⟨1, _⟩ => ⟨S512x2048, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .bf16⟩
  | .local _ .vmem, ⟨5, _⟩ => ⟨S512x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x13824 : Shape := ⟨2, ![2048, 13824]⟩
abbrev S8192x13824 : Shape := ⟨2, ![8192, 13824]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x13824, .bf16⟩
  | .hbm, ⟨2, _⟩ => ⟨S8192x2048, .f32⟩
  | .hbm, ⟨3, _⟩ => ⟨S2048x13824, .f32⟩
  | .hbm, ⟨4, _⟩ => ⟨S8192x13824, .f32⟩
  | .hbm, ⟨5, _⟩ => ⟨S8192x13824, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S8192x13824 : Shape := ⟨2, ![8192, 13824]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x13824, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S8192x1024 : Shape := ⟨2, ![8192, 1024]⟩
abbrev S8192x13824 : Shape := ⟨2, ![8192, 13824]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x13824, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Kernel15.lean ====
abbrev S8192x13824 : Shape := ⟨2, ![8192, 13824]⟩
abbrev S8192x1024 : Shape := ⟨2, ![8192, 1024]⟩
abbrev S256x512 : Shape := ⟨2, ![256, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x13824, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S8192x13824 : Shape := ⟨2, ![8192, 13824]⟩
abbrev S8192x1024 : Shape := ⟨2, ![8192, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x13824, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x1024, .bf16⟩
  | .hbm, ⟨34, _⟩ => ⟨S8192x1024, .bf16⟩
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== Kernel16.lean ====
abbrev S8192x13824 : Shape := ⟨2, ![8192, 13824]⟩
abbrev S8192x1024 : Shape := ⟨2, ![8192, 1024]⟩
abbrev S256x512 : Shape := ⟨2, ![256, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x13824, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference16Ideal.lean ====
abbrev S8192x13824 : Shape := ⟨2, ![8192, 13824]⟩
abbrev S8192x1024 : Shape := ⟨2, ![8192, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x13824, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8192x1024, .bf16⟩
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel17.lean ====
abbrev S8192x13824 : Shape := ⟨2, ![8192, 13824]⟩
abbrev S8192x1024 : Shape := ⟨2, ![8192, 1024]⟩
abbrev S256x512 : Shape := ⟨2, ![256, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x13824, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17Ideal.lean ====
abbrev S8192x13824 : Shape := ⟨2, ![8192, 13824]⟩
abbrev S8192x1024 : Shape := ⟨2, ![8192, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x13824, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .bf16⟩
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel18.lean ====
abbrev S8192x1536 : Shape := ⟨2, ![8192, 1536]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .f32⟩
  | .hbm, ⟨2, _⟩ => ⟨S8192x1536, .bf16⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S8192x1536 : Shape := ⟨2, ![8192, 1536]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .f32⟩
  | .hbm, ⟨2, _⟩ => ⟨S8192x1536, .f32⟩
  | .hbm, ⟨3, _⟩ => ⟨S8192x1536, .f32⟩
  | .hbm, ⟨4, _⟩ => ⟨S8192x1536, .f32⟩
  | .hbm, ⟨5, _⟩ => ⟨S_, .f32⟩
  | .hbm, ⟨6, _⟩ => ⟨S8192x1536, .f32⟩
  | .hbm, ⟨7, _⟩ => ⟨S8192x1536, .f32⟩
  | .hbm, ⟨8, _⟩ => ⟨S_, .f32⟩
  | .hbm, ⟨9, _⟩ => ⟨S8192x1536, .f32⟩
  | .hbm, ⟨10, _⟩ => ⟨S8192x1536, .f32⟩
  | .hbm, ⟨11, _⟩ => ⟨S_, .f32⟩
  | .hbm, ⟨12, _⟩ => ⟨S8192x1536, .f32⟩
  | .hbm, ⟨13, _⟩ => ⟨S8192x1536, .f32⟩
  | .hbm, ⟨14, _⟩ => ⟨S8192x1536, .f32⟩
  | .hbm, ⟨15, _⟩ => ⟨S8192x1536, .f32⟩
  | .hbm, ⟨16, _⟩ => ⟨S8192x1536, .f32⟩
  | .hbm, ⟨17, _⟩ => ⟨S8192x1536, .f32⟩
  | .hbm, ⟨18, _⟩ => ⟨S8192x1536, .f32⟩
  | .hbm, ⟨19, _⟩ => ⟨S8192x1536, .f32⟩
  | .hbm, ⟨20, _⟩ => ⟨S8192x1536, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v1_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v1_1 : Ref sig .tc := ⟨.hbm, 14, rfl⟩
abbrev main_v1_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v2 : Ref sig .tc := ⟨.hbm, 19, rfl⟩
abbrev main_v3 : Ref sig .tc := ⟨.hbm, 20, rfl⟩

abbrev nD : Nat := 1
abbrev τ : Topo := Topo.v7x

variable {F : FTy → Type} [FloatOps F]
-- ==== Kernel20.lean ====
abbrev S8x1024x2048 : Shape := ⟨3, ![8, 1024, 2048]⟩
abbrev S4096x2048 : Shape := ⟨2, ![4096, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S8x1024x2048, .bf16⟩
  | .hbm, ⟨3, _⟩ => ⟨S8x1024x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S8x64x2048, .bf16⟩
  | .local _ .vmem, ⟨6, _⟩ => ⟨S8x64x2048, .bf16⟩
  | .local _ .vmem, ⟨7, _⟩ => ⟨S8x64x2048, .bf16⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c2_i32 : BitVec 32 := 2#32
  let v23 : BitVec 1 := Scalar.cmpi .eq v16 c2_i32
  let v24 : BitVec 32 := Scalar.extui v23
  let c0_i32_8 : BitVec 32 := 0#32
  let v25 : BitVec 1 := Scalar.cmpi .ne v24 c0_i32_8
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_9 : BitVec 32 := 0#32
  let v28 : BitVec 1 := Scalar.cmpi .ne v27 c0_i32_9
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c48_i32 : BitVec 32 := 48#32
  let v0 : BitVec 32 := Scalar.subi arg0 c48_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel20Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference20Ideal.lean ====
abbrev S8x1024x2048 : Shape := ⟨3, ![8, 1024, 2048]⟩
abbrev S4096x2048 : Shape := ⟨2, ![4096, 2048]⟩
abbrev S_ : Shape := ⟨0, ![]⟩
abbrev S1024x2048 : Shape := ⟨2, ![1024, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S8x1024x2048, .bf16⟩
  | .hbm, ⟨3, _⟩ => ⟨S8x1024x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S8x1024x2048, .f32⟩
  | .hbm, ⟨8, _⟩ => ⟨S_, .f32⟩
  | .hbm, ⟨9, _⟩ => ⟨S1024x2048, .f32⟩
  | .hbm, ⟨10, _⟩ => ⟨S8x1024x2048, .f32⟩
  | .hbm, ⟨11, _⟩ => ⟨S_, .f32⟩
  | .hbm, ⟨12, _⟩ => ⟨S1024x2048, .f32⟩
  | .hbm, ⟨13, _⟩ => ⟨S8x1024x2048, .f32⟩
  | .hbm, ⟨14, _⟩ => ⟨S_, .f32⟩
  | .hbm, ⟨15, _⟩ => ⟨S1024x2048, .f32⟩
  | .hbm, ⟨16, _⟩ => ⟨S8x1024x2048, .f32⟩
  | .hbm, ⟨17, _⟩ => ⟨S_, .f32⟩
  | .hbm, ⟨18, _⟩ => ⟨S1024x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel21.lean ====
abbrev S8x4096x256 : Shape := ⟨3, ![8, 4096, 256]⟩
abbrev S16384x256 : Shape := ⟨2, ![16384, 256]⟩
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 11
  | .vmem => 22
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S8x4096x256, .bf16⟩
  | .hbm, ⟨3, _⟩ => ⟨S8x4096x256, .bf16⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .local _ .vmem, ⟨0, _⟩ => ⟨S8x512x256, .bf16⟩
  | .local _ .vmem, ⟨1, _⟩ => ⟨S8x512x256, .bf16⟩
  | .local _ .vmem, ⟨2, _⟩ => ⟨S8x512x256, .bf16⟩
  | .local _ .vmem, ⟨3, _⟩ => ⟨S8x512x256, .bf16⟩
  | .local _ .vmem, ⟨4, _⟩ => ⟨S8x512x256, .bf16⟩
  | .local _ .vmem, ⟨5, _⟩ => ⟨S8x512x256, .bf16⟩
  | .local _ .vmem, ⟨6, _⟩ => ⟨S8x512x256, .bf16⟩
  | .local _ .vmem, ⟨7, _⟩ => ⟨S8x512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c2_i32 : BitVec 32 := 2#32
  let v23 : BitVec 1 := Scalar.cmpi .eq v16 c2_i32
  let v24 : BitVec 32 := Scalar.extui v23
  let c0_i32_8 : BitVec 32 := 0#32
  let v25 : BitVec 1 := Scalar.cmpi .ne v24 c0_i32_8
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_9 : BitVec 32 := 0#32
  let v28 : BitVec 1 := Scalar.cmpi .ne v27 c0_i32_9
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c24_i32 : BitVec 32 := 24#32
  let v0 : BitVec 32 := Scalar.subi arg0 c24_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel21Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference21Ideal.lean ====
abbrev S8x4096x256 : Shape := ⟨3, ![8, 4096, 256]⟩
abbrev S16384x256 : Shape := ⟨2, ![16384, 256]⟩
abbrev S_ : Shape := ⟨0, ![]⟩
abbrev S4096x256 : Shape := ⟨2, ![4096, 256]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x256, .bf16⟩
  | .hbm, ⟨1, _⟩ => ⟨S8x4096x256, .bf16⟩
  | .hbm, ⟨2, _⟩ => ⟨S8x4096x256, .bf16⟩
  | .hbm, ⟨3, _⟩ => ⟨S8x4096x256, .bf16⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S8x4096x256, .f32⟩
  | .hbm, ⟨8, _⟩ => ⟨S_, .f32⟩
  | .hbm, ⟨9, _⟩ => ⟨S4096x256, .f32⟩
  | .hbm, ⟨10, _⟩ => ⟨S8x4096x256, .f32⟩
  | .hbm, ⟨11, _⟩ => ⟨S_, .f32⟩
  | .hbm, ⟨12, _⟩ => ⟨S4096x256, .f32⟩
  | .hbm, ⟨13, _⟩ => ⟨S8x4096x256, .f32⟩
  | .hbm, ⟨14, _⟩ => ⟨S_, .f32⟩
  | .hbm, ⟨15, _⟩ => ⟨S4096x256, .f32⟩
  | .hbm, ⟨16, _⟩ => ⟨S8x4096x256, .f32⟩
  | .hbm, ⟨17, _⟩ => ⟨S_, .f32⟩
  | .hbm, ⟨18, _⟩ => ⟨S4096x256, .f32⟩
  | .hbm, ⟨19, _⟩ => ⟨S16384x256, .f32⟩
  | .hbm, ⟨20, _⟩ => ⟨S_, .f32⟩
  | .hbm, ⟨21, _⟩ => ⟨S16384x256, .f32⟩
  | .hbm, ⟨22, _⟩ => ⟨S16384x256, .f32⟩
  | .hbm, ⟨23, _⟩ => ⟨S_, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S_, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S_, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S_, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S_, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S_, .f32⟩
  | .hbm, ⟨51, _⟩ => ⟨S16384x256, .f32⟩
  | .hbm, ⟨52, _⟩ => ⟨S16384x256, .f32⟩
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel22.lean ====
abbrev S8x256x2048 : Shape := ⟨3, ![8, 256, 2048]⟩
abbrev S1024x2048 : Shape := ⟨2, ![1024, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 11
  | .vmem => 22
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S8x64x2048, .bf16⟩
  | .local _ .vmem, ⟨6, _⟩ => ⟨S8x64x2048, .bf16⟩
  | .local _ .vmem, ⟨7, _⟩ => ⟨S8x64x2048, .bf16⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2_i32 : BitVec 32 := 2#32
  let v23 : BitVec 1 := Scalar.cmpi .eq v16 c2_i32
  let v24 : BitVec 32 := Scalar.extui v23
  let c0_i32_8 : BitVec 32 := 0#32
  let v25 : BitVec 1 := Scalar.cmpi .ne v24 c0_i32_8
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_9 : BitVec 32 := 0#32
  let v28 : BitVec 1 := Scalar.cmpi .ne v27 c0_i32_9
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel22Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference22Ideal.lean ====
abbrev S8x256x2048 : Shape := ⟨3, ![8, 256, 2048]⟩
abbrev S1024x2048 : Shape := ⟨2, ![1024, 2048]⟩
abbrev S_ : Shape := ⟨0, ![]⟩
abbrev S256x2048 : Shape := ⟨2, ![256, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S8x256x2048, .f32⟩
  | .hbm, ⟨8, _⟩ => ⟨S_, .f32⟩
  | .hbm, ⟨9, _⟩ => ⟨S256x2048, .f32⟩
  | .hbm, ⟨10, _⟩ => ⟨S8x256x2048, .f32⟩
  | .hbm, ⟨11, _⟩ => ⟨S_, .f32⟩
  | .hbm, ⟨12, _⟩ => ⟨S256x2048, .f32⟩
  | .hbm, ⟨13, _⟩ => ⟨S8x256x2048, .f32⟩
  | .hbm, ⟨14, _⟩ => ⟨S_, .f32⟩
  | .hbm, ⟨15, _⟩ => ⟨S256x2048, .f32⟩
  | .hbm, ⟨16, _⟩ => ⟨S8x256x2048, .f32⟩
  | .hbm, ⟨17, _⟩ => ⟨S_, .f32⟩
  | .hbm, ⟨18, _⟩ => ⟨S256x2048, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S_, .f32⟩
  | .hbm, ⟨51, _⟩ => ⟨S1024x2048, .f32⟩
  | .hbm, ⟨52, _⟩ => ⟨S1024x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Proof.Body.lean ====
/-
  The body of the gradient kernel, written as a chain of small programs. One grid point handles one head and one
  block of 1024 keys. Its body zeroes what it accumulates, loads the keys and values of the block, runs one and the
  same chunk program over the query chunks (256 queries each) that can see the block, and writes the results out.
  This module names the chunk's arithmetic, names the chunk program, and proves that the printed body is the chain.
-/
module

public import proofs.«01_k».proof.Proof.Gen.KernelIdeal.Skeleton

@[expose] public section

set_option maxRecDepth 16384

noncomputable section

namespace Cert.KernelIdeal.FoxBody

open Idealize.ShloMosaic Idealize.SL.Sem Cert.KernelIdeal.Gen

variable {F : FTy → Type} [FloatOps F] [Named F]

/-! ## The arithmetic of one chunk -/

/-- A change made to a chunk's scores before the weights are taken: nothing, or the causal mask. -/
abbrev Change (F : FTy → Type) := FVec F S1024x256 .f32 → FVec F S1024x256 .f32

/-- The causal mask of a chunk that starts `off` queries after the block's first key. -/
def masked (off : BitVec 32) : Change F := fun s =>
  select (cmpi .sle (iota .tc S1024x256 32 [0] iota_S1024x256_d0_w32)
    (addi (iota .tc S1024x256 32 [1] iota_S1024x256_d1_w32) (broadcast S1024x256 off)))
    s (broadcast S1024x256 (Named.named κ "mask" 0xF149F2CA#32))

/-- The chunk's scores in base two, before any mask: keys times queries, scaled, less the keys' log decay. -/
def scores (k : Vec F S1024x128 .bf16) (ck : FVec F S1024x1 .f32) (qt : Vec F S1x1x128x256 .bf16) : FVec F S1024x256 .f32 :=
  subf (mulf (matmul dot_S1024x128_S128x256_S1024x256_1_0_0_1_n_n none k (shapeCast S128x256 qt shapeCasts_S1x1x128x256_S128x256)
      (constant S1024x256 .f32 0x00000000#32)) (broadcast S1024x256 (Named.named κ "scale2" 0x3E0293EE#32)))
    (broadcastTo S1024x256 ck broadcasts_S1024x1_S1024x256)

/-- The chunk's weights: two to the power of the scores less the queries' normaliser. -/
def weights (m : Change F) (k : Vec F S1024x128 .bf16) (ck : FVec F S1024x1 .f32) (qt : Vec F S1x1x128x256 .bf16)
    (lse : Vec F S1x1x1x256 .f32) : FVec F S1024x256 .f32 :=
  exp2 (subf (m (scores k ck qt))
    (broadcastTo S1024x256 (shapeCast S1x256 lse shapeCasts_S1x1x1x256_S1x256) broadcasts_S1x256_S1024x256))

/-- The gradient of the chunk's scores. -/
def dscores (p : FVec F S1024x256 .f32) (v : Vec F S1024x128 .bf16) (dot : Vec F S1x1x128x256 .bf16) (dl : Vec F S1x1x1x256 .f32) :
    FVec F S1024x256 .f32 :=
  mulf p (subf (matmul dot_S1024x128_S128x256_S1024x256_1_0_0_1_n_n none v (shapeCast S128x256 dot shapeCasts_S1x1x128x256_S128x256)
      (constant S1024x256 .f32 0x00000000#32))
    (broadcastTo S1024x256 (shapeCast S1x256 dl shapeCasts_S1x1x1x256_S1x256) broadcasts_S1x256_S1024x256))

/-- A weight tile times a query-side tile, added onto an accumulator of the block: what both dk and dv do. -/
def addTile (w : FVec F S1024x256 .f32) (acc : Vec F S1024x128 .f32) (x : Vec F S256x128 .bf16) : FVec F S1024x128 .f32 :=
  shapeCast S1024x128 (addf acc (matmul dot_S1024x256_S256x128_S1024x128_1_0_0_1_n_n none (truncf .bf16 w bitsLt_bf16_f32) x
    (constant S1024x128 .f32 0x00000000#32))) shapeCasts_S1024x128_S1024x128

/-- The chunk's share of the queries' gradient, added onto the chunk's row. -/
def addDq (ds : FVec F S1024x256 .f32) (kt : FVec F S128x1024 .bf16) (acc : Vec F S1x1x128x256 .f32) : FVec F S1x1x128x256 .f32 :=
  shapeCast S1x1x128x256 (addf (shapeCast S128x256 acc shapeCasts_S1x1x128x256_S128x256)
    (matmul dot_S128x1024_S1024x256_S128x256_1_0_0_1_n_n none kt (truncf .bf16 ds bitsLt_bf16_f32)
      (constant S128x256 .f32 0x00000000#32))) shapeCasts_S128x256_S1x1x128x256

/-- The chunk's share of the gradient of the queries' log decay. -/
def addDcq (ds : FVec F S1024x256 .f32) (acc : Vec F S1x1x1x256 .f32) : FVec F S1x1x1x256 .f32 :=
  shapeCast S1x1x1x256 (addf (shapeCast S1x256 acc shapeCasts_S1x1x1x256_S1x256)
    (shapeCast S1x256 (multiReduction .add [0] S256 ds 0x00000000#32 reduces_S1024x256_S256 (.inl rfl) rfl) shapeCasts_S256_S1x256))
    shapeCasts_S1x256_S1x1x1x256

/-- The two lane halves of the chunk's gradient, added onto the accumulator of the keys' log decay. -/
def addDc (ds : FVec F S1024x256 .f32) (acc : Vec F S1024x128 .f32) : FVec F S1024x128 .f32 :=
  shapeCast S1024x128 (addf acc (addf (extractStridedSlice S1024x128 ![0, 0] ds slices_S1024x256_o0_0_S1024x128)
    (extractStridedSlice S1024x128 ![0, 128] ds slices_S1024x256_o0_128_S1024x128))) shapeCasts_S1024x128_S1024x128

/-! ## The chunk program -/

/-- One chunk: at row `o4` of the tiles held transposed, row `o3` of the per-query vectors and rows `o2` of the query-side arrays. -/
def chunkProg (arg2 : Memref sig .tc .vmem S8192x128 .bf16) (arg5 : Memref sig .tc .vmem S1x32x128x256 .bf16)
    (arg7 : Memref sig .tc .vmem S8192x128 .bf16) (arg8 : Memref sig .tc .vmem S1x32x128x256 .bf16)
    (arg10 arg11 : Memref sig .tc .vmem S1x32x1x256 .f32) (arg15 : Memref sig .tc .vmem S1x32x128x256 .f32)
    (arg16 : Memref sig .tc .vmem S1x32x1x256 .f32) (arg17 arg18 arg19 : Memref sig .tc .vmem S1024x128 .f32)
    (m : Change F) (k v : Vec F S1024x128 .bf16) (kt : FVec F S128x1024 .bf16) (ck : FVec F S1024x1 .f32)
    (o4 o3 : Fin 4 → ℕ) (o2 : Fin 2 → ℕ) (h4 : ∀ a, o4 a + S1x1x128x256.size a ≤ S1x32x128x256.size a)
    (h3 : ∀ a, o3 a + S1x1x1x256.size a ≤ S1x32x1x256.size a) (h2 : ∀ a, o2 a + S256x128.size a ≤ S8192x128.size a) :
    Prog (TpuEff nD τ sig (Elt F) Λ₀ .tc) Unit := do
  let qt : Vec F S1x1x128x256 .bf16 ← Prog.lift (.load arg5 (Rect.unit (s := S1x32x128x256) o4 S1x1x128x256.size h4).toLoadRect (View.loadsAt_vmem h_S1x1x128x256))
  let lse : Vec F S1x1x1x256 .f32 ← Prog.lift (.load arg10 (Rect.unit (s := S1x32x1x256) o3 S1x1x1x256.size h3).toLoadRect (View.loadsAt_vmem h_S1x1x1x256))
  let dot : Vec F S1x1x128x256 .bf16 ← Prog.lift (.load arg8 (Rect.unit (s := S1x32x128x256) o4 S1x1x128x256.size h4).toLoadRect (View.loadsAt_vmem h_S1x1x128x256))
  let dl : Vec F S1x1x1x256 .f32 ← Prog.lift (.load arg11 (Rect.unit (s := S1x32x1x256) o3 S1x1x1x256.size h3).toLoadRect (View.loadsAt_vmem h_S1x1x1x256))
  let dv : Vec F S1024x128 .f32 ← Prog.lift (.load arg18 (Rect.unit (s := S1024x128) ![0, 0] S1024x128.size inb_S1024x128_S1024x128_0_0).toLoadRect (View.loadsAt_vmem h_S1024x128))
  let go : Vec F S256x128 .bf16 ← Prog.lift (.load arg7 (Rect.unit (s := S8192x128) o2 S256x128.size h2).toLoadRect (View.loadsAt_vmem h_S256x128))
  let _ : Vec F S1024x128 .f32 ← Prog.lift (.load arg18 (Rect.unit (s := S1024x128) ![0, 0] S1024x128.size inb_S1024x128_S1024x128_0_0).toLoadRect (View.loadsAt_vmem h_S1024x128))
  Prog.lift (.store arg18 (Rect.unit (s := S1024x128) ![0, 0] S1024x128.size inb_S1024x128_S1024x128_0_0) (addTile (weights m k ck qt lse) dv go) Finset.univ (View.stores_vmem_bits_univ h_S1024x128 rfl) (.inl rfl))
  let dk : Vec F S1024x128 .f32 ← Prog.lift (.load arg17 (Rect.unit (s := S1024x128) ![0, 0] S1024x128.size inb_S1024x128_S1024x128_0_0).toLoadRect (View.loadsAt_vmem h_S1024x128))
  let q : Vec F S256x128 .bf16 ← Prog.lift (.load arg2 (Rect.unit (s := S8192x128) o2 S256x128.size h2).toLoadRect (View.loadsAt_vmem h_S256x128))
  let _ : Vec F S1024x128 .f32 ← Prog.lift (.load arg17 (Rect.unit (s := S1024x128) ![0, 0] S1024x128.size inb_S1024x128_S1024x128_0_0).toLoadRect (View.loadsAt_vmem h_S1024x128))
  Prog.lift (.store arg17 (Rect.unit (s := S1024x128) ![0, 0] S1024x128.size inb_S1024x128_S1024x128_0_0) (addTile (dscores (weights m k ck qt lse) v dot dl) dk q) Finset.univ (View.stores_vmem_bits_univ h_S1024x128 rfl) (.inl rfl))
  let dq : Vec F S1x1x128x256 .f32 ← Prog.lift (.load arg15 (Rect.unit (s := S1x32x128x256) o4 S1x1x128x256.size h4).toLoadRect (View.loadsAt_vmem h_S1x1x128x256))
  let _ : Vec F S1x1x128x256 .f32 ← Prog.lift (.load arg15 (Rect.unit (s := S1x32x128x256) o4 S1x1x128x256.size h4).toLoadRect (View.loadsAt_vmem h_S1x1x128x256))
  Prog.lift (.store arg15 (Rect.unit (s := S1x32x128x256) o4 S1x1x128x256.size h4) (addDq (dscores (weights m k ck qt lse) v dot dl) kt dq) Finset.univ (View.stores_vmem_bits_univ h_S1x1x128x256 rfl) (.inl rfl))
  let dcq : Vec F S1x1x1x256 .f32 ← Prog.lift (.load arg16 (Rect.unit (s := S1x32x1x256) o3 S1x1x1x256.size h3).toLoadRect (View.loadsAt_vmem h_S1x1x1x256))
  let _ : Vec F S1x1x1x256 .f32 ← Prog.lift (.load arg16 (Rect.unit (s := S1x32x1x256) o3 S1x1x1x256.size h3).toLoadRect (View.loadsAt_vmem h_S1x1x1x256))
  Prog.lift (.store arg16 (Rect.unit (s := S1x32x1x256) o3 S1x1x1x256.size h3) (addDcq (dscores (weights m k ck qt lse) v dot dl) dcq) Finset.univ (View.stores_vmem_bits_univ h_S1x1x1x256 rfl) (.inl rfl))
  let dc : Vec F S1024x128 .f32 ← Prog.lift (.load arg19 (Rect.unit (s := S1024x128) ![0, 0] S1024x128.size inb_S1024x128_S1024x128_0_0).toLoadRect (View.loadsAt_vmem h_S1024x128))
  let _ : Vec F S1024x128 .f32 ← Prog.lift (.load arg19 (Rect.unit (s := S1024x128) ![0, 0] S1024x128.size inb_S1024x128_S1024x128_0_0).toLoadRect (View.loadsAt_vmem h_S1024x128))
  Prog.lift (.store arg19 (Rect.unit (s := S1024x128) ![0, 0] S1024x128.size inb_S1024x128_S1024x128_0_0) (addDc (dscores (weights m k ck qt lse) v dot dl) dc) Finset.univ (View.stores_vmem_bits_univ h_S1024x128 rfl) (.inl rfl))
  pure ()

/-! ## What comes before and after the chunks -/

/-- The first block of a head zeroes the gradients that are shared by the head's blocks. -/
def resetProg (i : grid0.Coords) (arg15 : Memref sig .tc .vmem S1x32x128x256 .f32) (arg16 : Memref sig .tc .vmem S1x32x1x256 .f32) :
    Prog (TpuEff nD τ sig (Elt F) Λ₀ .tc) PUnit :=
  if _h : Scalar.cmpi .ne (Scalar.extui (Scalar.cmpi .eq (BitVec.ofNat 32 (i 1).val) 0#32) : BitVec 32) 0#32 = 1#1 then do
    let _ : Vec F S1x32x128x256 .f32 ← Prog.lift (.load arg15 (Rect.unit (s := S1x32x128x256) ![0, 0, 0, 0] S1x32x128x256.size inb_S1x32x128x256_S1x32x128x256_0_0_0_0).toLoadRect (View.loadsAt_vmem h_S1x32x128x256))
    Prog.lift (.store arg15 (Rect.unit (s := S1x32x128x256) ![0, 0, 0, 0] S1x32x128x256.size inb_S1x32x128x256_S1x32x128x256_0_0_0_0) (k0_pay23 (F := F)) Finset.univ (View.stores_vmem_bits_univ h_S1x32x128x256 rfl) (.inl rfl))
    let _ : Vec F S1x32x1x256 .f32 ← Prog.lift (.load arg16 (Rect.unit (s := S1x32x1x256) ![0, 0, 0, 0] S1x32x1x256.size inb_S1x32x1x256_S1x32x1x256_0_0_0_0).toLoadRect (View.loadsAt_vmem h_S1x32x1x256))
    Prog.lift (.store arg16 (Rect.unit (s := S1x32x1x256) ![0, 0, 0, 0] S1x32x1x256.size inb_S1x32x1x256_S1x32x1x256_0_0_0_0) (k0_pay24 (F := F)) Finset.univ (View.stores_vmem_bits_univ h_S1x32x1x256 rfl) (.inl rfl))
    pure ⟨⟩
  else pure ⟨⟩

/-- The block's own accumulators are zeroed. -/
def zeroProg (arg17 arg18 arg19 : Memref sig .tc .vmem S1024x128 .f32) : Prog (TpuEff nD τ sig (Elt F) Λ₀ .tc) PUnit := do
  let _ : Vec F S1024x128 .f32 ← Prog.lift (.load arg17 (Rect.unit (s := S1024x128) ![0, 0] S1024x128.size inb_S1024x128_S1024x128_0_0).toLoadRect (View.loadsAt_vmem h_S1024x128))
  Prog.lift (.store arg17 (Rect.unit (s := S1024x128) ![0, 0] S1024x128.size inb_S1024x128_S1024x128_0_0) (k0_pay25 (F := F)) Finset.univ (View.stores_vmem_bits_univ h_S1024x128 rfl) (.inl rfl))
  let _ : Vec F S1024x128 .f32 ← Prog.lift (.load arg18 (Rect.unit (s := S1024x128) ![0, 0] S1024x128.size inb_S1024x128_S1024x128_0_0).toLoadRect (View.loadsAt_vmem h_S1024x128))
  Prog.lift (.store arg18 (Rect.unit (s := S1024x128) ![0, 0] S1024x128.size inb_S1024x128_S1024x128_0_0) (k0_pay26 (F := F)) Finset.univ (View.stores_vmem_bits_univ h_S1024x128 rfl) (.inl rfl))
  let _ : Vec F S1024x128 .f32 ← Prog.lift (.load arg19 (Rect.unit (s := S1024x128) ![0, 0] S1024x128.size inb_S1024x128_S1024x128_0_0).toLoadRect (View.loadsAt_vmem h_S1024x128))
  Prog.lift (.store arg19 (Rect.unit (s := S1024x128) ![0, 0] S1024x128.size inb_S1024x128_S1024x128_0_0) (k0_pay27 (F := F)) Finset.univ (View.stores_vmem_bits_univ h_S1024x128 rfl) (.inl rfl))
  pure ⟨⟩

/-- The block's results are written out, and the last block of a head scales the queries' gradient. -/
def finishProg (i : grid0.Coords) (arg12 : Memref sig .tc .vmem S1024x128 .bf16) (harg12 : arg12.IsWhole)
    (arg13 : Memref sig .tc .vmem S1024x128 .bf16) (harg13 : arg13.IsWhole) (arg14 : Memref sig .tc .vmem S1x1024x1 .f32)
    (arg15 : Memref sig .tc .vmem S1x32x128x256 .f32) (arg17 arg18 arg19 : Memref sig .tc .vmem S1024x128 .f32) :
    Prog (TpuEff nD τ sig (Elt F) Λ₀ .tc) PUnit := do
  let dk : Vec F S1024x128 .f32 ← Prog.lift (.load arg17 (Rect.unit (s := S1024x128) ![0, 0] S1024x128.size inb_S1024x128_S1024x128_0_0).toLoadRect (View.loadsAt_vmem h_S1024x128))
  let _ : Vec F S1024x128 .bf16 ← Prog.lift (.load arg12 (Rect.unit (s := S1024x128) ![0, 0] S1024x128.size inb_S1024x128_S1024x128_0_0).toLoadRect (View.loadsAt_vmem h_S1024x128))
  Prog.lift (.store arg12 (Rect.unit (s := S1024x128) ![0, 0] S1024x128.size inb_S1024x128_S1024x128_0_0) (k0_pay3 dk) Finset.univ (View.stores_vmem h_S1024x128 (harg12.storeExact_slice rfl _ packedbf16_S1024x128_S1024x128_0_0) (fun _ => rfl)) (.inl rfl))
  let dv : Vec F S1024x128 .f32 ← Prog.lift (.load arg18 (Rect.unit (s := S1024x128) ![0, 0] S1024x128.size inb_S1024x128_S1024x128_0_0).toLoadRect (View.loadsAt_vmem h_S1024x128))
  let _ : Vec F S1024x128 .bf16 ← Prog.lift (.load arg13 (Rect.unit (s := S1024x128) ![0, 0] S1024x128.size inb_S1024x128_S1024x128_0_0).toLoadRect (View.loadsAt_vmem h_S1024x128))
  Prog.lift (.store arg13 (Rect.unit (s := S1024x128) ![0, 0] S1024x128.size inb_S1024x128_S1024x128_0_0) (k0_pay4 dv) Finset.univ (View.stores_vmem h_S1024x128 (harg13.storeExact_slice rfl _ packedbf16_S1024x128_S1024x128_0_0) (fun _ => rfl)) (.inl rfl))
  let dc : Vec F S1024x128 .f32 ← Prog.lift (.load arg19 (Rect.unit (s := S1024x128) ![0, 0] S1024x128.size inb_S1024x128_S1024x128_0_0).toLoadRect (View.loadsAt_vmem h_S1024x128))
  let _ : Vec F S1x1024x1 .f32 ← Prog.lift (.load arg14 (Rect.unit (s := S1x1024x1) ![0, 0, 0] S1x1024x1.size inb_S1x1024x1_S1x1024x1_0_0_0).toLoadRect (View.loadsAt_vmem h_S1x1024x1))
  Prog.lift (.store arg14 (Rect.unit (s := S1x1024x1) ![0, 0, 0] S1x1024x1.size inb_S1x1024x1_S1x1024x1_0_0_0) (k0_pay5 dc) Finset.univ (View.stores_vmem_bits_univ h_S1x1024x1 rfl) (.inl rfl))
  if _h : Scalar.cmpi .ne (Scalar.extui (Scalar.cmpi .eq (BitVec.ofNat 32 (i 1).val) 7#32) : BitVec 32) 0#32 = 1#1 then do
    let dq : Vec F S1x32x128x256 .f32 ← Prog.lift (.load arg15 (Rect.unit (s := S1x32x128x256) ![0, 0, 0, 0] S1x32x128x256.size inb_S1x32x128x256_S1x32x128x256_0_0_0_0).toLoadRect (View.loadsAt_vmem h_S1x32x128x256))
    let _ : Vec F S1x32x128x256 .f32 ← Prog.lift (.load arg15 (Rect.unit (s := S1x32x128x256) ![0, 0, 0, 0] S1x32x128x256.size inb_S1x32x128x256_S1x32x128x256_0_0_0_0).toLoadRect (View.loadsAt_vmem h_S1x32x128x256))
    Prog.lift (.store arg15 (Rect.unit (s := S1x32x128x256) ![0, 0, 0, 0] S1x32x128x256.size inb_S1x32x128x256_S1x32x128x256_0_0_0_0) (k0_pay6 dq) Finset.univ (View.stores_vmem_bits_univ h_S1x32x128x256 rfl) (.inl rfl))
    pure ⟨⟩
  else pure ⟨⟩

/-! ## The body as the chain -/

/-- The chain of programs the body is. -/
def chain (i : grid0.Coords) (arg2 : Memref sig .tc .vmem S8192x128 .bf16) (arg3 arg4 : Memref sig .tc .vmem S1024x128 .bf16)
    (arg5 : Memref sig .tc .vmem S1x32x128x256 .bf16) (arg6 : Memref sig .tc .vmem S1x1x128x1024 .bf16)
    (arg7 : Memref sig .tc .vmem S8192x128 .bf16) (arg8 : Memref sig .tc .vmem S1x32x128x256 .bf16)
    (arg9 : Memref sig .tc .vmem S1x1024x1 .f32) (arg10 arg11 : Memref sig .tc .vmem S1x32x1x256 .f32)
    (arg12 : Memref sig .tc .vmem S1024x128 .bf16) (harg12 : arg12.IsWhole)
    (arg13 : Memref sig .tc .vmem S1024x128 .bf16) (harg13 : arg13.IsWhole) (arg14 : Memref sig .tc .vmem S1x1024x1 .f32)
    (arg15 : Memref sig .tc .vmem S1x32x128x256 .f32) (arg16 : Memref sig .tc .vmem S1x32x1x256 .f32)
    (arg17 arg18 arg19 : Memref sig .tc .vmem S1024x128 .f32)
    (skipped : Vec F S1024x128 .bf16 → Vec F S1024x128 .bf16 → FVec F S128x1024 .bf16 → FVec F S1024x1 .f32 →
      Fin (k0_t2_loop i).trips → Unit → Prog (TpuEff nD τ sig (Elt F) Λ₀ .tc) Unit) :
    Prog (TpuEff nD τ sig (Elt F) Λ₀ .tc) PUnit := do
  resetProg i arg15 arg16
  zeroProg arg17 arg18 arg19
  let k : Vec F S1024x128 .bf16 ← Prog.lift (.load arg3 (Rect.unit (s := S1024x128) ![0, 0] S1024x128.size inb_S1024x128_S1024x128_0_0).toLoadRect (View.loadsAt_vmem h_S1024x128))
  let v : Vec F S1024x128 .bf16 ← Prog.lift (.load arg4 (Rect.unit (s := S1024x128) ![0, 0] S1024x128.size inb_S1024x128_S1024x128_0_0).toLoadRect (View.loadsAt_vmem h_S1024x128))
  let kt : Vec F S1x1x128x1024 .bf16 ← Prog.lift (.load arg6 (Rect.unit (s := S1x1x128x1024) ![0, 0, 0, 0] S1x1x128x1024.size inb_S1x1x128x1024_S1x1x128x1024_0_0_0_0).toLoadRect (View.loadsAt_vmem h_S1x1x128x1024))
  let ck : Vec F S1x1024x1 .f32 ← Prog.lift (.load arg9 (Rect.unit (s := S1x1024x1) ![0, 0, 0] S1x1024x1.size inb_S1x1024x1_S1x1024x1_0_0_0).toLoadRect (View.loadsAt_vmem h_S1x1024x1))
  chunkProg arg2 arg5 arg7 arg8 arg10 arg11 arg15 arg16 arg17 arg18 arg19 (masked 0#32) k v (k0_pay28 kt) (k0_pay29 ck)
    (k0_off1 i 0#32) (k0_off2 i 0#32) (k0_off3 i 0#32) (k0_off1_inb i 0) (k0_off2_inb i 0) (k0_off3_inb i 0)
  chunkProg arg2 arg5 arg7 arg8 arg10 arg11 arg15 arg16 arg17 arg18 arg19 (masked 256#32) k v (k0_pay28 kt) (k0_pay29 ck)
    (k0_off1 i 1#32) (k0_off2 i 1#32) (k0_off3 i 1#32) (k0_off1_inb i 1) (k0_off2_inb i 1) (k0_off3_inb i 1)
  chunkProg arg2 arg5 arg7 arg8 arg10 arg11 arg15 arg16 arg17 arg18 arg19 (masked 512#32) k v (k0_pay28 kt) (k0_pay29 ck)
    (k0_off1 i 2#32) (k0_off2 i 2#32) (k0_off3 i 2#32) (k0_off1_inb i 2) (k0_off2_inb i 2) (k0_off3_inb i 2)
  chunkProg arg2 arg5 arg7 arg8 arg10 arg11 arg15 arg16 arg17 arg18 arg19 (masked 768#32) k v (k0_pay28 kt) (k0_pay29 ck)
    (k0_off1 i 3#32) (k0_off2 i 3#32) (k0_off3 i 3#32) (k0_off1_inb i 3) (k0_off2_inb i 3) (k0_off3_inb i 3)
  Scf.Loop.for (k0_t1_loop i) (k0_t1_ok i) ⟨⟩ (fun t _ =>
    chunkProg arg2 arg5 arg7 arg8 arg10 arg11 arg15 arg16 arg17 arg18 arg19 (fun s => s) k v (k0_pay28 kt) (k0_pay29 ck)
      (k0_off4 i t) (k0_off5 i t) (k0_off6 i t) (k0_off4_inb i t) (k0_off5_inb i t) (k0_off6_inb i t))
  Scf.Loop.for (k0_t2_loop i) (k0_t2_ok i) ⟨⟩ (skipped k v (k0_pay28 kt) (k0_pay29 ck))
  finishProg i arg12 harg12 arg13 harg13 arg14 arg15 arg17 arg18 arg19

set_option maxHeartbeats 4000000 in
set_option maxRecDepth 65536 in
/-- The four masked chunks: the printed parts between the loads and the loop, before any continuation. -/
theorem masked_chunks (i : grid0.Coords) (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x32x128x256 .bf16) (harg5 : arg5.IsWhole) (arg6 : Memref sig .tc .vmem S1x1x128x1024 .bf16) (harg6 : arg6.IsWhole) (arg7 : Memref sig .tc .vmem S8192x128 .bf16) (harg7 : arg7.IsWhole) (arg8 : Memref sig .tc .vmem S1x32x128x256 .bf16) (harg8 : arg8.IsWhole) (arg9 : Memref sig .tc .vmem S1x1024x1 .f32) (harg9 : arg9.IsWhole) (arg10 : Memref sig .tc .vmem S1x32x1x256 .f32) (harg10 : arg10.IsWhole) (arg11 : Memref sig .tc .vmem S1x32x1x256 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1024x1 .f32) (harg14 : arg14.IsWhole) (arg15 : Memref sig .tc .vmem S1x32x128x256 .f32) (harg15 : arg15.IsWhole) (arg16 : Memref sig .tc .vmem S1x32x1x256 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (k v : Vec F S1024x128 .bf16) (kt : FVec F S128x1024 .bf16) (ck : FVec F S1024x1 .f32)
    (tail : (Σ' (_ : BitVec 32), BitVec 32) → Prog (TpuEff nD τ sig (Elt F) Λ₀ .tc) PUnit) :
    (k0_part6_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k v ck (Scalar.addi (Scalar.muli (BitVec.ofNat 32 (i 1).val) 4#32) 0#32) (Scalar.muli (Scalar.addi (Scalar.muli (BitVec.ofNat 32 (i 1).val) 4#32) 0#32) 256#32) >>= fun a =>
      k0_part7_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 kt (Scalar.addi (Scalar.muli (BitVec.ofNat 32 (i 1).val) 4#32) 0#32) (Scalar.muli (Scalar.addi (Scalar.muli (BitVec.ofNat 32 (i 1).val) 4#32) 0#32) 256#32) a.1 a.2.1 a.2.2 >>= fun b =>
      k0_part8_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) k v ck b >>= fun d =>
      k0_part9_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 kt d.1 d.2.1 d.2.2.1 d.2.2.2.1 d.2.2.2.2 >>= fun e =>
      k0_part10_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) k ck d.2.2.2.1 e >>= fun f =>
      k0_part11_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v kt f.1 f.2.1 f.2.2 >>= fun g =>
      k0_part12_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) k ck f.1 g.1 g.2.1 g.2.2 >>= fun h =>
      k0_part13_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v h.1 h.2.1 h.2.2.1 h.2.2.2 >>= fun j =>
      k0_part14_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) kt h.1 j.1 j.2.1 j.2.2 >>= tail)
      = (chunkProg arg2 arg5 arg7 arg8 arg10 arg11 arg15 arg16 arg17 arg18 arg19 (masked 0#32) k v kt ck (k0_off1 i 0#32) (k0_off2 i 0#32) (k0_off3 i 0#32) (k0_off1_inb i 0) (k0_off2_inb i 0) (k0_off3_inb i 0) >>= fun _ =>
        chunkProg arg2 arg5 arg7 arg8 arg10 arg11 arg15 arg16 arg17 arg18 arg19 (masked 256#32) k v kt ck (k0_off1 i 1#32) (k0_off2 i 1#32) (k0_off3 i 1#32) (k0_off1_inb i 1) (k0_off2_inb i 1) (k0_off3_inb i 1) >>= fun _ =>
        chunkProg arg2 arg5 arg7 arg8 arg10 arg11 arg15 arg16 arg17 arg18 arg19 (masked 512#32) k v kt ck (k0_off1 i 2#32) (k0_off2 i 2#32) (k0_off3 i 2#32) (k0_off1_inb i 2) (k0_off2_inb i 2) (k0_off3_inb i 2) >>= fun _ =>
        chunkProg arg2 arg5 arg7 arg8 arg10 arg11 arg15 arg16 arg17 arg18 arg19 (masked 768#32) k v kt ck (k0_off1 i 3#32) (k0_off2 i 3#32) (k0_off3 i 3#32) (k0_off1_inb i 3) (k0_off2_inb i 3) (k0_off3_inb i 3) >>= fun _ =>
        tail ⟨Scalar.addi (Scalar.muli (BitVec.ofNat 32 (i 1).val) 4#32) 4#32, Scalar.muli (Scalar.divsi (Scalar.subi 32#32 (Scalar.addi (Scalar.muli (BitVec.ofNat 32 (i 1).val) 4#32) 4#32)) 1#32) 1#32⟩) := rfl

set_option maxHeartbeats 4000000 in
/-- One trip of the printed loop is the chunk program, unmasked. -/
theorem trip_eq (i : grid0.Coords) (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x32x128x256 .bf16) (harg5 : arg5.IsWhole) (arg6 : Memref sig .tc .vmem S1x1x128x1024 .bf16) (harg6 : arg6.IsWhole) (arg7 : Memref sig .tc .vmem S8192x128 .bf16) (harg7 : arg7.IsWhole) (arg8 : Memref sig .tc .vmem S1x32x128x256 .bf16) (harg8 : arg8.IsWhole) (arg9 : Memref sig .tc .vmem S1x1024x1 .f32) (harg9 : arg9.IsWhole) (arg10 : Memref sig .tc .vmem S1x32x1x256 .f32) (harg10 : arg10.IsWhole) (arg11 : Memref sig .tc .vmem S1x32x1x256 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1024x1 .f32) (harg14 : arg14.IsWhole) (arg15 : Memref sig .tc .vmem S1x32x128x256 .f32) (harg15 : arg15.IsWhole) (arg16 : Memref sig .tc .vmem S1x32x1x256 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) (k v : Vec F S1024x128 .bf16) (kt : FVec F S128x1024 .bf16) (ck : FVec F S1024x1 .f32) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k v kt ck (Scalar.addi (Scalar.muli (BitVec.ofNat 32 (i 1).val) 4#32) 4#32) = fun t _ =>
      chunkProg arg2 arg5 arg7 arg8 arg10 arg11 arg15 arg16 arg17 arg18 arg19 (fun s => s) k v kt ck (k0_off4 i t) (k0_off5 i t) (k0_off6 i t) (k0_off4_inb i t) (k0_off5_inb i t) (k0_off6_inb i t) := by
  unfold k0_t1_body
  simp only [k0_part1_eq_skeleton, k0_part2_eq_skeleton]
  rfl

/-- The printed head: the resets, and the four loads of the block's keys and values. -/
theorem head_eq (i : grid0.Coords) (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x32x128x256 .bf16) (harg5 : arg5.IsWhole) (arg6 : Memref sig .tc .vmem S1x1x128x1024 .bf16) (harg6 : arg6.IsWhole) (arg7 : Memref sig .tc .vmem S8192x128 .bf16) (harg7 : arg7.IsWhole) (arg8 : Memref sig .tc .vmem S1x32x128x256 .bf16) (harg8 : arg8.IsWhole) (arg9 : Memref sig .tc .vmem S1x1024x1 .f32) (harg9 : arg9.IsWhole) (arg10 : Memref sig .tc .vmem S1x32x1x256 .f32) (harg10 : arg10.IsWhole) (arg11 : Memref sig .tc .vmem S1x32x1x256 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1024x1 .f32) (harg14 : arg14.IsWhole) (arg15 : Memref sig .tc .vmem S1x32x128x256 .f32) (harg15 : arg15.IsWhole) (arg16 : Memref sig .tc .vmem S1x32x1x256 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) :
    k0_part5_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (resetProg i arg15 arg16 >>= fun _ => zeroProg arg17 arg18 arg19 >>= fun _ =>
      Prog.lift (.load arg3 (Rect.unit (s := S1024x128) ![0, 0] S1024x128.size inb_S1024x128_S1024x128_0_0).toLoadRect (View.loadsAt_vmem h_S1024x128)) >>= fun k =>
      Prog.lift (.load arg4 (Rect.unit (s := S1024x128) ![0, 0] S1024x128.size inb_S1024x128_S1024x128_0_0).toLoadRect (View.loadsAt_vmem h_S1024x128)) >>= fun v =>
      Prog.lift (.load arg6 (Rect.unit (s := S1x1x128x1024) ![0, 0, 0, 0] S1x1x128x1024.size inb_S1x1x128x1024_S1x1x128x1024_0_0_0_0).toLoadRect (View.loadsAt_vmem h_S1x1x128x1024)) >>= fun kt =>
      Prog.lift (.load arg9 (Rect.unit (s := S1x1024x1) ![0, 0, 0] S1x1024x1.size inb_S1x1024x1_S1x1024x1_0_0_0).toLoadRect (View.loadsAt_vmem h_S1x1024x1)) >>= fun ck =>
      pure ⟨BitVec.ofNat 32 (i 1).val, k, v, k0_pay28 kt, k0_pay29 ck, Scalar.addi (Scalar.muli (BitVec.ofNat 32 (i 1).val) 4#32) 0#32, Scalar.muli (Scalar.addi (Scalar.muli (BitVec.ofNat 32 (i 1).val) 4#32) 0#32) 256#32⟩) := by
  unfold k0_part5_skel resetProg
  by_cases h1 : Scalar.cmpi .ne (Scalar.extui (Scalar.cmpi .eq (BitVec.ofNat 32 (i 1).val) 0#32) : BitVec 32) 0#32 = 1#1 <;>
  simp only [h1, dif_pos, dif_neg, not_false_eq_true] <;> rfl

set_option maxHeartbeats 4000000 in
/-- The printed body is the chain, whatever the second loop's region is (it is never entered). -/
theorem body_eq_chain (i : grid0.Coords) (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x32x128x256 .bf16) (harg5 : arg5.IsWhole) (arg6 : Memref sig .tc .vmem S1x1x128x1024 .bf16) (harg6 : arg6.IsWhole) (arg7 : Memref sig .tc .vmem S8192x128 .bf16) (harg7 : arg7.IsWhole) (arg8 : Memref sig .tc .vmem S1x32x128x256 .bf16) (harg8 : arg8.IsWhole) (arg9 : Memref sig .tc .vmem S1x1024x1 .f32) (harg9 : arg9.IsWhole) (arg10 : Memref sig .tc .vmem S1x32x1x256 .f32) (harg10 : arg10.IsWhole) (arg11 : Memref sig .tc .vmem S1x32x1x256 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1024x1 .f32) (harg14 : arg14.IsWhole) (arg15 : Memref sig .tc .vmem S1x32x128x256 .f32) (harg15 : arg15.IsWhole) (arg16 : Memref sig .tc .vmem S1x32x1x256 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole) :
    cc0_flash_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      = chain i arg2 arg3 arg4 arg5 arg6 arg7 arg8 arg9 arg10 arg11 arg12 harg12 arg13 harg13 arg14 arg15 arg16 arg17 arg18 arg19
          (fun k v kt ck => k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k v kt ck
            (Scalar.addi (Scalar.addi (Scalar.muli (BitVec.ofNat 32 (i 1).val) 4#32) 4#32) (Scalar.muli (Scalar.divsi (Scalar.subi 32#32 (Scalar.addi (Scalar.muli (BitVec.ofNat 32 (i 1).val) 4#32) 4#32)) 1#32) 1#32))) := by
  simp only [cc0_flash_bwd_eq_skeleton]; unfold cc0_flash_bwd_skel
  simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  rw [head_eq]
  unfold chain
  simp only [bind_assoc, pure_bind]
  refine bind_congr fun _ => bind_congr fun _ => bind_congr fun k => bind_congr fun v => bind_congr fun kt => bind_congr fun ck => ?_
  rw [masked_chunks]
  refine bind_congr fun _ => bind_congr fun _ => bind_congr fun _ => bind_congr fun _ => ?_
  rw [trip_eq]
  refine bind_congr fun _ => bind_congr fun _ => ?_
  unfold finishProg
  by_cases h2 : Scalar.cmpi .ne (Scalar.extui (Scalar.cmpi .eq (BitVec.ofNat 32 (i 1).val) 7#32) : BitVec 32) 0#32 = 1#1 <;>
  simp only [h2, dif_pos, dif_neg, not_false_eq_true] <;> rfl

end Cert.KernelIdeal.FoxBody

end
-- ==== Proof.Chunk.lean ====
/-
  What one chunk does to the memory. A chunk reads one row of the arrays held transposed and 256 rows of the
  query-side arrays, and changes five arrays: the two gradients shared by the head's blocks at its own row, and the
  block's three accumulators. The change is stated as a plain function of what the arrays hold.
-/
module

public import proofs.«01_k».proof.Proof.Body
public import proofs.«01_k».proof.Proof.Gen.KernelIdeal.Points
public import Idealize.ShloMosaic.Lib.VecWindow

@[expose] public section

set_option maxRecDepth 16384

noncomputable section

namespace Cert.KernelIdeal.FoxBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The arrays a chunk reads: queries, queries transposed, the output's gradient, the same transposed, the
    normalisers, and the products of output and gradient. -/
structure Inp (F : FTy → Type) where
  q : Vec F S8192x128 .bf16
  qt : Vec F S1x32x128x256 .bf16
  g : Vec F S8192x128 .bf16
  gt : Vec F S1x32x128x256 .bf16
  lse : Vec F S1x32x1x256 .f32
  dl : Vec F S1x32x1x256 .f32

/-- The arrays a chunk changes. -/
structure Acc (F : FTy → Type) where
  dq : Vec F S1x32x128x256 .f32
  dcq : Vec F S1x32x1x256 .f32
  dk : Vec F S1024x128 .f32
  dv : Vec F S1024x128 .f32
  dc : Vec F S1024x128 .f32

/-- What the block holds fixed: its keys, its values, its keys transposed and its keys' log decay. -/
structure Blk (F : FTy → Type) where
  k : Vec F S1024x128 .bf16
  v : Vec F S1024x128 .bf16
  kt : FVec F S128x1024 .bf16
  ck : FVec F S1024x1 .f32

theorem row4_inb (c : Fin 32) : ∀ a, (![0, c.val, 0, 0] : Fin 4 → ℕ) a + S1x1x128x256.size a ≤ S1x32x128x256.size a := by
  have := c.isLt; intro a; fin_cases a <;> simp [S1x1x128x256, S1x32x128x256] <;> omega

theorem row3_inb (c : Fin 32) : ∀ a, (![0, c.val, 0, 0] : Fin 4 → ℕ) a + S1x1x1x256.size a ≤ S1x32x1x256.size a := by
  have := c.isLt; intro a; fin_cases a <;> simp [S1x1x1x256, S1x32x1x256] <;> omega

theorem rows_inb (c : Fin 32) : ∀ a, (![256 * c.val, 0] : Fin 2 → ℕ) a + S256x128.size a ≤ S8192x128.size a := by
  have := c.isLt; intro a; fin_cases a <;> simp [S256x128, S8192x128] <;> omega

/-- Row `c` of an array of 32 tiles. -/
abbrev row4 {e : EltTy} (x : Vec F S1x32x128x256 e) (c : Fin 32) : Vec F S1x1x128x256 e :=
  VecWindow.window x ![0, c.val, 0, 0] S1x1x128x256.size (row4_inb c)

/-- Row `c` of an array of 32 vectors. -/
abbrev row3 {e : EltTy} (x : Vec F S1x32x1x256 e) (c : Fin 32) : Vec F S1x1x1x256 e :=
  VecWindow.window x ![0, c.val, 0, 0] S1x1x1x256.size (row3_inb c)

/-- The 256 rows of chunk `c`. -/
abbrev rows {e : EltTy} (x : Vec F S8192x128 e) (c : Fin 32) : Vec F S256x128 e :=
  VecWindow.window x ![256 * c.val, 0] S256x128.size (rows_inb c)

/-- The weights of chunk `c`. -/
def Wt (m : Change F) (B : Blk F) (X : Inp F) (c : Fin 32) : FVec F S1024x256 .f32 :=
  weights m B.k B.ck (row4 X.qt c) (row3 X.lse c)

/-- The gradient of the scores of chunk `c`. -/
def Ds (m : Change F) (B : Blk F) (X : Inp F) (c : Fin 32) : FVec F S1024x256 .f32 :=
  dscores (Wt m B X c) B.v (row4 X.gt c) (row3 X.dl c)

/-- One chunk, as a function of the arrays it changes. -/
def step (m : Change F) (B : Blk F) (X : Inp F) (c : Fin 32) (S : Acc F) : Acc F where
  dq := VecWindow.put S.dq ![0, c.val, 0, 0] S1x1x128x256.size (addDq (Ds m B X c) B.kt (row4 S.dq c))
  dcq := VecWindow.put S.dcq ![0, c.val, 0, 0] S1x1x1x256.size (addDcq (Ds m B X c) (row3 S.dcq c))
  dk := addTile (Ds m B X c) S.dk (rows X.q c)
  dv := addTile (Wt m B X c) S.dv (rows X.g c)
  dc := addDc (Ds m B X c) S.dc

section Run

variable (c : Dev nD) (arg2 : Memref sig .tc .vmem S8192x128 .bf16) (arg5 : Memref sig .tc .vmem S1x32x128x256 .bf16)
  (arg7 : Memref sig .tc .vmem S8192x128 .bf16) (arg8 : Memref sig .tc .vmem S1x32x128x256 .bf16)
  (arg10 arg11 : Memref sig .tc .vmem S1x32x1x256 .f32) (arg15 : Memref sig .tc .vmem S1x32x128x256 .f32)
  (arg16 : Memref sig .tc .vmem S1x32x1x256 .f32) (arg17 arg18 arg19 : Memref sig .tc .vmem S1024x128 .f32)

/-- The buffers a chunk reads, at `X`. -/
def heldInp (X : Inp F) : sProp 𝕄 :=
  iprop(owns (c : Thread nD τ) arg2 fullShare X.q ∗ owns (c : Thread nD τ) arg5 fullShare X.qt
    ∗ owns (c : Thread nD τ) arg7 fullShare X.g ∗ owns (c : Thread nD τ) arg8 fullShare X.gt
    ∗ owns (c : Thread nD τ) arg10 fullShare X.lse ∗ owns (c : Thread nD τ) arg11 fullShare X.dl)

/-- The buffers a chunk changes, at `S`. -/
def heldAcc (S : Acc F) : sProp 𝕄 :=
  iprop(owns (c : Thread nD τ) arg15 fullShare S.dq ∗ owns (c : Thread nD τ) arg16 fullShare S.dcq
    ∗ owns (c : Thread nD τ) arg17 fullShare S.dk ∗ owns (c : Thread nD τ) arg18 fullShare S.dv
    ∗ owns (c : Thread nD τ) arg19 fullShare S.dc)

set_option maxHeartbeats 4000000 in
/-- The chunk program does what `step` says. -/
theorem chunk_run (E : Set ℕ) (m : Change F) (B : Blk F) (X : Inp F) (S : Acc F) (n : Fin 32)
    (o4 o3 : Fin 4 → ℕ) (o2 : Fin 2 → ℕ) (h4 : ∀ a, o4 a + S1x1x128x256.size a ≤ S1x32x128x256.size a)
    (h3 : ∀ a, o3 a + S1x1x1x256.size a ≤ S1x32x1x256.size a) (h2 : ∀ a, o2 a + S256x128.size a ≤ S8192x128.size a)
    (e4 : o4 = ![0, n.val, 0, 0]) (e3 : o3 = ![0, n.val, 0, 0]) (e2 : o2 = ![256 * n.val, 0]) :
    iprop(heldInp c arg2 arg5 arg7 arg8 arg10 arg11 X ∗ heldAcc c arg15 arg16 arg17 arg18 arg19 S)
      ⊢ wp frame (wpE (defs₀ (F := F)) Variants.none c none) E
          (chunkProg arg2 arg5 arg7 arg8 arg10 arg11 arg15 arg16 arg17 arg18 arg19 m B.k B.v B.kt B.ck o4 o3 o2 h4 h3 h2)
          (fun _ => iprop(heldInp c arg2 arg5 arg7 arg8 arg10 arg11 X
            ∗ heldAcc c arg15 arg16 arg17 arg18 arg19 (step m B X n S))) := by
  subst e4 e3 e2
  unfold heldInp heldAcc chunkProg owns
  iintro ⟨⟨⟨%f2, %hf2, H2⟩, ⟨%f5, %hf5, H5⟩, ⟨%f7, %hf7, H7⟩, ⟨%f8, %hf8, H8⟩, ⟨%f10, %hf10, H10⟩, ⟨%f11, %hf11, H11⟩⟩, ⟨%f15, %hf15, H15⟩, ⟨%f16, %hf16, H16⟩, ⟨%f17, %hf17, H17⟩, ⟨%f18, %hf18, H18⟩, ⟨%f19, %hf19, H19⟩⟩
  sl_exec
  rw [wp_ret]
  imodintro
  have w : Wt m B X n = weights m B.k B.ck (View.readAt (Elt F) arg5.view (Rect.unit (s := S1x32x128x256) ![0, n.val, 0, 0] S1x1x128x256.size h4).toLoadRect f5)
      (View.readAt (Elt F) arg10.view (Rect.unit (s := S1x32x1x256) ![0, n.val, 0, 0] S1x1x1x256.size h3).toLoadRect f10) := by
    rw [View.readAt_unit _ _ _ rfl (row4_inb n), View.readAt_unit _ _ _ rfl (row3_inb n), hf5, hf10]; rfl
  have d : Ds m B X n = dscores (Wt m B X n) B.v (View.readAt (Elt F) arg8.view (Rect.unit (s := S1x32x128x256) ![0, n.val, 0, 0] S1x1x128x256.size h4).toLoadRect f8)
      (View.readAt (Elt F) arg11.view (Rect.unit (s := S1x32x1x256) ![0, n.val, 0, 0] S1x1x1x256.size h3).toLoadRect f11) := by
    rw [View.readAt_unit _ _ _ rfl (row4_inb n), View.readAt_unit _ _ _ rfl (row3_inb n), hf8, hf11]; rfl
  rw [← w, ← d]
  isplitl [H2 H5 H7 H8 H10 H11]
  · isplitl [H2]
    · iexists _; isplitr; · ipureintro; exact hf2
      iexact H2
    isplitl [H5]
    · iexists _; isplitr; · ipureintro; exact hf5
      iexact H5
    isplitl [H7]
    · iexists _; isplitr; · ipureintro; exact hf7
      iexact H7
    isplitl [H8]
    · iexists _; isplitr; · ipureintro; exact hf8
      iexact H8
    isplitl [H10]
    · iexists _; isplitr; · ipureintro; exact hf10
      iexact H10
    iexists _; isplitr; · ipureintro; exact hf11
    iexact H11
  isplitl [H15]
  · iexists _; isplitr; swap; · iexact H15
    ipureintro
    rw [View.read_writes_cons_put _ _ _ _ _ rfl, View.writes_nil, View.readAt_unit _ _ _ rfl (row4_inb n), hf15]; rfl
  isplitl [H16]
  · iexists _; isplitr; swap; · iexact H16
    ipureintro
    rw [View.read_writes_cons_put _ _ _ _ _ rfl, View.writes_nil, View.readAt_unit _ _ _ rfl (row3_inb n), hf16]; rfl
  isplitl [H17]
  · iexists _; isplitr; swap; · iexact H17
    ipureintro
    rw [View.read_writes_full, View.readAt_full, View.readAt_unit _ _ _ rfl (rows_inb n), hf17, hf2]; rfl
  isplitl [H18]
  · iexists _; isplitr; swap; · iexact H18
    ipureintro
    rw [View.read_writes_full, View.readAt_full, View.readAt_unit _ _ _ rfl (rows_inb n), hf18, hf7]; rfl
  iexists _; isplitr; swap; · iexact H19
  ipureintro
  rw [View.read_writes_full, View.readAt_full, hf19]; rfl

end Run

end Cert.KernelIdeal.FoxBody

end
-- ==== Proof.Block.lean ====
/-
  What one grid point does to the memory: the resets, the four masked chunks, the loop over the chunks behind the
  block, and the writing out. A point's changes are a fold of `step` over the query chunks from the block's own on.
-/
module

public import proofs.«01_k».proof.Proof.Chunk
public import Idealize.ShloMosaic.Lib.LaneScatter.Fold
public import Idealize.ShloMosaic.Lib.LoopRemainder

@[expose] public section

set_option maxRecDepth 16384

noncomputable section

namespace Cert.KernelIdeal.FoxBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The block of a point among its head's eight. -/
abbrev blkOf (i : grid0.Coords) : Fin 8 := i 1

/-- What is done to the scores of the block's `n`-th chunk: the causal mask for the four chunks that meet the block, nothing after. -/
def change : ℕ → Change F
  | 0 => masked 0#32
  | 1 => masked 256#32
  | 2 => masked 512#32
  | 3 => masked 768#32
  | _ => fun s => s

/-- The arrays after the first `n` chunks of block `j`. -/
def stAfter (j : Fin 8) (B : Blk F) (X : Inp F) (S : Acc F) : ℕ → Acc F
  | 0 => S
  | n + 1 => if h : 4 * j.val + n < 32 then step (change n) B X ⟨4 * j.val + n, h⟩ (stAfter j B X S n) else stAfter j B X S n

/-- What a point's chunks start from. -/
def start (j : Fin 8) (dq : Vec F S1x32x128x256 .f32) (dcq : Vec F S1x32x1x256 .f32) : Acc F where
  dq := if j = 0 then k0_pay23 else dq
  dcq := if j = 0 then k0_pay24 else dcq
  dk := k0_pay25
  dv := k0_pay26
  dc := k0_pay27

/-- What a point's chunks end with: the block sees the chunks from its own first one to the last of the 32. -/
def ended (j : Fin 8) (B : Blk F) (X : Inp F) (dq : Vec F S1x32x128x256 .f32) (dcq : Vec F S1x32x1x256 .f32) : Acc F :=
  stAfter j B X (start j dq dcq) (32 - 4 * j.val)

/-! ## The printed offsets and bounds in closed form -/

theorem word_chunk : ∀ (j : Fin 8) (d : Fin 4),
    (Scalar.addi (Scalar.muli (BitVec.ofNat 32 j.val) 4#32) (BitVec.ofNat 32 d.val)).toNat = 4 * j.val + d.val := by decide

theorem word_rows : ∀ (j : Fin 8) (d : Fin 4),
    (Scalar.muli (Scalar.addi (Scalar.muli (BitVec.ofNat 32 j.val) 4#32) (BitVec.ofNat 32 d.val)) 256#32).toNat
      = 256 * (4 * j.val + d.val) := by decide

theorem word_trips : ∀ j : Fin 8, Scf.trips (Scalar.addi (Scalar.muli (BitVec.ofNat 32 j.val) 4#32) 4#32)
    (Scalar.addi (Scalar.addi (Scalar.muli (BitVec.ofNat 32 j.val) 4#32) 4#32) (Scalar.muli (Scalar.divsi (Scalar.subi 32#32
      (Scalar.addi (Scalar.muli (BitVec.ofNat 32 j.val) 4#32) 4#32)) 1#32) 1#32)) 1#32 = 28 - 4 * j.val := by decide

theorem word_iv : ∀ (j : Fin 8) (t : Fin 28),
    (Scf.iv (Scalar.addi (Scalar.muli (BitVec.ofNat 32 j.val) 4#32) 4#32) 1#32 t.val).toNat = 4 * j.val + (4 + t.val)
    ∧ (Scalar.muli (Scf.iv (Scalar.addi (Scalar.muli (BitVec.ofNat 32 j.val) 4#32) 4#32) 1#32 t.val) 256#32).toNat
      = 256 * (4 * j.val + (4 + t.val)) := by decide

theorem word_first : ∀ j : Fin 8,
    (Scalar.cmpi .ne (Scalar.extui (Scalar.cmpi .eq (BitVec.ofNat 32 j.val) 0#32) : BitVec 32) 0#32 = 1#1) ↔ j = 0 := by decide

theorem word_last : ∀ j : Fin 8,
    (Scalar.cmpi .ne (Scalar.extui (Scalar.cmpi .eq (BitVec.ofNat 32 j.val) 7#32) : BitVec 32) 0#32 = 1#1) ↔ j = 7 := by decide

theorem off1_eq (i : grid0.Coords) (d : Fin 4) : k0_off1 i (BitVec.ofNat 32 d.val) = ![0, 4 * (blkOf i).val + d.val, 0, 0] := by
  have h := word_chunk (blkOf i) d
  unfold k0_off1; dsimp only [Scalar.indexCast]; rw [h]

theorem off2_eq (i : grid0.Coords) (d : Fin 4) : k0_off2 i (BitVec.ofNat 32 d.val) = ![0, 4 * (blkOf i).val + d.val, 0, 0] := by
  have h := word_chunk (blkOf i) d
  unfold k0_off2; dsimp only [Scalar.indexCast]; rw [h]

theorem off3_eq (i : grid0.Coords) (d : Fin 4) : k0_off3 i (BitVec.ofNat 32 d.val) = ![256 * (4 * (blkOf i).val + d.val), 0] := by
  have h := word_rows (blkOf i) d
  unfold k0_off3; dsimp only [Scalar.indexCast]; rw [h]

theorem trips1 (i : grid0.Coords) : (k0_t1_loop i).trips = 28 - 4 * (blkOf i).val := word_trips (blkOf i)

theorem trip_lt (i : grid0.Coords) (t : Fin (k0_t1_loop i).trips) : 4 * (blkOf i).val + (4 + t.val) < 32 := by
  have h := t.isLt.trans_eq (trips1 i); omega

theorem off4_eq (i : grid0.Coords) (t : Fin (k0_t1_loop i).trips) : k0_off4 i t = ![0, 4 * (blkOf i).val + (4 + t.val), 0, 0] := by
  have h := (word_iv (blkOf i) ⟨t.val, by have := trip_lt i t; omega⟩).1
  unfold k0_off4; dsimp only [Scalar.indexCast]; dsimp only at h; rw [h]

theorem off5_eq (i : grid0.Coords) (t : Fin (k0_t1_loop i).trips) : k0_off5 i t = ![0, 4 * (blkOf i).val + (4 + t.val), 0, 0] := by
  have h := (word_iv (blkOf i) ⟨t.val, by have := trip_lt i t; omega⟩).1
  unfold k0_off5; dsimp only [Scalar.indexCast]; dsimp only at h; rw [h]

theorem off6_eq (i : grid0.Coords) (t : Fin (k0_t1_loop i).trips) : k0_off6 i t = ![256 * (4 * (blkOf i).val + (4 + t.val)), 0] := by
  have h := (word_iv (blkOf i) ⟨t.val, by have := trip_lt i t; omega⟩).2
  unfold k0_off6; dsimp only [Scalar.indexCast]; dsimp only at h; rw [h]

theorem stAfter_succ (j : Fin 8) (B : Blk F) (X : Inp F) (S : Acc F) (n : ℕ) (h : 4 * j.val + n < 32) :
    stAfter j B X S (n + 1) = step (change n) B X ⟨4 * j.val + n, h⟩ (stAfter j B X S n) := by
  rw [stAfter, dif_pos h]

/-! ## The pieces' runs -/

section Pieces

variable (c : Dev nD) (arg12 arg13 : Memref sig .tc .vmem S1024x128 .bf16) (harg12 : arg12.IsWhole) (harg13 : arg13.IsWhole)
  (arg14 : Memref sig .tc .vmem S1x1024x1 .f32) (arg15 : Memref sig .tc .vmem S1x32x128x256 .f32)
  (arg16 : Memref sig .tc .vmem S1x32x1x256 .f32) (arg17 arg18 arg19 : Memref sig .tc .vmem S1024x128 .f32)

theorem reset_run (E : Set ℕ) (i : grid0.Coords) (dq : Vec F S1x32x128x256 .f32) (dcq : Vec F S1x32x1x256 .f32) :
    (iprop(owns (c : Thread nD τ) arg15 fullShare dq ∗ owns (c : Thread nD τ) arg16 fullShare dcq) : sProp 𝕄)
      ⊢ wp frame (wpE (defs₀ (F := F)) Variants.none c none) E (resetProg (F := F) i arg15 arg16)
          (fun _ => iprop(owns (c : Thread nD τ) arg15 fullShare (start (blkOf i) dq dcq).dq
            ∗ owns (c : Thread nD τ) arg16 fullShare (start (blkOf i) dq dcq).dcq)) := by
  unfold resetProg start
  by_cases h : Scalar.cmpi .ne (Scalar.extui (Scalar.cmpi .eq (BitVec.ofNat 32 (i 1).val) 0#32) : BitVec 32) 0#32 = 1#1
  · rw [dif_pos h, if_pos ((word_first (blkOf i)).1 h), if_pos ((word_first (blkOf i)).1 h)]
    unfold owns
    iintro ⟨⟨%f15, %hf15, H15⟩, ⟨%f16, %hf16, H16⟩⟩
    sl_exec
    rw [wp_ret]
    imodintro
    isplitl [H15]
    · iexists _; isplitr; swap; · iexact H15
      ipureintro; rw [View.read_writes_full]
    iexists _; isplitr; swap; · iexact H16
    ipureintro; rw [View.read_writes_full]
  · rw [dif_neg h, if_neg fun e => h ((word_first (blkOf i)).2 e), if_neg fun e => h ((word_first (blkOf i)).2 e)]
    rw [wp_pure]
    iintro ⟨H15, H16⟩
    imodintro
    isplitl [H15]
    · iexact H15
    iexact H16

theorem zero_run (E : Set ℕ) (dq : Vec F S1x32x128x256 .f32) (dcq : Vec F S1x32x1x256 .f32) (j : Fin 8) :
    (iprop((∃ d, owns (c : Thread nD τ) arg17 fullShare d) ∗ (∃ d, owns (c : Thread nD τ) arg18 fullShare d)
        ∗ (∃ d, owns (c : Thread nD τ) arg19 fullShare d)) : sProp 𝕄)
      ⊢ wp frame (wpE (defs₀ (F := F)) Variants.none c none) E (zeroProg (F := F) arg17 arg18 arg19)
          (fun _ => iprop(owns (c : Thread nD τ) arg17 fullShare (start j dq dcq).dk
            ∗ owns (c : Thread nD τ) arg18 fullShare (start j dq dcq).dv ∗ owns (c : Thread nD τ) arg19 fullShare (start j dq dcq).dc)) := by
  unfold zeroProg start owns
  iintro ⟨⟨%d17, %f17, %hf17, H17⟩, ⟨%d18, %f18, %hf18, H18⟩, ⟨%d19, %f19, %hf19, H19⟩⟩
  sl_exec
  rw [wp_ret]
  imodintro
  isplitl [H17]
  · iexists _; isplitr; swap; · iexact H17
    ipureintro; rw [View.read_writes_full]
  isplitl [H18]
  · iexists _; isplitr; swap; · iexact H18
    ipureintro; rw [View.read_writes_full]
  iexists _; isplitr; swap; · iexact H19
  ipureintro; rw [View.read_writes_full]

include harg12 harg13 in
theorem finish_run (E : Set ℕ) (i : grid0.Coords) (S : Acc F) :
    iprop((∃ d, owns (c : Thread nD τ) arg12 fullShare d) ∗ (∃ d, owns (c : Thread nD τ) arg13 fullShare d)
        ∗ (∃ d, owns (c : Thread nD τ) arg14 fullShare d) ∗ heldAcc c arg15 arg16 arg17 arg18 arg19 S)
      ⊢ wp frame (wpE (defs₀ (F := F)) Variants.none c none) E (finishProg i arg12 harg12 arg13 harg13 arg14 arg15 arg17 arg18 arg19)
          (fun _ => iprop(owns (c : Thread nD τ) arg12 fullShare (k0_pay3 S.dk) ∗ owns (c : Thread nD τ) arg13 fullShare (k0_pay4 S.dv)
            ∗ owns (c : Thread nD τ) arg14 fullShare (k0_pay5 S.dc)
            ∗ heldAcc c arg15 arg16 arg17 arg18 arg19 { S with dq := if blkOf i = 7 then k0_pay6 S.dq else S.dq })) := by
  unfold finishProg heldAcc
  by_cases h : Scalar.cmpi .ne (Scalar.extui (Scalar.cmpi .eq (BitVec.ofNat 32 (i 1).val) 7#32) : BitVec 32) 0#32 = 1#1
  · simp only [h, dif_pos, if_pos ((word_last (blkOf i)).1 h)]
    unfold owns
    iintro ⟨⟨%d12, %f12, %hf12, H12⟩, ⟨%d13, %f13, %hf13, H13⟩, ⟨%d14, %f14, %hf14, H14⟩, ⟨%f15, %hf15, H15⟩, H16, ⟨%f17, %hf17, H17⟩, ⟨%f18, %hf18, H18⟩, ⟨%f19, %hf19, H19⟩⟩
    sl_exec
    rw [wp_ret]
    imodintro
    isplitl [H12]
    · iexists _; isplitr; swap; · iexact H12
      ipureintro; rw [View.read_writes_full, View.readAt_full, hf17]
    isplitl [H13]
    · iexists _; isplitr; swap; · iexact H13
      ipureintro; rw [View.read_writes_full, View.readAt_full, hf18]
    isplitl [H14]
    · iexists _; isplitr; swap; · iexact H14
      ipureintro; rw [View.read_writes_full, View.readAt_full, hf19]
    isplitl [H15]
    · iexists _; isplitr; swap; · iexact H15
      ipureintro; rw [View.read_writes_full]; exact congrArg k0_pay6 ((View.readAt_full _ _ _).trans hf15)
    isplitl [H16]
    · iexact H16
    isplitl [H17]
    · iexists _; isplitr; swap; · iexact H17
      ipureintro; exact hf17
    isplitl [H18]
    · iexists _; isplitr; swap; · iexact H18
      ipureintro; exact hf18
    iexists _; isplitr; swap; · iexact H19
    ipureintro; exact hf19
  · simp only [h, dif_neg, not_false_eq_true, if_neg fun e => h ((word_last (blkOf i)).2 e)]
    unfold owns
    iintro ⟨⟨%d12, %f12, %hf12, H12⟩, ⟨%d13, %f13, %hf13, H13⟩, ⟨%d14, %f14, %hf14, H14⟩, H15, H16, ⟨%f17, %hf17, H17⟩, ⟨%f18, %hf18, H18⟩, ⟨%f19, %hf19, H19⟩⟩
    sl_exec
    rw [wp_ret]
    imodintro
    isplitl [H12]
    · iexists _; isplitr; swap; · iexact H12
      ipureintro; rw [View.read_writes_full, View.readAt_full, hf17]
    isplitl [H13]
    · iexists _; isplitr; swap; · iexact H13
      ipureintro; rw [View.read_writes_full, View.readAt_full, hf18]
    isplitl [H14]
    · iexists _; isplitr; swap; · iexact H14
      ipureintro; rw [View.read_writes_full, View.readAt_full, hf19]
    isplitl [H15]
    · iexact H15
    isplitl [H16]
    · iexact H16
    isplitl [H17]
    · iexists _; isplitr; swap; · iexact H17
      ipureintro; exact hf17
    isplitl [H18]
    · iexists _; isplitr; swap; · iexact H18
      ipureintro; exact hf18
    iexists _; isplitr; swap; · iexact H19
    ipureintro; exact hf19

end Pieces

end Cert.KernelIdeal.FoxBody

end
-- ==== Proof.Point.lean ====
/-
  The whole body at one grid point, put together from the runs of its pieces.
-/
module

public import proofs.«01_k».proof.Proof.Block

@[expose] public section

set_option maxRecDepth 16384

noncomputable section

namespace Cert.KernelIdeal.FoxBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The gradient of the head's queries as a point leaves it: the head's last block scales it. -/
def lastDq (j : Fin 8) (S : Acc F) : Vec F S1x32x128x256 .f32 := if j = 7 then k0_pay6 S.dq else S.dq

section Loads

variable (c : Dev nD) (arg3 arg4 : Memref sig .tc .vmem S1024x128 .bf16)
    (arg6 : Memref sig .tc .vmem S1x1x128x1024 .bf16) (arg9 : Memref sig .tc .vmem S1x1024x1 .f32)

/-- The four loads of a block's keys and values. -/
theorem loads_run (E : Set ℕ) (k v : Vec F S1024x128 .bf16) (kt : Vec F S1x1x128x1024 .bf16) (ck : Vec F S1x1024x1 .f32)
    (kk : Vec F S1024x128 .bf16 → Vec F S1024x128 .bf16 → Vec F S1x1x128x1024 .bf16 → Vec F S1x1024x1 .f32 →
      Prog (TpuEff nD τ sig (Elt F) Λ₀ .tc) PUnit) (K : PUnit → sProp 𝕄) :
    iprop(owns (c : Thread nD τ) arg3 fullShare k ∗ owns (c : Thread nD τ) arg4 fullShare v ∗ owns (c : Thread nD τ) arg6 fullShare kt ∗ owns (c : Thread nD τ) arg9 fullShare ck
        ∗ (iprop(owns (c : Thread nD τ) arg3 fullShare k ∗ owns (c : Thread nD τ) arg4 fullShare v ∗ owns (c : Thread nD τ) arg6 fullShare kt ∗ owns (c : Thread nD τ) arg9 fullShare ck)
          -∗ wp frame (wpE (defs₀ (F := F)) Variants.none c none) E (kk k v kt ck) K))
      ⊢ wp frame (wpE (defs₀ (F := F)) Variants.none c none) E (do
          let k : Vec F S1024x128 .bf16 ← Prog.lift (.load arg3 (Rect.unit (s := S1024x128) ![0, 0] S1024x128.size inb_S1024x128_S1024x128_0_0).toLoadRect (View.loadsAt_vmem h_S1024x128))
          let v : Vec F S1024x128 .bf16 ← Prog.lift (.load arg4 (Rect.unit (s := S1024x128) ![0, 0] S1024x128.size inb_S1024x128_S1024x128_0_0).toLoadRect (View.loadsAt_vmem h_S1024x128))
          let kt : Vec F S1x1x128x1024 .bf16 ← Prog.lift (.load arg6 (Rect.unit (s := S1x1x128x1024) ![0, 0, 0, 0] S1x1x128x1024.size inb_S1x1x128x1024_S1x1x128x1024_0_0_0_0).toLoadRect (View.loadsAt_vmem h_S1x1x128x1024))
          let ck : Vec F S1x1024x1 .f32 ← Prog.lift (.load arg9 (Rect.unit (s := S1x1024x1) ![0, 0, 0] S1x1024x1.size inb_S1x1024x1_S1x1024x1_0_0_0).toLoadRect (View.loadsAt_vmem h_S1x1024x1))
          kk k v kt ck) K := by
  unfold owns
  iintro ⟨⟨%f3, %hf3, H3⟩, ⟨%f4, %hf4, H4⟩, ⟨%f6, %hf6, H6⟩, ⟨%f9, %hf9, H9⟩, HK⟩
  sl_exec
  rw [View.readAt_full, View.readAt_full, View.readAt_full, View.readAt_full, hf3, hf4, hf6, hf9]
  iapply HK
  isplitl [H3]
  · iexists _; isplitr; · ipureintro; exact hf3
    iexact H3
  isplitl [H4]
  · iexists _; isplitr; · ipureintro; exact hf4
    iexact H4
  isplitl [H6]
  · iexists _; isplitr; · ipureintro; exact hf6
    iexact H6
  iexists _; isplitr; · ipureintro; exact hf9
  iexact H9

end Loads

/-- The loop over the chunks behind the block. -/
theorem loop_run (c : Dev nD) (arg2 : Memref sig .tc .vmem S8192x128 .bf16) (arg5 : Memref sig .tc .vmem S1x32x128x256 .bf16)
    (arg7 : Memref sig .tc .vmem S8192x128 .bf16) (arg8 : Memref sig .tc .vmem S1x32x128x256 .bf16)
    (arg10 arg11 : Memref sig .tc .vmem S1x32x1x256 .f32) (arg15 : Memref sig .tc .vmem S1x32x128x256 .f32)
    (arg16 : Memref sig .tc .vmem S1x32x1x256 .f32) (arg17 arg18 arg19 : Memref sig .tc .vmem S1024x128 .f32)
    (E : Set ℕ) (i : grid0.Coords) (B : Blk F) (X : Inp F) (S : Acc F) :
    iprop(heldInp c arg2 arg5 arg7 arg8 arg10 arg11 X ∗ heldAcc c arg15 arg16 arg17 arg18 arg19 (stAfter (blkOf i) B X S 4))
      ⊢ wp frame (wpE (defs₀ (F := F)) Variants.none c none) E
          (Scf.Loop.for (k0_t1_loop i) (k0_t1_ok i) ⟨⟩ (fun t _ =>
            chunkProg arg2 arg5 arg7 arg8 arg10 arg11 arg15 arg16 arg17 arg18 arg19 (fun s => s) B.k B.v B.kt B.ck
              (k0_off4 i t) (k0_off5 i t) (k0_off6 i t) (k0_off4_inb i t) (k0_off5_inb i t) (k0_off6_inb i t)))
          (fun _ => iprop(heldInp c arg2 arg5 arg7 arg8 arg10 arg11 X
            ∗ heldAcc c arg15 arg16 arg17 arg18 arg19 (stAfter (blkOf i) B X S (32 - 4 * (blkOf i).val)))) := by
  have hb : ∀ (t : Fin (k0_t1_loop i).trips) (_ : Unit), iprop(heldInp c arg2 arg5 arg7 arg8 arg10 arg11 X
      ∗ heldAcc c arg15 arg16 arg17 arg18 arg19 (stAfter (blkOf i) B X S (4 + t.val)))
      ⊢ wp frame (wpE (defs₀ (F := F)) Variants.none c none) E
          (chunkProg arg2 arg5 arg7 arg8 arg10 arg11 arg15 arg16 arg17 arg18 arg19 (fun s => s) B.k B.v B.kt B.ck
              (k0_off4 i t) (k0_off5 i t) (k0_off6 i t) (k0_off4_inb i t) (k0_off5_inb i t) (k0_off6_inb i t))
          (fun _ => iprop(heldInp c arg2 arg5 arg7 arg8 arg10 arg11 X
            ∗ heldAcc c arg15 arg16 arg17 arg18 arg19 (stAfter (blkOf i) B X S (4 + (t.val + 1))))) := fun t _ => by
    have h := chunk_run c arg2 arg5 arg7 arg8 arg10 arg11 arg15 arg16 arg17 arg18 arg19 E (change (4 + t.val)) B X
      (stAfter (blkOf i) B X S (4 + t.val)) ⟨4 * (blkOf i).val + (4 + t.val), trip_lt i t⟩ _ _ _
      (k0_off4_inb i t) (k0_off5_inb i t) (k0_off6_inb i t) (off4_eq i t) (off5_eq i t) (off6_eq i t)
    rw [← stAfter_succ (blkOf i) B X S (4 + t.val) (trip_lt i t)] at h
    have e : change (F := F) (4 + t.val) = fun s => s := by rw [Nat.add_comm]; rfl
    rw [e] at h
    exact h
  iintro H
  iapply (Scf.wp_for frame (wpE (defs₀ (F := F)) Variants.none c none) E _ _ _ (k0_t1_ok i) ⟨⟩ _
    (fun n _ => iprop(heldInp c arg2 arg5 arg7 arg8 arg10 arg11 X
      ∗ heldAcc c arg15 arg16 arg17 arg18 arg19 (stAfter (blkOf i) B X S (4 + n)))) hb)
  isplitl [H]; · iexact H
  iintro %_ H
  have e : 4 + (k0_t1_loop i).trips = 32 - 4 * (blkOf i).val := by
    rw [trips1]; have := (blkOf i).isLt; omega
  rw [← e]
  iexact H

set_option maxHeartbeats 4000000 in
/-- The body at one grid point: from the inputs' blocks and the gradients shared by the head as the point finds
    them, to the block's results and the shared gradients as `ended` says. -/
theorem point_run (c : Dev nD) (i : grid0.Coords) (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x32x128x256 .bf16) (harg5 : arg5.IsWhole) (arg6 : Memref sig .tc .vmem S1x1x128x1024 .bf16) (harg6 : arg6.IsWhole) (arg7 : Memref sig .tc .vmem S8192x128 .bf16) (harg7 : arg7.IsWhole) (arg8 : Memref sig .tc .vmem S1x32x128x256 .bf16) (harg8 : arg8.IsWhole) (arg9 : Memref sig .tc .vmem S1x1024x1 .f32) (harg9 : arg9.IsWhole) (arg10 : Memref sig .tc .vmem S1x32x1x256 .f32) (harg10 : arg10.IsWhole) (arg11 : Memref sig .tc .vmem S1x32x1x256 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1024x1 .f32) (harg14 : arg14.IsWhole) (arg15 : Memref sig .tc .vmem S1x32x128x256 .f32) (harg15 : arg15.IsWhole) (arg16 : Memref sig .tc .vmem S1x32x1x256 .f32) (harg16 : arg16.IsWhole) (arg17 : Memref sig .tc .vmem S1024x128 .f32) (harg17 : arg17.IsWhole) (arg18 : Memref sig .tc .vmem S1024x128 .f32) (harg18 : arg18.IsWhole) (arg19 : Memref sig .tc .vmem S1024x128 .f32) (harg19 : arg19.IsWhole)
    (E : Set ℕ) (X : Inp F) (k v : Vec F S1024x128 .bf16) (kt : Vec F S1x1x128x1024 .bf16) (ck : Vec F S1x1024x1 .f32)
    (dq : Vec F S1x32x128x256 .f32) (dcq : Vec F S1x32x1x256 .f32) (K : PUnit → sProp 𝕄) :
    iprop(owns (c : Thread nD τ) arg2 fullShare X.q
          ∗ owns (c : Thread nD τ) arg3 fullShare k
          ∗ owns (c : Thread nD τ) arg4 fullShare v
          ∗ owns (c : Thread nD τ) arg5 fullShare X.qt
          ∗ owns (c : Thread nD τ) arg6 fullShare kt
          ∗ owns (c : Thread nD τ) arg7 fullShare X.g
          ∗ owns (c : Thread nD τ) arg8 fullShare X.gt
          ∗ owns (c : Thread nD τ) arg9 fullShare ck
          ∗ owns (c : Thread nD τ) arg10 fullShare X.lse
          ∗ owns (c : Thread nD τ) arg11 fullShare X.dl
          ∗ (∃ d, owns (c : Thread nD τ) arg12 fullShare d)
          ∗ (∃ d, owns (c : Thread nD τ) arg13 fullShare d)
          ∗ (∃ d, owns (c : Thread nD τ) arg14 fullShare d)
          ∗ owns (c : Thread nD τ) arg15 fullShare dq
          ∗ owns (c : Thread nD τ) arg16 fullShare dcq
          ∗ (∃ d, owns (c : Thread nD τ) arg17 fullShare d)
          ∗ (∃ d, owns (c : Thread nD τ) arg18 fullShare d)
          ∗ (∃ d, owns (c : Thread nD τ) arg19 fullShare d)
        ∗ (iprop(owns (c : Thread nD τ) arg2 fullShare X.q
          ∗ owns (c : Thread nD τ) arg3 fullShare k
          ∗ owns (c : Thread nD τ) arg4 fullShare v
          ∗ owns (c : Thread nD τ) arg5 fullShare X.qt
          ∗ owns (c : Thread nD τ) arg6 fullShare kt
          ∗ owns (c : Thread nD τ) arg7 fullShare X.g
          ∗ owns (c : Thread nD τ) arg8 fullShare X.gt
          ∗ owns (c : Thread nD τ) arg9 fullShare ck
          ∗ owns (c : Thread nD τ) arg10 fullShare X.lse
          ∗ owns (c : Thread nD τ) arg11 fullShare X.dl
          ∗ owns (c : Thread nD τ) arg12 fullShare (k0_pay3 (ended (blkOf i) ⟨k, v, k0_pay28 kt, k0_pay29 ck⟩ X dq dcq).dk)
          ∗ owns (c : Thread nD τ) arg13 fullShare (k0_pay4 (ended (blkOf i) ⟨k, v, k0_pay28 kt, k0_pay29 ck⟩ X dq dcq).dv)
          ∗ owns (c : Thread nD τ) arg14 fullShare (k0_pay5 (ended (blkOf i) ⟨k, v, k0_pay28 kt, k0_pay29 ck⟩ X dq dcq).dc)
          ∗ owns (c : Thread nD τ) arg15 fullShare (lastDq (blkOf i) (ended (blkOf i) ⟨k, v, k0_pay28 kt, k0_pay29 ck⟩ X dq dcq))
          ∗ owns (c : Thread nD τ) arg16 fullShare (ended (blkOf i) ⟨k, v, k0_pay28 kt, k0_pay29 ck⟩ X dq dcq).dcq
          ∗ (∃ d, owns (c : Thread nD τ) arg17 fullShare d)
          ∗ (∃ d, owns (c : Thread nD τ) arg18 fullShare d)
          ∗ (∃ d, owns (c : Thread nD τ) arg19 fullShare d))
          -∗ K ⟨⟩))
      ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [body_eq_chain]
  unfold chain
  iintro ⟨H2, H3, H4, H5, H6, H7, H8, H9, H10, H11, H12, H13, H14, H15, H16, H17, H18, H19, HK⟩
  iapply (LaneScatter.bind_of_run _ _ _ (reset_run c arg15 arg16 E i dq dcq))
  isplitl [H15 H16]
  · isplitl [H15]; · iexact H15
    iexact H16
  iintro ⟨H15, H16⟩
  iapply (LaneScatter.bind_of_run _ _ _ (zero_run c arg17 arg18 arg19 E dq dcq (blkOf i)))
  isplitl [H17 H18 H19]
  · isplitl [H17]; · iexact H17
    isplitl [H18]; · iexact H18
    iexact H19
  iintro ⟨H17, H18, H19⟩
  iapply (loads_run c arg3 arg4 arg6 arg9 E k v kt ck)
  isplitl [H3]; · iexact H3
  isplitl [H4]; · iexact H4
  isplitl [H6]; · iexact H6
  isplitl [H9]; · iexact H9
  iintro ⟨H3, H4, H6, H9⟩
  iapply (LaneScatter.bind_of_run _ _ _ (chunk_run c arg2 arg5 arg7 arg8 arg10 arg11 arg15 arg16 arg17 arg18 arg19 E (change 0) ⟨k, v, k0_pay28 kt, k0_pay29 ck⟩ X
    (stAfter (blkOf i) ⟨k, v, k0_pay28 kt, k0_pay29 ck⟩ X (start (blkOf i) dq dcq) 0) ⟨4 * (blkOf i).val + 0, by have := (blkOf i).isLt; omega⟩ _ _ _
    (k0_off1_inb i 0) (k0_off2_inb i 0) (k0_off3_inb i 0) (off1_eq i 0) (off2_eq i 0) (off3_eq i 0)))
  isplitl [H2 H5 H7 H8 H10 H11 H15 H16 H17 H18 H19]
  · unfold heldInp heldAcc
    isplitl [H2 H5 H7 H8 H10 H11]
    · isplitl [H2]; · iexact H2
      isplitl [H5]; · iexact H5
      isplitl [H7]; · iexact H7
      isplitl [H8]; · iexact H8
      isplitl [H10]; · iexact H10
      iexact H11
    isplitl [H15]; · iexact H15
    isplitl [H16]; · iexact H16
    isplitl [H17]; · iexact H17
    isplitl [H18]; · iexact H18
    iexact H19
  rw [← stAfter_succ (blkOf i) ⟨k, v, k0_pay28 kt, k0_pay29 ck⟩ X (start (blkOf i) dq dcq) 0]
  iintro ⟨HI, HA⟩
  iapply (LaneScatter.bind_of_run _ _ _ (chunk_run c arg2 arg5 arg7 arg8 arg10 arg11 arg15 arg16 arg17 arg18 arg19 E (change 1) ⟨k, v, k0_pay28 kt, k0_pay29 ck⟩ X
    (stAfter (blkOf i) ⟨k, v, k0_pay28 kt, k0_pay29 ck⟩ X (start (blkOf i) dq dcq) 1) ⟨4 * (blkOf i).val + 1, by have := (blkOf i).isLt; omega⟩ _ _ _
    (k0_off1_inb i 1) (k0_off2_inb i 1) (k0_off3_inb i 1) (off1_eq i 1) (off2_eq i 1) (off3_eq i 1)))
  isplitl [HI HA]
  · isplitl [HI]; · iexact HI
    iexact HA
  rw [← stAfter_succ (blkOf i) ⟨k, v, k0_pay28 kt, k0_pay29 ck⟩ X (start (blkOf i) dq dcq) 1]
  iintro ⟨HI, HA⟩
  iapply (LaneScatter.bind_of_run _ _ _ (chunk_run c arg2 arg5 arg7 arg8 arg10 arg11 arg15 arg16 arg17 arg18 arg19 E (change 2) ⟨k, v, k0_pay28 kt, k0_pay29 ck⟩ X
    (stAfter (blkOf i) ⟨k, v, k0_pay28 kt, k0_pay29 ck⟩ X (start (blkOf i) dq dcq) 2) ⟨4 * (blkOf i).val + 2, by have := (blkOf i).isLt; omega⟩ _ _ _
    (k0_off1_inb i 2) (k0_off2_inb i 2) (k0_off3_inb i 2) (off1_eq i 2) (off2_eq i 2) (off3_eq i 2)))
  isplitl [HI HA]
  · isplitl [HI]; · iexact HI
    iexact HA
  rw [← stAfter_succ (blkOf i) ⟨k, v, k0_pay28 kt, k0_pay29 ck⟩ X (start (blkOf i) dq dcq) 2]
  iintro ⟨HI, HA⟩
  iapply (LaneScatter.bind_of_run _ _ _ (chunk_run c arg2 arg5 arg7 arg8 arg10 arg11 arg15 arg16 arg17 arg18 arg19 E (change 3) ⟨k, v, k0_pay28 kt, k0_pay29 ck⟩ X
    (stAfter (blkOf i) ⟨k, v, k0_pay28 kt, k0_pay29 ck⟩ X (start (blkOf i) dq dcq) 3) ⟨4 * (blkOf i).val + 3, by have := (blkOf i).isLt; omega⟩ _ _ _
    (k0_off1_inb i 3) (k0_off2_inb i 3) (k0_off3_inb i 3) (off1_eq i 3) (off2_eq i 3) (off3_eq i 3)))
  isplitl [HI HA]
  · isplitl [HI]; · iexact HI
    iexact HA
  rw [← stAfter_succ (blkOf i) ⟨k, v, k0_pay28 kt, k0_pay29 ck⟩ X (start (blkOf i) dq dcq) 3]
  iintro ⟨HI, HA⟩
  iapply (LaneScatter.bind_of_run _ _ _ (loop_run c arg2 arg5 arg7 arg8 arg10 arg11 arg15 arg16 arg17 arg18 arg19 E i ⟨k, v, k0_pay28 kt, k0_pay29 ck⟩ X (start (blkOf i) dq dcq)))
  isplitl [HI HA]
  · isplitl [HI]; · iexact HI
    iexact HA
  iintro ⟨HI, HA⟩
  rw [show ∀ body, Scf.Loop.for (k0_t2_loop i) (k0_t2_ok i) (⟨⟩ : Unit) body = .ret ⟨⟩ from fun body => Scf.for_rem_eq _ _ _ _ _]
  rw [show ∀ kk : Unit → Prog (TpuEff nD τ sig (Elt F) Λ₀ .tc) PUnit, (Prog.ret ⟨⟩ >>= kk) = kk ⟨⟩ from fun kk => rfl]
  iapply (wp_wand_r _ _ _)
  isplitl [H12 H13 H14 HA]
  · iapply (finish_run c arg12 arg13 harg12 harg13 arg14 arg15 arg16 arg17 arg18 arg19 E i)
    isplitl [H12]; · iexact H12
    isplitl [H13]; · iexact H13
    isplitl [H14]; · iexact H14
    iexact HA
  iintro %_ ⟨H12, H13, H14, HA⟩
  unfold heldInp heldAcc
  icases HI with ⟨H2, H5, H7, H8, H10, H11⟩
  icases HA with ⟨H15, H16, H17, H18, H19⟩
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · iexists _; iexact H17
  isplitl [H18]
  · iexists _; iexact H18
  iexists _; iexact H19

end Cert.KernelIdeal.FoxBody

end
-- ==== Proof.Run.lean ====
/-
  The kernel's run. The proof data say what every window's buffer holds after each of the 64 points: the inputs their
  blocks, the three results of a block what its chunks end with, and the two gradients shared by a head's eight blocks
  the fold of the blocks so far.
-/
module

public import proofs.«01_k».proof.Proof.Point
public import proofs.«01_k».proof.Proof.Gen.KernelIdeal.Frame
public import Idealize.ShloMosaic.Lib.Pipeline.FrameBody
public import Idealize.ShloMosaic.Lib.Claim

@[expose] public section

set_option maxRecDepth 16384

noncomputable section

namespace Cert.KernelIdeal.FoxBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers at a point -/

abbrev ms0_0 (t : Fin cfg0.N) : Memref sig .tc .vmem S8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8192x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32x128x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x32x128x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x32x1x256 .f32 := win0_14.stage (cfg0.slots t 14)
abbrev hs0_14 (t : Fin cfg0.N) : (ms0_14 t).IsWhole := hstage0_14 ((cfg0.slots t 14).cast nbuf0_14)
abbrev scM0_0 : Memref sig .tc .vmem S1024x128 .f32 := Memref.whole cc0_scratch0
abbrev scM0_1 : Memref sig .tc .vmem S1024x128 .f32 := Memref.whole cc0_scratch1
abbrev scM0_2 : Memref sig .tc .vmem S1024x128 .f32 := Memref.whole cc0_scratch2

/-- The region's invariant: the three scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What each point leaves -/

/-- The arrays the chunks of point `t` read. -/
def inp (c : Dev nD) (t : Fin cfg0.N) : Inp F :=
  ⟨iblk m c 0 t, iblk m c 3 t, iblk m c 5 t, iblk m c 6 t, iblk m c 8 t, iblk m c 9 t⟩

/-- The keys and values of point `t`. -/
def blk (c : Dev nD) (t : Fin cfg0.N) : Blk F := ⟨iblk m c 1 t, iblk m c 2 t, k0_pay28 (iblk m c 4 t), k0_pay29 (iblk m c 7 t)⟩

/-- The gradients shared by a head's blocks, as the first `n` points leave them. -/
def shared (c : Dev nD) : ℕ → Vec F S1x32x128x256 .f32 × Vec F S1x32x1x256 .f32
  | 0 => (k0_pay23, k0_pay24)
  | n + 1 => if h : n < cfg0.N then
      (lastDq (blkOf (grid0.coords ⟨n, h⟩)) (ended (blkOf (grid0.coords ⟨n, h⟩)) (blk m c ⟨n, h⟩) (inp m c ⟨n, h⟩) (shared c n).1 (shared c n).2),
        (ended (blkOf (grid0.coords ⟨n, h⟩)) (blk m c ⟨n, h⟩) (inp m c ⟨n, h⟩) (shared c n).1 (shared c n).2).dcq)
    else shared c n

/-- The arrays a point's chunks change, at their end. -/
def endedAt (c : Dev nD) (t : Fin cfg0.N) : Acc F :=
  ended (blkOf (grid0.coords t)) (blk m c t) (inp m c t) (shared m c t.val).1 (shared m c t.val).2

theorem shared_succ (c : Dev nD) (t : Fin cfg0.N) :
    shared m c (t.val + 1) = (lastDq (blkOf (grid0.coords t)) (endedAt m c t), (endedAt m c t).dcq) := by
  rw [shared, dif_pos t.isLt]; rfl

/-- The proof data: the arrays as the region finds them, and what every window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => k0_pay3 (endedAt m c t).dk
    | ⟨11, _⟩ => k0_pay4 (endedAt m c t).dv
    | ⟨12, _⟩ => k0_pay5 (endedAt m c t).dc
    | ⟨13, _⟩ => (shared m c (t.val + 1)).1
    | ⟨14, _⟩ => (shared m c (t.val + 1)).2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = k0_pay3 (endedAt m c t).dk := by dsimp only [dats]
theorem after0_11 (c : Dev nD) (t : Fin cfg0.N) : (dats m 0 c).after 11 t = k0_pay4 (endedAt m c t).dv := by dsimp only [dats]
theorem after0_12 (c : Dev nD) (t : Fin cfg0.N) : (dats m 0 c).after 12 t = k0_pay5 (endedAt m c t).dc := by dsimp only [dats]
theorem after0_13 (c : Dev nD) (t : Fin cfg0.N) : (dats m 0 c).after 13 t = (shared m c (t.val + 1)).1 := by dsimp only [dats]
theorem after0_14 (c : Dev nD) (t : Fin cfg0.N) : (dats m 0 c).after 14 t = (shared m c (t.val + 1)).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The block of a point is the point modulo eight. -/
theorem blkOf_val (t : Fin cfg0.N) : (blkOf (grid0.coords t)).val = t.val % 8 := by
  have e1 : (grid0.coords t 1).val = t.val / 1 % 8 := Pipeline.Grid.coords_val t 1 (by decide) rfl
  rw [Nat.div_one] at e1; exact e1

/-- A head's later blocks find the shared gradients as the block before left them. -/
theorem before0_13 (c : Dev nD) (t : Fin cfg0.N) (h : t.val % 8 ≠ 0) (d) : (dats m 0 c).before 13 t d = (shared m c t.val).1 := by
  rw [Dat.before_out_kept (dats m 0 c) 13 rfl t (fun e => h (by rw [e])) (by
    rw [Bool.eq_false_iff]; intro hf; have := (flush0_13 _).1 hf; dsimp only at this; omega) (fun _ => rfl) (fun _ _ => rfl), after0_13]
  dsimp only
  rw [Nat.sub_add_cancel (Nat.one_le_iff_ne_zero.2 fun e => h (by rw [e]))]

theorem before0_14 (c : Dev nD) (t : Fin cfg0.N) (h : t.val % 8 ≠ 0) (d) : (dats m 0 c).before 14 t d = (shared m c t.val).2 := by
  rw [Dat.before_out_kept (dats m 0 c) 14 rfl t (fun e => h (by rw [e])) (by
    rw [Bool.eq_false_iff]; intro hf; have := (flush0_14 _).1 hf; dsimp only at this; omega) (fun _ => rfl) (fun _ _ => rfl), after0_14]
  dsimp only
  rw [Nat.sub_add_cancel (Nat.one_le_iff_ne_zero.2 fun e => h (by rw [e]))]

/-- What a point's chunks end with does not depend on what a head's first block finds: it is reset. -/
theorem ended_before (c : Dev nD) (t : Fin cfg0.N) (d d') :
    ended (blkOf (grid0.coords t)) ⟨iblk m c 1 t, iblk m c 2 t, k0_pay28 (iblk m c 4 t), k0_pay29 (iblk m c 7 t)⟩ (inp m c t) ((dats m 0 c).before 13 t d) ((dats m 0 c).before 14 t d') = endedAt m c t := by
  unfold endedAt
  by_cases h : t.val % 8 = 0
  · have e : blkOf (grid0.coords t) = 0 := Fin.ext ((blkOf_val t).trans h)
    rw [e]; rfl
  · rw [before0_13 m c t h, before0_14 m c t h]; rfl

/-! ## The body's triple -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.castSucc = Pipeline.ΦA spec0 c from rfl, PhiA0_eq, shared_succ]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (point_run c (grid0.coords t) _ _ _ _ _ _ _ _ _ _ _ _ _ _ _ _ _ _ _ _ _ _ _ _ _ _ _ _ _ _ _ _ _ _ _ _  Set.univ (inp m c t) (iblk m c 1 t) (iblk m c 2 t) (iblk m c 4 t) (iblk m c 7 t)
    ((dats m 0 c).before 13 t d13) ((dats m 0 c).before 14 t d14))
  rw [ended_before m c t d13 d14]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [H14]; · iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends with the arrays as the proof data say, and every semaphore at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.FoxBody

end
-- ==== Proof.Math.lean ====
/-
  The mathematics of the gradient, over the real numbers and free of programs. Positions, heads and features are
  natural numbers. The weights of a query are the softmax of its logits over the positions up to its own; what is
  added to all logits of a query alike (its own gate) drops out.
-/
module

public import Mathlib.Analysis.SpecialFunctions.Pow.Real
public import Mathlib.Data.EReal.Operations

@[expose] public section

noncomputable section

namespace Cert.FoxMath

open Finset

/-- The sources: the array that holds q, k and v side by side, the output's gradient, and the summed log gates. -/
structure Src where
  u : ℕ → ℕ → ℝ
  g : ℕ → ℕ → ℝ
  c : ℕ → ℕ → ℝ

/-- 1/√128. -/
def sc : ℝ := (Real.sqrt 128)⁻¹

variable (R : Src) (h t s d : ℕ)

def Src.q : ℝ := R.u t (128 * h + d)
def Src.k : ℝ := R.u s (1024 + (128 * h + d))
def Src.v : ℝ := R.u s (2048 + (128 * h + d))
def Src.o : ℝ := R.g t (128 * h + d)

/-- The product of query `t` and key `s`. -/
def Src.qk : ℝ := ∑ d ∈ range 128, R.q h t d * R.k h s d

/-- The logit, without the query's own gate. -/
def Src.logit : ℝ := R.qk h t s * sc - R.c s h

/-- The sum of the exponentials of a query's logits. -/
def Src.mass : ℝ := ∑ s ∈ range 8192, if s ≤ t then Real.exp (R.logit h t s) else 0

/-- The softmax weight. -/
def Src.w : ℝ := if s ≤ t then Real.exp (R.logit h t s) / R.mass h t else 0

/-- The gradient of the weight. -/
def Src.dp : ℝ := ∑ d ∈ range 128, R.o h t d * R.v h s d

/-- The mean, under a query's weights, of the weights' gradients. -/
def Src.mean : ℝ := ∑ s ∈ range 8192, R.w h t s * R.dp h t s

/-- The gradient of the logit. -/
def Src.ds : ℝ := R.w h t s * (R.dp h t s - R.mean h t)

def Src.dv : ℝ := ∑ t ∈ range 8192, R.w h t s * R.o h t d
def Src.dk : ℝ := (∑ t ∈ range 8192, R.ds h t s * R.q h t d) * sc
def Src.dck : ℝ := -∑ t ∈ range 8192, R.ds h t s
def Src.dq : ℝ := (∑ s ∈ range 8192, R.ds h t s * R.k h s d) * sc
def Src.dcq : ℝ := ∑ s ∈ range 8192, R.ds h t s

variable {R h t s d}

theorem w_of_lt (H : t < s) : R.w h t s = 0 := if_neg (by omega)

theorem ds_of_lt (H : t < s) : R.ds h t s = 0 := by rw [Src.ds, w_of_lt H, zero_mul]

theorem mass_pos (H : t < 8192) : 0 < R.mass h t := by
  refine sum_pos' (fun s _ => ?_) ⟨t, mem_range.2 H, ?_⟩
  · split
    · exact (Real.exp_pos _).le
    · exact le_rfl
  · rw [if_pos le_rfl]; exact Real.exp_pos _

/-- Shifting all logits of a query by `a` multiplies their exponentials by a common factor. -/
theorem mass_shift (a : ℝ) : (∑ s ∈ range 8192, if s ≤ t then Real.exp (R.logit h t s - a) else 0) = R.mass h t * Real.exp (-a) := by
  rw [Src.mass, sum_mul]
  refine sum_congr rfl fun s _ => ?_
  split
  · rw [sub_eq_add_neg, Real.exp_add]
  · rw [zero_mul]

/-- The quotient of shifted exponentials is the weight, whatever the shift. -/
theorem w_shift (a : ℝ) : (if s ≤ t then Real.exp (R.logit h t s - a) else 0) / (R.mass h t * Real.exp (-a)) = R.w h t s := by
  unfold Src.w
  split
  · rw [sub_eq_add_neg, Real.exp_add, mul_div_mul_right _ _ (Real.exp_ne_zero _)]
  · rw [zero_div]

/-- The log of a query's mass, from any shift. -/
theorem log_shift (H : t < 8192) (a : ℝ) : a + Real.log (R.mass h t * Real.exp (-a)) = Real.log (R.mass h t) := by
  rw [Real.log_mul (mass_pos H).ne' (Real.exp_ne_zero _), Real.log_exp]; ring

/-- The weight as a power of two, with the logit and the mass's log in base two. -/
theorem w_pow (H : t < 8192) (Hs : s ≤ t) :
    Real.rpow 2 (R.qk h t s * (sc * (Real.log 2)⁻¹) - R.c s h * (Real.log 2)⁻¹ - Real.log (R.mass h t) * (Real.log 2)⁻¹) = R.w h t s := by
  have l2 : Real.log 2 ≠ 0 := (Real.log_pos one_lt_two).ne'
  have e : R.qk h t s * (sc * (Real.log 2)⁻¹) - R.c s h * (Real.log 2)⁻¹ - Real.log (R.mass h t) * (Real.log 2)⁻¹
      = (R.logit h t s - Real.log (R.mass h t)) / Real.log 2 := by
    rw [Src.logit]; field_simp
  rw [e, Real.rpow_eq_pow, Real.rpow_def_of_pos two_pos, mul_div_cancel₀ _ l2, Real.exp_sub, Real.exp_log (mass_pos H), Src.w, if_pos Hs]

/-- Exchange of the two sums in the mean: features first is the output's form. -/
theorem mean_out : (∑ d ∈ range 128, (∑ s ∈ range 8192, R.v h s d * R.w h t s) * R.o h t d) = R.mean h t := by
  unfold Src.mean Src.dp
  simp_rw [sum_mul, mul_sum]
  rw [sum_comm]
  exact sum_congr rfl fun s _ => sum_congr rfl fun d _ => by ring

/-- A sum over positions, chunk by chunk. -/
theorem sum_chunks (f : ℕ → ℝ) (n w : ℕ) : ∑ i ∈ range (n * w), f i = ∑ a ∈ range n, ∑ b ∈ range w, f (w * a + b) := by
  induction n with
  | zero => simp
  | succ n ih => rw [Nat.succ_mul, sum_range_add, ih, sum_range_succ]; congr 1; exact sum_congr rfl fun b _ => by rw [mul_comm]

/-- A sum whose first `a` terms vanish. -/
theorem sum_skip (f : ℕ → ℝ) (a n : ℕ) (ha : a ≤ n) (H : ∀ i < a, f i = 0) : ∑ i ∈ range n, f i = ∑ i ∈ range (n - a), f (a + i) := by
  obtain ⟨b, rfl⟩ := Nat.exists_eq_add_of_le ha
  rw [sum_range_add, sum_eq_zero fun i hi => H i (mem_range.1 hi), zero_add, Nat.add_sub_cancel_left]

/-- The sum over the keys' positions seen from a query's chunk stops at the block that holds it. -/
theorem sum_stop (f : ℕ → ℝ) (a n : ℕ) (ha : a ≤ n) (H : ∀ i, a ≤ i → f i = 0) : ∑ i ∈ range n, f i = ∑ i ∈ range a, f i := by
  obtain ⟨b, rfl⟩ := Nat.exists_eq_add_of_le ha
  rw [sum_range_add, sum_eq_zero (s := range b) fun i _ => H _ (by omega), add_zero]

/-- A finite sum of reals among the extended reals. -/
theorem coe_sum {n : ℕ} (f : ℕ → ℝ) : (∑ i : Fin n, ((f i.val : ℝ) : EReal)) = ((∑ i ∈ range n, f i : ℝ) : EReal) := by
  rw [Finset.sum_range]
  induction n with
  | zero => simp
  | succ n ih => rw [Fin.sum_univ_castSucc, Fin.sum_univ_castSucc, EReal.coe_add]; exact congrArg (· + _) ih

end Cert.FoxMath

end
-- ==== Proof.Extended.lean ====
/-
  Facts about words and extended reals that both programs' values need.
-/
module

public import proofs.«01_k».proof.Proof.Math
public import Idealize.ShloMosaic.Lib.Pointwise

@[expose] public section

noncomputable section

namespace Cert.FoxMath

open Idealize.ShloMosaic

/-- Words of small naturals compare as the naturals. -/
theorem sle_small {a b : ℕ} (ha : a < 2 ^ 31) (hb : b < 2 ^ 31) :
    IntOp.cmpi .sle (BitVec.ofNat 32 a) (BitVec.ofNat 32 b) = BitVec.ofBool (decide (a ≤ b)) := by
  have e : ∀ n : ℕ, n < 2 ^ 31 → (BitVec.ofNat 32 n).toInt = n := fun n hn => by
    rw [BitVec.toInt_eq_toNat_of_lt (by rw [BitVec.toNat_ofNat]; omega), BitVec.toNat_ofNat]; omega
  unfold IntOp.cmpi
  simp only [BitVec.sle_eq_decide, e a ha, e b hb, Int.ofNat_le]

/-- The greatest of finitely many extended reals of which one is a real and the others are reals or −∞ is a real. -/
theorem max_real {n t : ℕ} (H : t < n) (f : ℕ → ℝ) :
    ∃ M : ℝ, Finset.univ.fold max (⊥ : EReal) (fun k : Fin n => if k.val ≤ t then ((f k.val : ℝ) : EReal) else ⊥) = (M : EReal) := by
  refine ⟨_, (EReal.coe_toReal ?_ ?_).symm⟩
  · refine ne_of_lt ((Finset.fold_max_lt _).2 ⟨bot_lt_top, fun k _ => ?_⟩)
    split
    · exact EReal.coe_lt_top _
    · exact bot_lt_top
  · refine ne_of_gt ((Finset.lt_fold_max _).2 (.inr ⟨⟨t, H⟩, Finset.mem_univ _, ?_⟩))
    rw [if_pos le_rfl]; exact EReal.bot_lt_coe _

/-- Adding two reals one after the other onto an extended real. -/
theorem add_coe_coe (a : EReal) (x y : ℝ) : a + (x : EReal) + (y : EReal) = a + ((x + y : ℝ) : EReal) := by
  rw [add_assoc, EReal.coe_add]

end Cert.FoxMath

end
-- ==== Proof.HostValue.lean ====
/-
  What the host code hands to the kernel: the transposed layouts, the gates in base two, and, from the forward pass, every
  query's log mass and the product of its output with the incoming gradient.
-/
module

public import proofs.«01_k».proof.Proof.Extended
public import proofs.«01_k».proof.Proof.Gen.KernelIdeal

@[expose] public section

set_option maxRecDepth 16384

noncomputable section

namespace Cert.KernelIdeal.FoxHost

open Idealize.ShloMosaic Cert.KernelIdeal Cert.KernelIdeal.Gen Cert.FoxMath

variable (u : FVec Ideal S8192x13824 .bf16) (g : FVec Ideal S8192x1024 .bf16) (a : FVec Ideal S8192x8 .f32)

/-! ## The terms -/

def queries : FVec Ideal S8192x8x128 .f32 :=
  shapeCast _ (extf .f32 (extractStridedSlice S8192x1024 ![0, 0] u slices_S8192x13824_S8192x1024_0_0) bitsLt_bf16_f32) shapeCasts_S8192x1024_S8192x8x128

def keys : FVec Ideal S8192x8x128 .f32 :=
  shapeCast _ (extf .f32 (extractStridedSlice S8192x1024 ![0, 1024] u slices_S8192x13824_S8192x1024_0_1024) bitsLt_bf16_f32) shapeCasts_S8192x1024_S8192x8x128

def values : FVec Ideal S8192x8x128 .f32 :=
  shapeCast _ (extf .f32 (extractStridedSlice S8192x1024 ![0, 2048] u slices_S8192x13824_S8192x1024_0_2048) bitsLt_bf16_f32) shapeCasts_S8192x1024_S8192x8x128

/-- The queries as [head, chunk, feature, position]. -/
def queriesT : FVec Ideal S8x32x128x256 .bf16 :=
  transpose S8x32x128x256 [2, 0, 3, 1] (shapeCast S32x256x8x128 (extractStridedSlice S8192x1024 ![0, 0] u slices_S8192x13824_S8192x1024_0_0)
    shapeCasts_S8192x1024_S32x256x8x128) transposes_S32x256x8x128_S8x32x128x256_2_0_3_1

/-- The keys as [head, block, feature, position]. -/
def keysT : FVec Ideal S8x8x128x1024 .bf16 :=
  transpose S8x8x128x1024 [2, 0, 3, 1] (shapeCast S8x1024x8x128 (extractStridedSlice S8192x1024 ![0, 1024] u slices_S8192x13824_S8192x1024_0_1024)
    shapeCasts_S8192x1024_S8x1024x8x128) transposes_S8x1024x8x128_S8x8x128x1024_2_0_3_1

/-- The incoming gradient as [head, chunk, feature, position]. -/
def gradT : FVec Ideal S8x32x128x256 .bf16 :=
  transpose S8x32x128x256 [2, 0, 3, 1] (shapeCast S32x256x8x128 g shapeCasts_S8192x1024_S32x256x8x128) transposes_S32x256x8x128_S8x32x128x256_2_0_3_1

def ln2 : FVec Ideal S_ .f32 := Host.log (constant S_ .f32 0x40000000#32)

/-- The gates over log 2, one column per head. -/
def gates : FVec Ideal S8x8192x1 .f32 :=
  broadcastInDim S8x8192x1 ![0, 1] bcast_S8x8192_S8x8192x1_0_1
    (transpose S8x8192 [1, 0] (Host.divf a (broadcastInDim S8192x8 ![] bcast_S_S8192x8 ln2)) transposes_S8192x8_S8x8192_1_0)

/-- Which keys a query sees. -/
def seen : IVec S8x8192x8192 1 :=
  broadcastInDim S8x8192x8192 ![1, 2] bcast_S8192x8192_S8x8192x8192_1_2 (cmpi .sle
    (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))

/-- The logits, minus infinity where the key is not seen. -/
def logits : FVec Ideal S8x8192x8192 .f32 :=
  select seen (subf (mulf (Host.dotGeneral dot_S8192x8x128_S8192x8x128_S8x8192x8192_2_2_0_0_1_1 none (queries u) (keys u))
      (broadcastInDim S8x8192x8192 ![] bcast_S_S8x8192x8192 (Host.rsqrt (constant S_ .f32 0x43000000#32))))
    (broadcastInDim S8x8192x8192 ![0, 1, 2] bcast_S8x1x8192_S8x8192x8192_0_1_2 (broadcastInDim S8x1x8192 ![0, 2] bcast_S8x8192_S8x1x8192_0_2
      (transpose S8x8192 [1, 0] a transposes_S8192x8_S8x8192_1_0))))
    (broadcastInDim S8x8192x8192 ![] bcast_S_S8x8192x8192 (constant S_ .f32 0xFF800000#32))

/-- Every query's greatest logit. -/
def top : FVec Ideal S8x8192 .f32 :=
  Host.reduce FloatOps.maximumf (logits u a) (constant S_ .f32 0xFF800000#32) reducesTo_S8x8192x8192_S8x8192_d2 h_S_

/-- One number per query, at every key. -/
def spread (x : FVec Ideal S8x8192 .f32) : FVec Ideal S8x8192x8192 .f32 :=
  broadcastInDim S8x8192x8192 ![0, 1, 2] bcast_S8x8192x1_S8x8192x8192_0_1_2 (broadcastInDim S8x8192x1 ![0, 1] bcast_S8x8192_S8x8192x1_0_1 x)

def exps : FVec Ideal S8x8192x8192 .f32 := Host.exp (subf (logits u a) (spread (top u a)))

def total : FVec Ideal S8x8192 .f32 :=
  Host.reduceAdd (exps u a) (constant S_ .f32 0x00000000#32) reducesTo_S8x8192x8192_S8x8192_d2 h_S_

/-- The log of a total, on top of a shift, over log 2. -/
def logOver (x y : FVec Ideal S8x8192 .f32) : FVec Ideal S8x32x1x256 .f32 :=
  shapeCast _ (Host.divf (addf x (Host.log y)) (broadcastInDim S8x8192 ![] bcast_S_S8x8192 ln2)) shapeCasts_S8x8192_S8x32x1x256

/-- The log of every query's mass, over log 2. -/
def logMass : FVec Ideal S8x32x1x256 .f32 := logOver (top u a) (total u a)

/-- The attention's output. -/
def output : FVec Ideal S8192x8x128 .f32 :=
  transpose S8192x8x128 [2, 0, 1] (Host.dotGeneral dot_S8192x8x128_S8x8192x8192_S8x128x8192_0_2_2_1_1_0 none (values u)
    (Host.divf (exps u a) (spread (total u a)))) transposes_S8x128x8192_S8192x8x128_2_0_1

/-- The output times the incoming gradient. -/
def products : FVec Ideal S8x32x1x256 .f32 :=
  shapeCast _ (transpose S8x8192 [1, 0] (Host.reduceAdd (mulf (output u a) (shapeCast _ (extf .f32 g bitsLt_bf16_f32) shapeCasts_S8192x1024_S8192x8x128))
    (constant S_ .f32 0x00000000#32) reducesTo_S8192x8x128_S8192x8_d2 h_S_) transposes_S8192x8_S8x8192_1_0) shapeCasts_S8x8192_S8x32x1x256

/-! ## The terms, entry by entry -/

theorem col_lt (h : Fin 8) (d : Fin 128) : 128 * h.val + d.val < 1024 := by omega
theorem chunk_lt (n : Fin 32) (c : Fin 256) : 256 * n.val + c.val < 8192 := by omega
theorem block_lt (j : Fin 8) (r : Fin 1024) : 1024 * j.val + r.val < 8192 := by omega

theorem queries_apply (t : Fin 8192) (h : Fin 8) (d : Fin 128) :
    queries u (ix3 t h d) = u (ix2 t ⟨128 * h.val + d.val, by omega⟩) := by
  pointwise [queries]
  simp only [Nat.mul_comm]

theorem keys_apply (t : Fin 8192) (h : Fin 8) (d : Fin 128) :
    keys u (ix3 t h d) = u (ix2 t ⟨1024 + (128 * h.val + d.val), by omega⟩) := by
  pointwise [keys]
  simp only [Nat.mul_comm]

theorem values_apply (t : Fin 8192) (h : Fin 8) (d : Fin 128) :
    values u (ix3 t h d) = u (ix2 t ⟨2048 + (128 * h.val + d.val), by omega⟩) := by
  pointwise [values]
  simp only [Nat.mul_comm]

theorem queriesT_apply (h : Fin 8) (n : Fin 32) (d : Fin 128) (c : Fin 256) :
    queriesT u (ix4 h n d c) = u (ix2 ⟨256 * n.val + c.val, chunk_lt n c⟩ ⟨128 * h.val + d.val, by omega⟩) := by
  pointwise [queriesT]
  simp only [Nat.mul_comm]

theorem keysT_apply (h j : Fin 8) (d : Fin 128) (r : Fin 1024) :
    keysT u (ix4 h j d r) = u (ix2 ⟨1024 * j.val + r.val, block_lt j r⟩ ⟨1024 + (128 * h.val + d.val), by omega⟩) := by
  pointwise [keysT]
  simp only [Nat.mul_comm]

theorem gradT_apply (h : Fin 8) (n : Fin 32) (d : Fin 128) (c : Fin 256) :
    gradT g (ix4 h n d c) = g (ix2 ⟨256 * n.val + c.val, chunk_lt n c⟩ ⟨128 * h.val + d.val, col_lt h d⟩) := by
  pointwise [gradT]
  simp only [Nat.mul_comm]

theorem two_bits : Ideal.ofBits .f32 0x40000000#32 = ((2 : ℝ) : EReal) := by
  simp [Ideal.ofBits, Ideal.ieee]
  rw [← EReal.coe_mul]; norm_num

theorem ln2_apply (i : S_.Idx) : ln2 i = (Real.log 2 : EReal) := by
  show Ideal.log (Ideal.ofBits .f32 0x40000000#32) = _
  rw [two_bits, Ideal.log_coe, if_neg (by norm_num)]

theorem rsqrt128 : Ideal.rsqrt (Ideal.ofBits .f32 0x43000000#32) = (sc : EReal) := by
  rw [show Ideal.ofBits .f32 0x43000000#32 = ((128 : ℝ) : EReal) by simp [Ideal.ofBits, Ideal.ieee]; rw [← EReal.coe_mul]; norm_num]
  show (if (128 : ℝ) < 0 then (⊥ : EReal) else if (128 : ℝ) = 0 then ⊤ else ((Real.sqrt 128)⁻¹ : ℝ)) = _
  rw [if_neg (by norm_num), if_neg (by norm_num)]; rfl

theorem bot_bits : Ideal.ofBits .f32 0xFF800000#32 = (⊥ : EReal) := by
  simp [Ideal.ofBits, Ideal.ieee]

theorem gates_apply (h : Fin 8) (s : Fin 8192) : gates a (ix3 h s 0) = Ideal.div (a (ix2 s h)) (Real.log 2 : EReal) := by
  pointwise [gates]
  rw [ln2_apply]

theorem seen_apply (h : Fin 8) (t s : Fin 8192) : seen (ix3 h t s) = BitVec.ofBool (decide (s.val ≤ t.val)) := by
  pointwise [seen]
  exact sle_small (by omega) (by omega)

theorem logits_apply (h : Fin 8) (t s : Fin 8192) : logits u a (ix3 h t s) = if s.val ≤ t.val then
    (∑ d : Fin 128, queries u (ix3 t h d) * keys u (ix3 s h d)) * (sc : EReal) - a (ix2 s h) else ⊥ := by
  pointwise [logits]
  rw [seen_apply, Scalar.select_ofBool, rsqrt128, bot_bits]
  simp only [decide_eq_true_eq]

theorem top_apply (h : Fin 8) (t : Fin 8192) :
    top u a (ix2 h t) = Finset.univ.fold max (⊥ : EReal) (fun s : Fin 8192 => logits u a (ix3 h t s)) := by
  pointwise [top]
  rw [bot_bits]

theorem spread_apply (x : FVec Ideal S8x8192 .f32) (h : Fin 8) (t s : Fin 8192) : spread x (ix3 h t s) = x (ix2 h t) := by
  pointwise [spread]

theorem exps_apply (h : Fin 8) (t s : Fin 8192) : exps u a (ix3 h t s) = Ideal.exp (logits u a (ix3 h t s) - top u a (ix2 h t)) := by
  pointwise [exps]
  rw [spread_apply]

theorem total_apply (h : Fin 8) (t : Fin 8192) : total u a (ix2 h t) = ∑ s : Fin 8192, exps u a (ix3 h t s) := by
  pointwise [total]

theorem logOver_apply (x y : FVec Ideal S8x8192 .f32) (h : Fin 8) (n : Fin 32) (c : Fin 256) : logOver x y (ix4 h n 0 c)
    = Ideal.div (x (ix2 h ⟨256 * n.val + c.val, chunk_lt n c⟩) + Ideal.log (y (ix2 h ⟨256 * n.val + c.val, chunk_lt n c⟩))) (Real.log 2 : EReal) := by
  pointwise [logOver]
  rw [ln2_apply]
  simp only [Nat.mul_comm]

theorem logMass_apply (h : Fin 8) (n : Fin 32) (c : Fin 256) : logMass u a (ix4 h n 0 c)
    = Ideal.div (top u a (ix2 h ⟨256 * n.val + c.val, chunk_lt n c⟩) + Ideal.log (total u a (ix2 h ⟨256 * n.val + c.val, chunk_lt n c⟩))) (Real.log 2 : EReal) :=
  logOver_apply (top u a) (total u a) h n c

theorem output_apply (t : Fin 8192) (h : Fin 8) (d : Fin 128) : output u a (ix3 t h d)
    = ∑ s : Fin 8192, values u (ix3 s h d) * Ideal.div (exps u a (ix3 h t s)) (total u a (ix2 h t)) := by
  pointwise [output]
  simp only [spread_apply]

theorem products_apply (h : Fin 8) (n : Fin 32) (c : Fin 256) : products u g a (ix4 h n 0 c)
    = ∑ d : Fin 128, output u a (ix3 ⟨256 * n.val + c.val, chunk_lt n c⟩ h d) * g (ix2 ⟨256 * n.val + c.val, chunk_lt n c⟩ ⟨128 * h.val + d.val, col_lt h d⟩) := by
  pointwise [products]
  simp only [Nat.mul_comm]

end Cert.KernelIdeal.FoxHost

end
-- ==== Proof.HostReal.lean ====
/-
  What the host code hands to the kernel, over the reals: the log of every query's mass and the mean of its weights'
  gradients.
-/
module

public import proofs.«01_k».proof.Proof.HostValue

@[expose] public section

set_option maxRecDepth 16384

noncomputable section

namespace Cert.FoxMath

open Idealize.ShloMosaic

/-- The three arrays hold the sources. Of the first only q, k and v are read. -/
structure SrcIs (R : Src) (u : FVec Ideal ⟨2, ![8192, 13824]⟩ .bf16) (g : FVec Ideal ⟨2, ![8192, 1024]⟩ .bf16)
    (a : FVec Ideal ⟨2, ![8192, 8]⟩ .f32) : Prop where
  u : ∀ (t : Fin 8192) (x : Fin 13824), x.val < 3072 → u (ix2 t x) = (R.u t.val x.val : EReal)
  g : ∀ (t : Fin 8192) (x : Fin 1024), g (ix2 t x) = (R.g t.val x.val : EReal)
  c : ∀ (t : Fin 8192) (h : Fin 8), a (ix2 t h) = (R.c t.val h.val : EReal)

end Cert.FoxMath

namespace Cert.KernelIdeal.FoxHost

open Idealize.ShloMosaic Cert.KernelIdeal Cert.KernelIdeal.Gen Cert.FoxMath

variable {R : Src} {u : FVec Ideal S8192x13824 .bf16} {g : FVec Ideal S8192x1024 .bf16} {a : FVec Ideal S8192x8 .f32} (hS : SrcIs R u g a)

include hS

theorem queries_real (t : Fin 8192) (h : Fin 8) (d : Fin 128) : queries u (ix3 t h d) = (R.q h.val t.val d.val : EReal) := by
  rw [queries_apply, hS.u _ _ (by show 128 * h.val + d.val < 3072; omega)]; rfl

theorem keys_real (t : Fin 8192) (h : Fin 8) (d : Fin 128) : keys u (ix3 t h d) = (R.k h.val t.val d.val : EReal) := by
  rw [keys_apply, hS.u _ _ (by show 1024 + (128 * h.val + d.val) < 3072; omega)]; rfl

theorem values_real (t : Fin 8192) (h : Fin 8) (d : Fin 128) : values u (ix3 t h d) = (R.v h.val t.val d.val : EReal) := by
  rw [values_apply, hS.u _ _ (by show 2048 + (128 * h.val + d.val) < 3072; omega)]; rfl

theorem queriesT_real (h : Fin 8) (n : Fin 32) (d : Fin 128) (c : Fin 256) :
    queriesT u (ix4 h n d c) = (R.q h.val (256 * n.val + c.val) d.val : EReal) := by
  rw [queriesT_apply, hS.u _ _ (by show 128 * h.val + d.val < 3072; omega)]; rfl

theorem keysT_real (h j : Fin 8) (d : Fin 128) (r : Fin 1024) :
    keysT u (ix4 h j d r) = (R.k h.val (1024 * j.val + r.val) d.val : EReal) := by
  rw [keysT_apply, hS.u _ _ (by show 1024 + (128 * h.val + d.val) < 3072; omega)]; rfl

theorem gradT_real (h : Fin 8) (n : Fin 32) (d : Fin 128) (c : Fin 256) :
    gradT g (ix4 h n d c) = (R.o h.val (256 * n.val + c.val) d.val : EReal) := by
  rw [gradT_apply, hS.g]; rfl

omit hS in
theorem over_log2 (x : ℝ) : Ideal.div (x : EReal) (Real.log 2 : EReal) = ((x * (Real.log 2)⁻¹ : ℝ) : EReal) := by
  rw [Ideal.div_coe (Real.log_pos one_lt_two).ne', ← EReal.coe_mul, one_div]

theorem gates_real (h : Fin 8) (s : Fin 8192) : gates a (ix3 h s 0) = ((R.c s.val h.val * (Real.log 2)⁻¹ : ℝ) : EReal) := by
  rw [gates_apply, hS.c, over_log2]

theorem logits_real (h : Fin 8) (t s : Fin 8192) :
    logits u a (ix3 h t s) = if s.val ≤ t.val then ((R.logit h.val t.val s.val : ℝ) : EReal) else ⊥ := by
  rw [logits_apply]
  refine if_congr Iff.rfl ?_ rfl
  have e : (∑ d : Fin 128, queries u (ix3 t h d) * keys u (ix3 s h d)) = (R.qk h.val t.val s.val : EReal) := by
    rw [Src.qk, ← coe_sum]
    exact Finset.sum_congr rfl fun d _ => by rw [queries_real hS, keys_real hS, EReal.coe_mul]
  rw [e, hS.c, ← EReal.coe_mul, ← EReal.coe_sub]; rfl

theorem exists_top (h : Fin 8) (t : Fin 8192) : ∃ M : ℝ, top u a (ix2 h t) = (M : EReal) := by
  rw [top_apply]
  simp only [logits_real hS]
  exact max_real t.isLt fun s => R.logit h.val t.val s

variable {h : Fin 8} {t : Fin 8192} {M : ℝ} (hM : top u a (ix2 h t) = (M : EReal))

include hM

theorem exps_real (s : Fin 8192) :
    exps u a (ix3 h t s) = ((if s.val ≤ t.val then Real.exp (R.logit h.val t.val s.val - M) else 0 : ℝ) : EReal) := by
  rw [exps_apply, logits_real hS, hM]
  split
  · rw [← EReal.coe_sub, Ideal.exp_coe]
  · rw [EReal.bot_sub, Ideal.exp_bot, EReal.coe_zero]

theorem total_real : total u a (ix2 h t) = ((R.mass h.val t.val * Real.exp (-M) : ℝ) : EReal) := by
  rw [total_apply, ← mass_shift M, ← coe_sum]
  exact Finset.sum_congr rfl fun s _ => exps_real hS hM s

omit hM

theorem total_pos (h : Fin 8) (t : Fin 8192) (M : ℝ) : 0 < R.mass h.val t.val * Real.exp (-M) :=
  mul_pos (mass_pos t.isLt) (Real.exp_pos _)

theorem logMass_real (h : Fin 8) (n : Fin 32) (c : Fin 256) : logMass u a (ix4 h n 0 c)
    = ((Real.log (R.mass h.val (256 * n.val + c.val)) * (Real.log 2)⁻¹ : ℝ) : EReal) := by
  obtain ⟨M, hM⟩ := exists_top hS h ⟨256 * n.val + c.val, chunk_lt n c⟩
  rw [logMass_apply, total_real hS hM, hM, Ideal.log_coe, if_neg (not_le.2 (total_pos hS h _ M)), ← EReal.coe_add,
    log_shift (chunk_lt n c) M, over_log2]

theorem output_real (t : Fin 8192) (h : Fin 8) (d : Fin 128) :
    output u a (ix3 t h d) = ((∑ s ∈ Finset.range 8192, R.v h.val s d.val * R.w h.val t.val s : ℝ) : EReal) := by
  obtain ⟨M, hM⟩ := exists_top hS h t
  rw [output_apply, ← coe_sum]
  refine Finset.sum_congr rfl fun s _ => ?_
  rw [values_real hS, exps_real hS hM, total_real hS hM, Ideal.div_coe (total_pos hS h t M).ne', ← EReal.coe_mul, ← EReal.coe_mul,
    ← div_eq_mul_one_div, w_shift]

theorem products_real (h : Fin 8) (n : Fin 32) (c : Fin 256) :
    products u g a (ix4 h n 0 c) = (R.mean h.val (256 * n.val + c.val) : EReal) := by
  rw [products_apply, ← mean_out, ← coe_sum]
  refine Finset.sum_congr rfl fun d _ => ?_
  rw [output_real hS, hS.g, EReal.coe_mul]; rfl

end Cert.KernelIdeal.FoxHost

end
-- ==== Proof.ChunkValue.lean ====
/-
  The chunk's arithmetic read entry by entry at the ideal values.
-/
module

public import proofs.«01_k».proof.Proof.Block
public import proofs.«01_k».proof.Proof.Extended
public import Idealize.ShloMosaic.Lib.Pointwise

@[expose] public section

set_option maxRecDepth 16384

noncomputable section

namespace Cert.KernelIdeal.FoxBody

open Idealize.ShloMosaic Cert.KernelIdeal Cert.KernelIdeal.Gen Cert.FoxMath

theorem scores_apply (k : Vec Ideal S1024x128 .bf16) (ck : FVec Ideal S1024x1 .f32) (qt : Vec Ideal S1x1x128x256 .bf16)
    (r : Fin 1024) (c : Fin 256) :
    scores k ck qt (ix2 r c) = (∑ x : Fin 128, k (ix2 r x) * qt (ix4 0 0 x c))
      * ((sc * (Real.log 2)⁻¹ : ℝ) : EReal) - ck (ix2 r 0) := by
  pointwise [scores]
  rw [IdealRules.named_const.ideal_named_scalar (κ := κ) (name := "scale2") _ _ rfl]; rfl

theorem weights_apply (m : Change Ideal) (k : Vec Ideal S1024x128 .bf16) (ck : FVec Ideal S1024x1 .f32) (qt : Vec Ideal S1x1x128x256 .bf16)
    (lse : Vec Ideal S1x1x1x256 .f32) (r : Fin 1024) (c : Fin 256) :
    weights m k ck qt lse (ix2 r c) = Ideal.exp2 (m (scores k ck qt) (ix2 r c) - lse (ix4 0 0 0 c)) := by
  pointwise [weights]
  rfl

theorem masked_apply (s : FVec Ideal S1024x256 .f32) (o : ℕ) (ho : o < 2 ^ 30) (r : Fin 1024) (c : Fin 256) :
    masked (BitVec.ofNat 32 o) s (ix2 r c) = if r.val ≤ c.val + o then s (ix2 r c) else ⊥ := by
  pointwise [masked]
  rw [IdealRules.named_const.ideal_named_scalar (κ := κ) (name := "mask") _ _ rfl]
  have e : IntOp.addi (BitVec.ofNat 32 c.val) (BitVec.ofNat 32 o) = BitVec.ofNat 32 (c.val + o) := by
    rw [BitVec.ofNat_add]; rfl
  rw [e]
  rw [sle_small (by omega) (by omega), Scalar.select_ofBool]
  by_cases h : r.val ≤ c.val + o <;> simp [h]

theorem dscores_apply (p : FVec Ideal S1024x256 .f32) (v : Vec Ideal S1024x128 .bf16) (gt : Vec Ideal S1x1x128x256 .bf16) (dl : Vec Ideal S1x1x1x256 .f32)
    (r : Fin 1024) (c : Fin 256) :
    dscores p v gt dl (ix2 r c) = p (ix2 r c) * ((∑ x : Fin 128, v (ix2 r x) * gt (ix4 0 0 x c)) - dl (ix4 0 0 0 c)) := by
  pointwise [dscores]

theorem addTile_apply (w : FVec Ideal S1024x256 .f32) (acc : Vec Ideal S1024x128 .f32) (x : Vec Ideal S256x128 .bf16) (r : Fin 1024) (d : Fin 128) :
    addTile w acc x (ix2 r d) = acc (ix2 r d) + ∑ c : Fin 256, w (ix2 r c) * x (ix2 c d) := by
  pointwise [addTile]

theorem addDq_apply (ds : FVec Ideal S1024x256 .f32) (kt : FVec Ideal S128x1024 .bf16) (acc : Vec Ideal S1x1x128x256 .f32) (d : Fin 128) (c : Fin 256) :
    addDq ds kt acc (ix4 0 0 d c) = acc (ix4 0 0 d c) + ∑ r : Fin 1024, kt (ix2 d r) * ds (ix2 r c) := by
  pointwise [addDq]

theorem addDcq_apply (ds : FVec Ideal S1024x256 .f32) (acc : Vec Ideal S1x1x1x256 .f32) (c : Fin 256) :
    addDcq ds acc (ix4 0 0 0 c) = acc (ix4 0 0 0 c) + ∑ r : Fin 1024, ds (ix2 r c) := by
  pointwise [addDcq]

theorem addDc_apply (ds : FVec Ideal S1024x256 .f32) (acc : Vec Ideal S1024x128 .f32) (r : Fin 1024) (d : Fin 128) :
    addDc ds acc (ix2 r d) = acc (ix2 r d) + (ds (ix2 r ⟨d.val, by omega⟩) + ds (ix2 r ⟨128 + d.val, by omega⟩)) := by
  pointwise [addDc]

end Cert.KernelIdeal.FoxBody

end
-- ==== Proof.BlockValue.lean ====
/-
  What one chunk and one block add to the gradients, over the reals.
-/
module

public import proofs.«01_k».proof.Proof.ChunkValue

@[expose] public section

set_option maxRecDepth 16384

noncomputable section

namespace Cert.KernelIdeal.FoxBody

open Idealize.ShloMosaic Cert.KernelIdeal Cert.KernelIdeal.Gen Cert.FoxMath Finset

/-! ## Rows of the arrays -/

theorem row4_apply {e : EltTy} (x : Vec Ideal S1x32x128x256 e) (n : Fin 32) (d : Fin 128) (c : Fin 256) :
    row4 x n (ix4 0 0 d c) = x (ix4 0 n d c) :=
  congrArg x (funext fun a => Fin.ext (by
    fin_cases a
    · rfl
    · show n.val + 1 * 0 = n.val; omega
    · show 0 + 1 * d.val = d.val; omega
    · show 0 + 1 * c.val = c.val; omega))

theorem row3_apply {e : EltTy} (x : Vec Ideal S1x32x1x256 e) (n : Fin 32) (c : Fin 256) :
    row3 x n (ix4 0 0 0 c) = x (ix4 0 n 0 c) :=
  congrArg x (funext fun a => Fin.ext (by
    fin_cases a
    · rfl
    · show n.val + 1 * 0 = n.val; omega
    · rfl
    · show 0 + 1 * c.val = c.val; omega))

theorem pos_lt (n : Fin 32) (c : Fin 256) : 256 * n.val + c.val < 8192 := by omega

theorem rows_apply {e : EltTy} (x : Vec Ideal S8192x128 e) (n : Fin 32) (c : Fin 256) (d : Fin 128) :
    rows x n (ix2 c d) = x (ix2 ⟨256 * n.val + c.val, pos_lt n c⟩ d) :=
  congrArg x (funext fun a => Fin.ext (by
    fin_cases a
    · show 256 * n.val + 1 * c.val = 256 * n.val + c.val; omega
    · show 0 + 1 * d.val = d.val; omega))

theorem put4_apply (x : Vec Ideal S1x32x128x256 .f32) (n m : Fin 32) (w : Vec Ideal S1x1x128x256 .f32) (d : Fin 128) (c : Fin 256) :
    (VecWindow.put x ![0, n.val, 0, 0] S1x1x128x256.size w : Vec Ideal S1x32x128x256 .f32) (ix4 0 m d c)
      = if m = n then w (ix4 0 0 d c) else x (ix4 0 m d c) := by
  unfold VecWindow.put
  by_cases h : m = n
  · subst h
    rw [if_pos rfl, dif_pos (by
      intro a; fin_cases a
      · exact ⟨Nat.zero_le _, Nat.one_pos⟩
      · exact ⟨le_rfl, Nat.lt_succ_self _⟩
      · exact ⟨Nat.zero_le _, (Nat.zero_add 128).symm ▸ d.isLt⟩
      · exact ⟨Nat.zero_le _, (Nat.zero_add 256).symm ▸ c.isLt⟩)]
    refine congrArg w (funext fun a => Fin.ext ?_)
    fin_cases a
    · rfl
    · exact Nat.sub_self m.val
    · exact Nat.sub_zero d.val
    · exact Nat.sub_zero c.val
  · rw [if_neg h, dif_neg]
    intro hall
    have h1 : n.val ≤ m.val ∧ m.val < n.val + 1 := hall 1
    exact h (Fin.ext (by omega))

theorem put3_apply (x : Vec Ideal S1x32x1x256 .f32) (n m : Fin 32) (w : Vec Ideal S1x1x1x256 .f32) (c : Fin 256) :
    (VecWindow.put x ![0, n.val, 0, 0] S1x1x1x256.size w : Vec Ideal S1x32x1x256 .f32) (ix4 0 m 0 c)
      = if m = n then w (ix4 0 0 0 c) else x (ix4 0 m 0 c) := by
  unfold VecWindow.put
  by_cases h : m = n
  · subst h
    rw [if_pos rfl, dif_pos (by
      intro a; fin_cases a
      · exact ⟨Nat.zero_le _, Nat.one_pos⟩
      · exact ⟨le_rfl, Nat.lt_succ_self _⟩
      · exact ⟨Nat.zero_le _, Nat.one_pos⟩
      · exact ⟨Nat.zero_le _, (Nat.zero_add 256).symm ▸ c.isLt⟩)]
    refine congrArg w (funext fun a => Fin.ext ?_)
    fin_cases a
    · rfl
    · exact Nat.sub_self m.val
    · rfl
    · exact Nat.sub_zero c.val
  · rw [if_neg h, dif_neg]
    intro hall
    have h1 : n.val ≤ m.val ∧ m.val < n.val + 1 := hall 1
    exact h (Fin.ext (by omega))

/-! ## What the arrays hold -/

/-- The arrays a chunk of head `h` reads hold that head's queries and output gradients, and the logs of the masses in base two
    and the means. -/
structure InpIs (R : Src) (h : ℕ) (X : Inp Ideal) : Prop where
  q : ∀ (t : Fin 8192) (d : Fin 128), X.q (ix2 t d) = (R.q h t.val d.val : EReal)
  g : ∀ (t : Fin 8192) (d : Fin 128), X.g (ix2 t d) = (R.o h t.val d.val : EReal)
  qt : ∀ (n : Fin 32) (d : Fin 128) (c : Fin 256), X.qt (ix4 0 n d c) = (R.q h (256 * n.val + c.val) d.val : EReal)
  gt : ∀ (n : Fin 32) (d : Fin 128) (c : Fin 256), X.gt (ix4 0 n d c) = (R.o h (256 * n.val + c.val) d.val : EReal)
  lse : ∀ (n : Fin 32) (c : Fin 256), X.lse (ix4 0 n 0 c) = (Real.log (R.mass h (256 * n.val + c.val)) * (Real.log 2)⁻¹ : ℝ)
  dl : ∀ (n : Fin 32) (c : Fin 256), X.dl (ix4 0 n 0 c) = (R.mean h (256 * n.val + c.val) : EReal)

/-- The block's arrays hold the keys, values and gates of positions 1024 j to 1024 j + 1023. -/
structure BlkIs (R : Src) (h j : ℕ) (B : Blk Ideal) : Prop where
  k : ∀ (r : Fin 1024) (d : Fin 128), B.k (ix2 r d) = (R.k h (1024 * j + r.val) d.val : EReal)
  v : ∀ (r : Fin 1024) (d : Fin 128), B.v (ix2 r d) = (R.v h (1024 * j + r.val) d.val : EReal)
  kt : ∀ (d : Fin 128) (r : Fin 1024), B.kt (ix2 d r) = (R.k h (1024 * j + r.val) d.val : EReal)
  ck : ∀ r : Fin 1024, B.ck (ix2 r 0) = (R.c (1024 * j + r.val) h * (Real.log 2)⁻¹ : ℝ)

/-! ## One chunk -/

theorem change_apply (e : ℕ) (s : FVec Ideal S1024x256 .f32) (r : Fin 1024) (c : Fin 256) :
    change e s (ix2 r c) = if r.val ≤ c.val + 256 * e then s (ix2 r c) else ⊥ := by
  match e with
  | 0 => exact masked_apply s 0 (by omega) r c
  | 1 => exact masked_apply s 256 (by omega) r c
  | 2 => exact masked_apply s 512 (by omega) r c
  | 3 => exact masked_apply s 768 (by omega) r c
  | e + 4 => rw [if_pos (by omega)]; rfl

variable {R : Src} {h j : ℕ} {B : Blk Ideal} {X : Inp Ideal} (hX : InpIs R h X) (hB : BlkIs R h j B)

include hX hB

theorem Wt_apply (e : ℕ) (n : Fin 32) (hn : n.val = 4 * j + e) (r : Fin 1024) (c : Fin 256) :
    Wt (change e) B X n (ix2 r c) = (R.w h (256 * n.val + c.val) (1024 * j + r.val) : EReal) := by
  have hc : (r.val ≤ c.val + 256 * e) ↔ 1024 * j + r.val ≤ 256 * n.val + c.val := by omega
  unfold Wt
  rw [weights_apply, change_apply, row3_apply, hX.lse]
  by_cases hle : r.val ≤ c.val + 256 * e
  · have hs : scores B.k B.ck (row4 X.qt n) (ix2 r c)
        = ((R.qk h (256 * n.val + c.val) (1024 * j + r.val) * (sc * (Real.log 2)⁻¹) - R.c (1024 * j + r.val) h * (Real.log 2)⁻¹ : ℝ) : EReal) := by
      have hqk : (∑ x : Fin 128, B.k (ix2 r x) * row4 X.qt n (ix4 0 0 x c)) = (R.qk h (256 * n.val + c.val) (1024 * j + r.val) : EReal) := by
        rw [Src.qk, ← coe_sum]
        refine Finset.sum_congr rfl fun d _ => ?_
        rw [hB.k, row4_apply, hX.qt, ← EReal.coe_mul, mul_comm]
      rw [scores_apply, hqk, hB.ck, ← EReal.coe_mul, ← EReal.coe_sub]
    rw [if_pos hle, hs, ← EReal.coe_sub, Ideal.exp2_coe, w_pow (pos_lt n c) (hc.1 hle)]
  · rw [if_neg hle, EReal.bot_sub, Ideal.exp2_bot, w_of_lt (by omega)]; rfl

theorem Ds_apply (e : ℕ) (n : Fin 32) (hn : n.val = 4 * j + e) (r : Fin 1024) (c : Fin 256) :
    Ds (change e) B X n (ix2 r c) = (R.ds h (256 * n.val + c.val) (1024 * j + r.val) : EReal) := by
  have hs : (∑ x : Fin 128, B.v (ix2 r x) * row4 X.gt n (ix4 0 0 x c)) = (R.dp h (256 * n.val + c.val) (1024 * j + r.val) : EReal) := by
    rw [Src.dp, ← coe_sum]
    refine Finset.sum_congr rfl fun d _ => ?_
    rw [hB.v, row4_apply, hX.gt, ← EReal.coe_mul, mul_comm]
  unfold Ds
  rw [dscores_apply, Wt_apply hX hB e n hn, hs, row3_apply, hX.dl, ← EReal.coe_sub, ← EReal.coe_mul, Src.ds]

variable (e : ℕ) (n : Fin 32) (hn : n.val = 4 * j + e) (S : Acc Ideal)

include hn

theorem step_dk (r : Fin 1024) (d : Fin 128) : (step (change e) B X n S).dk (ix2 r d) = S.dk (ix2 r d)
    + ((∑ c ∈ range 256, R.ds h (256 * n.val + c) (1024 * j + r.val) * R.q h (256 * n.val + c) d.val : ℝ) : EReal) := by
  show addTile _ S.dk _ _ = _
  rw [addTile_apply, ← coe_sum]
  congr 1
  refine Finset.sum_congr rfl fun c _ => ?_
  rw [Ds_apply hX hB e n hn, rows_apply, hX.q, ← EReal.coe_mul]

theorem step_dv (r : Fin 1024) (d : Fin 128) : (step (change e) B X n S).dv (ix2 r d) = S.dv (ix2 r d)
    + ((∑ c ∈ range 256, R.w h (256 * n.val + c) (1024 * j + r.val) * R.o h (256 * n.val + c) d.val : ℝ) : EReal) := by
  show addTile _ S.dv _ _ = _
  rw [addTile_apply, ← coe_sum]
  congr 1
  refine Finset.sum_congr rfl fun c _ => ?_
  rw [Wt_apply hX hB e n hn, rows_apply, hX.g, ← EReal.coe_mul]

theorem step_dc (r : Fin 1024) (d : Fin 128) : (step (change e) B X n S).dc (ix2 r d) = S.dc (ix2 r d)
    + ((R.ds h (256 * n.val + d.val) (1024 * j + r.val) + R.ds h (256 * n.val + (128 + d.val)) (1024 * j + r.val) : ℝ) : EReal) := by
  show addDc _ S.dc _ = _
  rw [addDc_apply, Ds_apply hX hB e n hn, Ds_apply hX hB e n hn, ← EReal.coe_add]

theorem step_dq (m : Fin 32) (d : Fin 128) (c : Fin 256) : (step (change e) B X n S).dq (ix4 0 m d c) = S.dq (ix4 0 m d c)
    + ((if m = n then ∑ r ∈ range 1024, R.ds h (256 * m.val + c.val) (1024 * j + r) * R.k h (1024 * j + r) d.val else 0 : ℝ) : EReal) := by
  show VecWindow.put S.dq _ _ _ _ = _
  refine (put4_apply S.dq n m _ d c).trans ?_
  by_cases hm : m = n
  · subst hm
    rw [if_pos rfl, if_pos rfl, addDq_apply, row4_apply, ← coe_sum]
    congr 1
    refine Finset.sum_congr rfl fun r _ => ?_
    rw [Ds_apply hX hB e m hn, hB.kt, ← EReal.coe_mul, mul_comm]
  · rw [if_neg hm, if_neg hm, EReal.coe_zero, add_zero]

theorem step_dcq (m : Fin 32) (c : Fin 256) : (step (change e) B X n S).dcq (ix4 0 m 0 c) = S.dcq (ix4 0 m 0 c)
    + ((if m = n then ∑ r ∈ range 1024, R.ds h (256 * m.val + c.val) (1024 * j + r) else 0 : ℝ) : EReal) := by
  show VecWindow.put S.dcq _ _ _ _ = _
  refine (put3_apply S.dcq n m _ c).trans ?_
  by_cases hm : m = n
  · subst hm
    rw [if_pos rfl, if_pos rfl, addDcq_apply, row3_apply, ← coe_sum]
    congr 1
    refine Finset.sum_congr rfl fun r _ => ?_
    rw [Ds_apply hX hB e m hn]
  · rw [if_neg hm, if_neg hm, EReal.coe_zero, add_zero]

end Cert.KernelIdeal.FoxBody

end
-- ==== Proof.PointValue.lean ====
/-
  A block's chunks together: what a grid point leaves in the gradients' arrays, over the reals.
-/
module

public import proofs.«01_k».proof.Proof.BlockValue
public import proofs.«01_k».proof.Proof.Run

@[expose] public section

set_option maxRecDepth 16384

noncomputable section

namespace Cert.KernelIdeal.FoxBody

open Idealize.ShloMosaic Cert.KernelIdeal Cert.KernelIdeal.Gen Cert.FoxMath Finset

variable {R : Src} {h : ℕ} {j : Fin 8} {B : Blk Ideal} {X : Inp Ideal} (hX : InpIs R h X) (hB : BlkIs R h j.val B) (S : Acc Ideal)

include hX hB

theorem stAfter_dk (n : ℕ) (hn : 4 * j.val + n ≤ 32) (r : Fin 1024) (d : Fin 128) :
    (stAfter j B X S n).dk (ix2 r d) = S.dk (ix2 r d) + ((∑ a ∈ range n, ∑ c ∈ range 256,
      R.ds h (256 * (4 * j.val + a) + c) (1024 * j.val + r.val) * R.q h (256 * (4 * j.val + a) + c) d.val : ℝ) : EReal) := by
  induction n with
  | zero => rw [range_zero, sum_empty, EReal.coe_zero, add_zero]; rfl
  | succ n ih =>
    rw [stAfter_succ j B X S n (by omega), step_dk hX hB n ⟨4 * j.val + n, by omega⟩ rfl, ih (by omega), add_coe_coe, sum_range_succ _ n]

theorem stAfter_dv (n : ℕ) (hn : 4 * j.val + n ≤ 32) (r : Fin 1024) (d : Fin 128) :
    (stAfter j B X S n).dv (ix2 r d) = S.dv (ix2 r d) + ((∑ a ∈ range n, ∑ c ∈ range 256,
      R.w h (256 * (4 * j.val + a) + c) (1024 * j.val + r.val) * R.o h (256 * (4 * j.val + a) + c) d.val : ℝ) : EReal) := by
  induction n with
  | zero => rw [range_zero, sum_empty, EReal.coe_zero, add_zero]; rfl
  | succ n ih =>
    rw [stAfter_succ j B X S n (by omega), step_dv hX hB n ⟨4 * j.val + n, by omega⟩ rfl, ih (by omega), add_coe_coe, sum_range_succ _ n]

theorem stAfter_dc (n : ℕ) (hn : 4 * j.val + n ≤ 32) (r : Fin 1024) (d : Fin 128) :
    (stAfter j B X S n).dc (ix2 r d) = S.dc (ix2 r d) + ((∑ a ∈ range n,
      (R.ds h (256 * (4 * j.val + a) + d.val) (1024 * j.val + r.val) + R.ds h (256 * (4 * j.val + a) + (128 + d.val)) (1024 * j.val + r.val)) : ℝ) : EReal) := by
  induction n with
  | zero => rw [range_zero, sum_empty, EReal.coe_zero, add_zero]; rfl
  | succ n ih =>
    rw [stAfter_succ j B X S n (by omega), step_dc hX hB n ⟨4 * j.val + n, by omega⟩ rfl, ih (by omega), add_coe_coe, sum_range_succ _ n]

theorem stAfter_dq (n : ℕ) (hn : 4 * j.val + n ≤ 32) (m : Fin 32) (d : Fin 128) (c : Fin 256) :
    (stAfter j B X S n).dq (ix4 0 m d c) = S.dq (ix4 0 m d c) + ((if 4 * j.val ≤ m.val ∧ m.val < 4 * j.val + n then
      ∑ r ∈ range 1024, R.ds h (256 * m.val + c.val) (1024 * j.val + r) * R.k h (1024 * j.val + r) d.val else 0 : ℝ) : EReal) := by
  induction n with
  | zero => rw [if_neg (by omega), EReal.coe_zero, add_zero]; rfl
  | succ n ih =>
    rw [stAfter_succ j B X S n (by omega), step_dq hX hB n ⟨4 * j.val + n, by omega⟩ rfl, ih (by omega), add_coe_coe]
    congr 2
    by_cases e : m = ⟨4 * j.val + n, by omega⟩
    · have : m.val = 4 * j.val + n := congrArg Fin.val e
      rw [if_neg (by omega), if_pos e, if_pos (by omega), zero_add]
    · have : m.val ≠ 4 * j.val + n := fun h' => e (Fin.ext h')
      rw [if_neg e, add_zero]
      exact if_congr (by omega) rfl rfl

theorem stAfter_dcq (n : ℕ) (hn : 4 * j.val + n ≤ 32) (m : Fin 32) (c : Fin 256) :
    (stAfter j B X S n).dcq (ix4 0 m 0 c) = S.dcq (ix4 0 m 0 c) + ((if 4 * j.val ≤ m.val ∧ m.val < 4 * j.val + n then
      ∑ r ∈ range 1024, R.ds h (256 * m.val + c.val) (1024 * j.val + r) else 0 : ℝ) : EReal) := by
  induction n with
  | zero => rw [if_neg (by omega), EReal.coe_zero, add_zero]; rfl
  | succ n ih =>
    rw [stAfter_succ j B X S n (by omega), step_dcq hX hB n ⟨4 * j.val + n, by omega⟩ rfl, ih (by omega), add_coe_coe]
    congr 2
    by_cases e : m = ⟨4 * j.val + n, by omega⟩
    · have : m.val = 4 * j.val + n := congrArg Fin.val e
      rw [if_neg (by omega), if_pos e, if_pos (by omega), zero_add]
    · have : m.val ≠ 4 * j.val + n := fun h' => e (Fin.ext h')
      rw [if_neg e, add_zero]
      exact if_congr (by omega) rfl rfl

omit hX hB in
theorem zero25 (r : Fin 1024) (d : Fin 128) : k0_pay25 (F := Ideal) (ix2 r d) = 0 := by
  pointwise [k0_pay25]

omit hX hB in
theorem zero26 (r : Fin 1024) (d : Fin 128) : k0_pay26 (F := Ideal) (ix2 r d) = 0 := by
  pointwise [k0_pay26]

omit hX hB in
theorem zero27 (r : Fin 1024) (d : Fin 128) : k0_pay27 (F := Ideal) (ix2 r d) = 0 := by
  pointwise [k0_pay27]

omit hX hB in
theorem zero23 (m : Fin 32) (d : Fin 128) (c : Fin 256) : k0_pay23 (F := Ideal) (ix4 0 m d c) = 0 := by
  pointwise [k0_pay23]

omit hX hB in
theorem zero24 (m : Fin 32) (c : Fin 256) : k0_pay24 (F := Ideal) (ix4 0 m 0 c) = 0 := by
  pointwise [k0_pay24]

omit hX hB in
/-- The positions seen from a block, chunk by chunk, are all that its keys reach. -/
theorem sum_seen (f : ℕ → ℝ) (j : Fin 8) (H : ∀ t < 1024 * j.val, f t = 0) :
    ∑ a ∈ range (32 - 4 * j.val), ∑ c ∈ range 256, f (256 * (4 * j.val + a) + c) = ∑ t ∈ range 8192, f t := by
  rw [show (8192 : ℕ) = 32 * 256 from rfl, sum_chunks f 32 256,
    sum_skip (fun a => ∑ c ∈ range 256, f (256 * a + c)) (4 * j.val) 32 (by omega) fun i hi =>
      sum_eq_zero fun c hc => H _ (by have := mem_range.1 hc; omega)]

variable (dq : Vec Ideal S1x32x128x256 .f32) (dcq : Vec Ideal S1x32x1x256 .f32)

theorem ended_dk (r : Fin 1024) (d : Fin 128) : (ended j B X dq dcq).dk (ix2 r d)
    = ((∑ t ∈ range 8192, R.ds h t (1024 * j.val + r.val) * R.q h t d.val : ℝ) : EReal) := by
  unfold ended
  rw [stAfter_dk hX hB _ _ (by omega), sum_seen (fun t => R.ds h t (1024 * j.val + r.val) * R.q h t d.val) j fun t ht => by
    rw [ds_of_lt (by omega), zero_mul]]
  show k0_pay25 (F := Ideal) (ix2 r d) + _ = _
  rw [zero25, zero_add]

theorem ended_dv (r : Fin 1024) (d : Fin 128) : (ended j B X dq dcq).dv (ix2 r d) = (R.dv h (1024 * j.val + r.val) d.val : EReal) := by
  unfold ended
  rw [stAfter_dv hX hB _ _ (by omega), sum_seen (fun t => R.w h t (1024 * j.val + r.val) * R.o h t d.val) j fun t ht => by
    rw [w_of_lt (by omega), zero_mul]]
  show k0_pay26 (F := Ideal) (ix2 r d) + _ = _
  rw [zero26, zero_add]; rfl

theorem ended_dc (r : Fin 1024) : (∑ d : Fin 128, (ended j B X dq dcq).dc (ix2 r d))
    = ((∑ t ∈ range 8192, R.ds h t (1024 * j.val + r.val) : ℝ) : EReal) := by
  have e : ∀ d : Fin 128, (ended j B X dq dcq).dc (ix2 r d) = ((∑ a ∈ range (32 - 4 * j.val),
      (R.ds h (256 * (4 * j.val + a) + d.val) (1024 * j.val + r.val) + R.ds h (256 * (4 * j.val + a) + (128 + d.val)) (1024 * j.val + r.val)) : ℝ) : EReal) := fun d => by
    unfold ended
    rw [stAfter_dc hX hB _ _ (by omega)]
    show k0_pay27 (F := Ideal) (ix2 r d) + _ = _
    rw [zero27, zero_add]
  rw [sum_congr rfl fun d _ => e d, coe_sum (fun d => ∑ a ∈ range (32 - 4 * j.val),
      (R.ds h (256 * (4 * j.val + a) + d) (1024 * j.val + r.val) + R.ds h (256 * (4 * j.val + a) + (128 + d)) (1024 * j.val + r.val))),
    sum_comm, ← sum_seen (fun t => R.ds h t (1024 * j.val + r.val)) j fun t ht => ds_of_lt (by omega)]
  congr 1
  refine sum_congr rfl fun a _ => ?_
  rw [sum_add_distrib, show (256 : ℕ) = 128 + 128 from rfl, sum_range_add]

/-- A query's gradient gains the block's part; a query before the block gains nothing. -/
theorem ended_dq (m : Fin 32) (d : Fin 128) (c : Fin 256) : (ended j B X dq dcq).dq (ix4 0 m d c)
    = (if j = 0 then 0 else dq (ix4 0 m d c))
      + ((∑ r ∈ range 1024, R.ds h (256 * m.val + c.val) (1024 * j.val + r) * R.k h (1024 * j.val + r) d.val : ℝ) : EReal) := by
  unfold ended
  rw [stAfter_dq hX hB _ _ (by omega)]
  congr 1
  · unfold start
    by_cases e : j = 0
    · simp only [if_pos e]; exact zero23 m d c
    · simp only [if_neg e]
  · congr 1
    by_cases e : 4 * j.val ≤ m.val
    · rw [if_pos (by omega)]
    · rw [if_neg (by omega)]
      exact (sum_eq_zero fun r _ => by rw [ds_of_lt (by omega), zero_mul]).symm

theorem ended_dcq (m : Fin 32) (c : Fin 256) : (ended j B X dq dcq).dcq (ix4 0 m 0 c)
    = (if j = 0 then 0 else dcq (ix4 0 m 0 c))
      + ((∑ r ∈ range 1024, R.ds h (256 * m.val + c.val) (1024 * j.val + r) : ℝ) : EReal) := by
  unfold ended
  rw [stAfter_dcq hX hB _ _ (by omega)]
  congr 1
  · unfold start
    by_cases e : j = 0
    · simp only [if_pos e]; exact zero24 m c
    · simp only [if_neg e]
  · congr 1
    by_cases e : 4 * j.val ≤ m.val
    · rw [if_pos (by omega)]
    · rw [if_neg (by omega)]
      exact (sum_eq_zero fun r _ => ds_of_lt (by omega)).symm

end Cert.KernelIdeal.FoxBody

end
-- ==== Proof.Entry.lean ====
/-
  What every window's buffer holds at a point, over the reals: the arrays of the point's head, and the keys of its block.
-/
module

public import proofs.«01_k».proof.Proof.HostReal
public import proofs.«01_k».proof.Proof.PointValue
public import Idealize.ShloMosaic.Lib.Pipeline.ValueKit
public import Idealize.ShloMosaic.Lib.StableHlo.RunRead

@[expose] public section

set_option maxRecDepth 16384

noncomputable section

namespace Cert.KernelIdeal.FoxBody

open Idealize.ShloMosaic Idealize.ShloMosaic.TcCoe Idealize.ShloMosaic.Tactic
open Cert.KernelIdeal Cert.KernelIdeal.Gen Cert.KernelIdeal.FoxHost Cert.FoxMath

variable (m : (ℓ : Loc nD τ sig) → Buf (Elt Ideal) ℓ) (c : Dev nD)

/-! ## The host's arrays -/

/-- The device's three arguments. -/
abbrev argU : FVec Ideal S8192x13824 .bf16 := m ((c : Thread nD τ).loc main_arg0)
abbrev argG : FVec Ideal S8192x1024 .bf16 := m ((c : Thread nD τ).loc main_arg1)
abbrev argC : FVec Ideal S8192x8 .f32 := m ((c : Thread nD τ).loc main_arg2)

theorem entry_queriesT : V m c main_v2 = queriesT (argU m c) := by entry_read; rfl
theorem entry_keysT : V m c main_v5 = keysT (argU m c) := by entry_read; rfl
theorem entry_gradT : V m c main_v7 = gradT (argG m c) := by entry_read; rfl
theorem entry_gates : V m c main_v25 = gates (argC m c) := by entry_read; rfl
theorem entry_logMass : V m c main_v47 = logMass (argU m c) (argC m c) := by
  unfold V
  simp only [hostOps0, hostOps0_1, hostOps0_2, List.flatten_cons, List.flatten_nil, List.append_nil, List.cons_append, List.nil_append]
  after_reads_simp
  simp -implicitDefEqProofs only [StableHlo.TRef.toBuf, StableHlo.TRef.ofBuf, StableHlo.TRef.of, cast_eq, id]
  simp only [logMass, logOver, total, exps, spread, top, logits, seen, queries, keys, ln2]
  rfl

theorem entry_products : V m c main_v58 = products (argU m c) (argG m c) (argC m c) := by
  unfold V
  simp only [hostOps0, hostOps0_1, hostOps0_2, List.flatten_cons, List.flatten_nil, List.append_nil, List.cons_append, List.nil_append]
  after_reads_simp
  simp -implicitDefEqProofs only [StableHlo.TRef.toBuf, StableHlo.TRef.ofBuf, StableHlo.TRef.of, cast_eq, id]
  simp only [products, output, values, total, exps, spread, top, logits, seen, queries, keys]
  rfl

/-! ## The windows' blocks -/

theorem idx : ∀ t : Fin cfg0.N, win0_0.index t = ![0, t.val / 8] ∧ win0_1.index t = ![t.val % 8, 8 + t.val / 8]
    ∧ win0_2.index t = ![t.val % 8, 16 + t.val / 8] ∧ win0_3.index t = ![t.val / 8, 0, 0, 0]
    ∧ win0_4.index t = ![t.val / 8, t.val % 8, 0, 0] ∧ win0_5.index t = ![0, t.val / 8]
    ∧ win0_6.index t = ![t.val / 8, 0, 0, 0] ∧ win0_7.index t = ![t.val / 8, t.val % 8, 0]
    ∧ win0_8.index t = ![t.val / 8, 0, 0, 0] ∧ win0_9.index t = ![t.val / 8, 0, 0, 0]
    ∧ win0_10.index t = ![t.val % 8, t.val / 8] ∧ win0_11.index t = ![t.val % 8, t.val / 8]
    ∧ win0_12.index t = ![t.val / 8, t.val % 8, 0] ∧ win0_13.index t = ![t.val / 8, 0, 0, 0]
    ∧ win0_14.index t = ![t.val / 8, 0, 0, 0] := by decide +kernel

theorem point_lt (t : Fin cfg0.N) : t.val < 64 := t.isLt

/-- The head of a point. -/
def headOf (t : Fin cfg0.N) : Fin 8 := ⟨t.val / 8, by have := point_lt t; omega⟩

variable (t : Fin cfg0.N)

theorem blk0 (x : Fin 8192) (d : Fin 128) : iblk m c 0 t (ix2 x d)
    = argU m c (ix2 x ⟨128 * (t.val / 8) + d.val, by have := point_lt t; omega⟩) := by
  have := point_lt t
  blk_ext [iblk, V_main_arg0, idx t]

theorem blk1 (r : Fin 1024) (d : Fin 128) : iblk m c 1 t (ix2 r d)
    = argU m c (ix2 ⟨1024 * (t.val % 8) + r.val, by omega⟩ ⟨1024 + (128 * (t.val / 8) + d.val), by have := point_lt t; omega⟩) := by
  have := point_lt t
  blk_ext [iblk, V_main_arg0, idx t]

theorem blk2 (r : Fin 1024) (d : Fin 128) : iblk m c 2 t (ix2 r d)
    = argU m c (ix2 ⟨1024 * (t.val % 8) + r.val, by omega⟩ ⟨2048 + (128 * (t.val / 8) + d.val), by have := point_lt t; omega⟩) := by
  have := point_lt t
  blk_ext [iblk, V_main_arg0, idx t]

theorem blk5 (x : Fin 8192) (d : Fin 128) : iblk m c 5 t (ix2 x d)
    = argG m c (ix2 x ⟨128 * (t.val / 8) + d.val, by have := point_lt t; omega⟩) := by
  have := point_lt t
  blk_ext [iblk, V_main_arg1, idx t]

theorem blk3 (n : Fin 32) (d : Fin 128) (e : Fin 256) : iblk m c 3 t (ix4 0 n d e) = V m c main_v2 (ix4 (headOf t) n d e) := by
  blk_ext [iblk, headOf, idx t]

theorem blk4 (d : Fin 128) (r : Fin 1024) : iblk m c 4 t (ix4 0 0 d r) = V m c main_v5 (ix4 (headOf t) ⟨t.val % 8, by omega⟩ d r) := by
  blk_ext [iblk, headOf, idx t]

theorem blk6 (n : Fin 32) (d : Fin 128) (e : Fin 256) : iblk m c 6 t (ix4 0 n d e) = V m c main_v7 (ix4 (headOf t) n d e) := by
  blk_ext [iblk, headOf, idx t]

theorem blk7 (r : Fin 1024) : iblk m c 7 t (ix3 0 r 0) = V m c main_v25 (ix3 (headOf t) ⟨1024 * (t.val % 8) + r.val, by omega⟩ 0) := by
  blk_ext [iblk, headOf, idx t]

theorem blk8 (n : Fin 32) (e : Fin 256) : iblk m c 8 t (ix4 0 n 0 e) = V m c main_v47 (ix4 (headOf t) n 0 e) := by
  blk_ext [iblk, headOf, idx t]

theorem blk9 (n : Fin 32) (e : Fin 256) : iblk m c 9 t (ix4 0 n 0 e) = V m c main_v58 (ix4 (headOf t) n 0 e) := by
  blk_ext [iblk, headOf, idx t]

theorem pay28_apply (B : FVec Ideal S1x1x128x1024 .bf16) (d : Fin 128) (r : Fin 1024) : k0_pay28 B (ix2 d r) = B (ix4 0 0 d r) := by
  pointwise [k0_pay28]

theorem pay29_apply (B : FVec Ideal S1x1024x1 .f32) (r : Fin 1024) : k0_pay29 B (ix2 r 0) = B (ix3 0 r 0) := by
  pointwise [k0_pay29]

variable {R : Src} (hS : SrcIs R (argU m c) (argG m c) (argC m c))

include hS

theorem q_real (x : Fin 8192) (d : Fin 128) : iblk m c 0 t (ix2 x d) = (R.q (t.val / 8) x.val d.val : EReal) := by
  rw [blk0, hS.u _ _ (by have := point_lt t; show 128 * (t.val / 8) + d.val < 3072; omega)]; rfl

theorem g_real (x : Fin 8192) (d : Fin 128) : iblk m c 5 t (ix2 x d) = (R.o (t.val / 8) x.val d.val : EReal) := by
  rw [blk5, hS.g]; rfl

theorem k_real (r : Fin 1024) (d : Fin 128) : iblk m c 1 t (ix2 r d) = (R.k (t.val / 8) (1024 * (t.val % 8) + r.val) d.val : EReal) := by
  rw [blk1, hS.u _ _ (by have := point_lt t; show 1024 + (128 * (t.val / 8) + d.val) < 3072; omega)]; rfl

theorem v_real (r : Fin 1024) (d : Fin 128) : iblk m c 2 t (ix2 r d) = (R.v (t.val / 8) (1024 * (t.val % 8) + r.val) d.val : EReal) := by
  rw [blk2, hS.u _ _ (by have := point_lt t; show 2048 + (128 * (t.val / 8) + d.val) < 3072; omega)]; rfl

theorem qt_real (n : Fin 32) (d : Fin 128) (e : Fin 256) : iblk m c 3 t (ix4 0 n d e) = (R.q (t.val / 8) (256 * n.val + e.val) d.val : EReal) := by
  rw [blk3, entry_queriesT]; exact queriesT_real hS (headOf t) n d e

theorem gt_real (n : Fin 32) (d : Fin 128) (e : Fin 256) : iblk m c 6 t (ix4 0 n d e) = (R.o (t.val / 8) (256 * n.val + e.val) d.val : EReal) := by
  rw [blk6, entry_gradT]; exact gradT_real hS (headOf t) n d e

theorem kt_real (d : Fin 128) (r : Fin 1024) : k0_pay28 (iblk m c 4 t) (ix2 d r) = (R.k (t.val / 8) (1024 * (t.val % 8) + r.val) d.val : EReal) := by
  rw [pay28_apply, blk4, entry_keysT]; exact keysT_real hS (headOf t) _ d r

theorem ck_real (r : Fin 1024) : k0_pay29 (iblk m c 7 t) (ix2 r 0) = ((R.c (1024 * (t.val % 8) + r.val) (t.val / 8) * (Real.log 2)⁻¹ : ℝ) : EReal) := by
  rw [pay29_apply, blk7, entry_gates]; exact gates_real hS (headOf t) _

theorem lse_real (n : Fin 32) (e : Fin 256) : iblk m c 8 t (ix4 0 n 0 e)
    = ((Real.log (R.mass (t.val / 8) (256 * n.val + e.val)) * (Real.log 2)⁻¹ : ℝ) : EReal) := by
  rw [blk8, entry_logMass]; exact logMass_real hS (headOf t) n e

theorem dl_real (n : Fin 32) (e : Fin 256) : iblk m c 9 t (ix4 0 n 0 e) = (R.mean (t.val / 8) (256 * n.val + e.val) : EReal) := by
  rw [blk9, entry_products]; exact products_real hS (headOf t) n e

end Cert.KernelIdeal.FoxBody

end
-- ==== Proof.Buffers.lean ====
/-
  A point's chunks read the arrays of its head, and its block the keys and values of the block.
-/
module

public import proofs.«01_k».proof.Proof.Entry

@[expose] public section

set_option maxRecDepth 16384

noncomputable section

namespace Cert.KernelIdeal.FoxBody

open Idealize.ShloMosaic Idealize.ShloMosaic.TcCoe Idealize.ShloMosaic.Tactic
open Cert.KernelIdeal Cert.KernelIdeal.Gen Cert.KernelIdeal.FoxHost Cert.FoxMath

variable (m : (ℓ : Loc nD τ sig) → Buf (Elt Ideal) ℓ) (c : Dev nD) (t : Fin cfg0.N)
variable {R : Src} (hS : SrcIs R (argU m c) (argG m c) (argC m c))

include hS

set_option maxHeartbeats 4000000 in
theorem inp_is : InpIs R (t.val / 8) (inp m c t) := by
  unfold inp
  constructor
  · intro x d; exact q_real m c t hS x d
  · intro x d; exact g_real m c t hS x d
  · intro n d e; exact qt_real m c t hS n d e
  · intro n d e; exact gt_real m c t hS n d e
  · intro n e; exact lse_real m c t hS n e
  · intro n e; exact dl_real m c t hS n e

set_option maxHeartbeats 4000000 in
theorem blk_is : BlkIs R (t.val / 8) (t.val % 8) (blk m c t) := by
  unfold blk
  constructor
  · intro r d; exact k_real m c t hS r d
  · intro r d; exact v_real m c t hS r d
  · intro d r; exact kt_real m c t hS d r
  · intro r; exact ck_real m c t hS r

end Cert.KernelIdeal.FoxBody

end
-- ==== Proof.Final.lean ====
/-
  The arrays the kernel leaves, over the reals: the five gradients.
-/
module

public import proofs.«01_k».proof.Proof.Buffers

@[expose] public section

set_option maxRecDepth 16384

noncomputable section

namespace Cert.FoxMath

open Idealize.ShloMosaic

/-- The five gradients as arrays. -/
def Src.dkArr (R : Src) : FVec Ideal ⟨2, ![8192, 1024]⟩ .bf16 := fun i => (R.dk ((i 1).val / 128) (i 0).val ((i 1).val % 128) : EReal)
def Src.dvArr (R : Src) : FVec Ideal ⟨2, ![8192, 1024]⟩ .bf16 := fun i => (R.dv ((i 1).val / 128) (i 0).val ((i 1).val % 128) : EReal)
def Src.dckArr (R : Src) : FVec Ideal ⟨3, ![8, 8192, 1]⟩ .f32 := fun i => (R.dck (i 0).val (i 1).val : EReal)
def Src.dqArr (R : Src) : FVec Ideal ⟨4, ![8, 32, 128, 256]⟩ .f32 := fun i => (R.dq (i 0).val (256 * (i 1).val + (i 3).val) (i 2).val : EReal)
def Src.dcqArr (R : Src) : FVec Ideal ⟨4, ![8, 32, 1, 256]⟩ .f32 := fun i => (R.dcq (i 0).val (256 * (i 1).val + (i 3).val) : EReal)

end Cert.FoxMath

namespace Cert.KernelIdeal.FoxBody

open Idealize.ShloMosaic Idealize.ShloMosaic.TcCoe Idealize.ShloMosaic.Tactic
open Cert.KernelIdeal Cert.KernelIdeal.Gen Cert.KernelIdeal.FoxHost Cert.FoxMath

theorem scale_named : (Named.named κ "scale" 0x3DB504F3#32 : Ideal .f32) = (sc : EReal) :=
  IdealRules.named_const.ideal_named_scalar (κ := κ) (name := "scale") _ _ rfl

theorem pay3_apply (x : FVec Ideal S1024x128 .f32) (r : Fin 1024) (d : Fin 128) : (k0_pay3 (F := Ideal) x : FVec Ideal S1024x128 .bf16) (ix2 r d) = (x (ix2 r d) * (sc : EReal) : EReal) := by
  pointwise [k0_pay3]
  rw [scale_named]

theorem pay4_apply (x : FVec Ideal S1024x128 .f32) (r : Fin 1024) (d : Fin 128) : (k0_pay4 (F := Ideal) x : FVec Ideal S1024x128 .bf16) (ix2 r d) = x (ix2 r d) := by
  pointwise [k0_pay4]

theorem pay5_apply (x : FVec Ideal S1024x128 .f32) (r : Fin 1024) : k0_pay5 x (ix3 0 r 0) = 0 - ∑ d : Fin 128, x (ix2 r d) := by
  pointwise [k0_pay5]

theorem pay6_apply (x : FVec Ideal S1x32x128x256 .f32) (n : Fin 32) (d : Fin 128) (e : Fin 256) :
    k0_pay6 x (ix4 0 n d e) = x (ix4 0 n d e) * (sc : EReal) := by
  pointwise [k0_pay6]
  rw [scale_named]

variable (m : (ℓ : Loc nD τ sig) → Buf (Elt Ideal) ℓ) (c : Dev nD) {R : Src} (hS : SrcIs R (argU m c) (argG m c) (argC m c))

include hS

/-! ## A point's blocks -/

theorem blkIs_at (t : Fin cfg0.N) : BlkIs R (t.val / 8) (blkOf (grid0.coords t)).val (blk m c t) := by
  rw [blkOf_val]; exact blk_is m c t hS

theorem at_dk (t : Fin cfg0.N) (r : Fin 1024) (d : Fin 128) :
    k0_pay3 (endedAt m c t).dk (ix2 r d) = (R.dk (t.val / 8) (1024 * (t.val % 8) + r.val) d.val : EReal) := by
  rw [pay3_apply, endedAt, ended_dk (inp_is m c t hS) (blkIs_at m c hS t), blkOf_val, ← EReal.coe_mul]; rfl

theorem at_dv (t : Fin cfg0.N) (r : Fin 1024) (d : Fin 128) :
    k0_pay4 (endedAt m c t).dv (ix2 r d) = (R.dv (t.val / 8) (1024 * (t.val % 8) + r.val) d.val : EReal) := by
  rw [pay4_apply, endedAt, ended_dv (inp_is m c t hS) (blkIs_at m c hS t), blkOf_val]

theorem at_dck (t : Fin cfg0.N) (r : Fin 1024) :
    k0_pay5 (endedAt m c t).dc (ix3 0 r 0) = (R.dck (t.val / 8) (1024 * (t.val % 8) + r.val) : EReal) := by
  rw [pay5_apply, endedAt, ended_dc (inp_is m c t hS) (blkIs_at m c hS t), blkOf_val, zero_sub, ← EReal.coe_neg]; rfl

/-! ## The gradients shared by a head's blocks -/

/-- What the first `j + 1` blocks of head `h` add up to, before the last block's scaling. -/
theorem fold_dq (h j : ℕ) (hh : h < 8) (hj : j < 8) (n : Fin 32) (d : Fin 128) (e : Fin 256) :
    (endedAt m c ⟨8 * h + j, by show _ < 64; omega⟩).dq (ix4 0 n d e)
      = ((∑ b ∈ Finset.range (j + 1), ∑ r ∈ Finset.range 1024,
          R.ds h (256 * n.val + e.val) (1024 * b + r) * R.k h (1024 * b + r) d.val : ℝ) : EReal) := by
  induction j with
  | zero =>
    have ej : (blkOf (grid0.coords ⟨8 * h + 0, by show _ < 64; omega⟩)) = 0 := Fin.ext ((blkOf_val _).trans (by show (8 * h + 0) % 8 = 0; omega))
    have eh : (8 * h + 0) / 8 = h := by omega
    rw [endedAt, ended_dq (inp_is m c _ hS) (blkIs_at m c hS _), ej, if_pos rfl, zero_add, zero_add, Finset.sum_range_one]
    dsimp only
    rw [eh]; rfl
  | succ j ih =>
    have ev : (blkOf (grid0.coords ⟨8 * h + (j + 1), by show _ < 64; omega⟩)).val = j + 1 := (blkOf_val _).trans (by show (8 * h + (j + 1)) % 8 = j + 1; omega)
    have eh : (8 * h + (j + 1)) / 8 = h := by omega
    have ep : (blkOf (grid0.coords ⟨8 * h + j, by show _ < 64; omega⟩)).val = j := (blkOf_val _).trans (by show (8 * h + j) % 8 = j; omega)
    have es := shared_succ m c ⟨8 * h + j, by show _ < 64; omega⟩
    rw [endedAt, ended_dq (inp_is m c _ hS) (blkIs_at m c hS _), if_neg (fun e => by rw [e] at ev; exact absurd ev (by simp)), ev]
    dsimp only at es ⊢
    rw [show 8 * h + (j + 1) = 8 * h + j + 1 by omega] at *
    rw [es, eh, Finset.sum_range_succ _ (j + 1), EReal.coe_add]
    congr 1
    rw [← ih (by omega)]
    unfold lastDq
    rw [if_neg (fun e => by rw [e] at ep; simp at ep; omega)]

theorem fold_dcq (h j : ℕ) (hh : h < 8) (hj : j < 8) (n : Fin 32) (e : Fin 256) :
    (endedAt m c ⟨8 * h + j, by show _ < 64; omega⟩).dcq (ix4 0 n 0 e)
      = ((∑ b ∈ Finset.range (j + 1), ∑ r ∈ Finset.range 1024, R.ds h (256 * n.val + e.val) (1024 * b + r) : ℝ) : EReal) := by
  induction j with
  | zero =>
    have ej : (blkOf (grid0.coords ⟨8 * h + 0, by show _ < 64; omega⟩)) = 0 := Fin.ext ((blkOf_val _).trans (by show (8 * h + 0) % 8 = 0; omega))
    have eh : (8 * h + 0) / 8 = h := by omega
    rw [endedAt, ended_dcq (inp_is m c _ hS) (blkIs_at m c hS _), ej, if_pos rfl, zero_add, zero_add, Finset.sum_range_one]
    dsimp only
    rw [eh]; rfl
  | succ j ih =>
    have ev : (blkOf (grid0.coords ⟨8 * h + (j + 1), by show _ < 64; omega⟩)).val = j + 1 := (blkOf_val _).trans (by show (8 * h + (j + 1)) % 8 = j + 1; omega)
    have eh : (8 * h + (j + 1)) / 8 = h := by omega
    have es := shared_succ m c ⟨8 * h + j, by show _ < 64; omega⟩
    rw [endedAt, ended_dcq (inp_is m c _ hS) (blkIs_at m c hS _), if_neg (fun e => by rw [e] at ev; exact absurd ev (by simp)), ev]
    dsimp only at es ⊢
    rw [show 8 * h + (j + 1) = 8 * h + j + 1 by omega] at *
    rw [es, eh, Finset.sum_range_succ _ (j + 1), EReal.coe_add]
    congr 1
    rw [← ih (by omega)]

theorem last_point (t : Fin cfg0.N) (ht : t.val % 8 = 7) : ∃ h : ℕ, h < 8 ∧ t.val / 8 = h ∧ t.val = 8 * h + 7 :=
  ⟨t.val / 8, by have := point_lt t; omega, rfl, by omega⟩

theorem at_dq (t : Fin cfg0.N) (ht : t.val % 8 = 7) (n : Fin 32) (d : Fin 128) (e : Fin 256) :
    (shared m c (t.val + 1)).1 (ix4 0 n d e) = (R.dq (t.val / 8) (256 * n.val + e.val) d.val : EReal) := by
  obtain ⟨h, hh, e1, e2⟩ := last_point m c hS t ht
  have ej : blkOf (grid0.coords t) = 7 := Fin.ext ((blkOf_val t).trans ht)
  have et : t = ⟨8 * h + 7, by show _ < 64; omega⟩ := Fin.ext e2
  rw [shared_succ]
  show lastDq (blkOf (grid0.coords t)) (endedAt m c t) (ix4 0 n d e) = _
  unfold lastDq
  rw [if_pos ej, pay6_apply, e1, et, fold_dq m c hS h 7 hh (by omega), ← EReal.coe_mul, Src.dq,
    sum_chunks (fun s => R.ds h (256 * n.val + e.val) s * R.k h s d.val) 8 1024]

theorem at_dcq (t : Fin cfg0.N) (ht : t.val % 8 = 7) (n : Fin 32) (e : Fin 256) :
    (shared m c (t.val + 1)).2 (ix4 0 n 0 e) = (R.dcq (t.val / 8) (256 * n.val + e.val) : EReal) := by
  obtain ⟨h, hh, e1, e2⟩ := last_point m c hS t ht
  have et : t = ⟨8 * h + 7, by show _ < 64; omega⟩ := Fin.ext e2
  rw [shared_succ]
  show (endedAt m c t).dcq (ix4 0 n 0 e) = _
  rw [e1, et, fold_dcq m c hS h 7 hh (by omega), Src.dcq,
    sum_chunks (fun s => R.ds h (256 * n.val + e.val) s) 8 1024]

/-! ## The arrays after the run -/

theorem place_dk (t : Fin cfg0.N) (y : S1024x128.Idx) (i : S8192x1024.Idx) (e0 : (i 0).val = 1024 * (t.val % 8) + (y 0).val)
    (e1 : (i 1).val = 128 * (t.val / 8) + (y 1).val) : (k0_pay3 (endedAt m c t).dk : FVec Ideal S1024x128 .bf16) y = R.dkArr i := by
  have hy : (y 1).val < 128 := (y 1).isLt
  have hp := at_dk m c hS t (y 0) (y 1)
  rw [← eq_ix2 y] at hp
  rw [hp, Src.dkArr, e0, e1, show (128 * (t.val / 8) + (y 1).val) / 128 = t.val / 8 by omega, show (128 * (t.val / 8) + (y 1).val) % 128 = (y 1).val by omega]

theorem place_dv (t : Fin cfg0.N) (y : S1024x128.Idx) (i : S8192x1024.Idx) (e0 : (i 0).val = 1024 * (t.val % 8) + (y 0).val)
    (e1 : (i 1).val = 128 * (t.val / 8) + (y 1).val) : (k0_pay4 (endedAt m c t).dv : FVec Ideal S1024x128 .bf16) y = R.dvArr i := by
  have hy : (y 1).val < 128 := (y 1).isLt
  have hp := at_dv m c hS t (y 0) (y 1)
  rw [← eq_ix2 y] at hp
  rw [hp, Src.dvArr, e0, e1, show (128 * (t.val / 8) + (y 1).val) / 128 = t.val / 8 by omega, show (128 * (t.val / 8) + (y 1).val) % 128 = (y 1).val by omega]

theorem place_dck (t : Fin cfg0.N) (y : S1x1024x1.Idx) (i : S8x8192x1.Idx) (e0 : (i 0).val = t.val / 8)
    (e1 : (i 1).val = 1024 * (t.val % 8) + (y 1).val) : (k0_pay5 (endedAt m c t).dc : FVec Ideal S1x1024x1 .f32) y = R.dckArr i := by
  have hp := at_dck m c hS t (y 1)
  have hy : y = ix3 0 (y 1) 0 := (eq_ix3 y).trans (congrArg₂ (fun a b => ix3 a (y 1) b) (Subsingleton.elim (α := Fin 1) _ _) (Subsingleton.elim (α := Fin 1) _ _))
  refine (congrArg (k0_pay5 (endedAt m c t).dc : FVec Ideal S1x1024x1 .f32) hy).trans (hp.trans ?_)
  rw [Src.dckArr, e0, e1]

theorem place_dq (t : Fin cfg0.N) (ht : t.val % 8 = 7) (y : S1x32x128x256.Idx) (i : S8x32x128x256.Idx) (e0 : (i 0).val = t.val / 8)
    (e1 : (i 1).val = (y 1).val) (e2 : (i 2).val = (y 2).val) (e3 : (i 3).val = (y 3).val) : (shared m c (t.val + 1)).1 y = R.dqArr i := by
  have hp := at_dq m c hS t ht (y 1) (y 2) (y 3)
  have hy : y = ix4 0 (y 1) (y 2) (y 3) := (eq_ix4 y).trans (congrArg (fun a => ix4 a (y 1) (y 2) (y 3)) (Subsingleton.elim (α := Fin 1) _ _))
  refine (congrArg (shared m c (t.val + 1)).1 hy).trans (hp.trans ?_)
  rw [Src.dqArr, e0, e1, e2, e3]

theorem place_dcq (t : Fin cfg0.N) (ht : t.val % 8 = 7) (y : S1x32x1x256.Idx) (i : S8x32x1x256.Idx) (e0 : (i 0).val = t.val / 8)
    (e1 : (i 1).val = (y 1).val) (e3 : (i 3).val = (y 3).val) : (shared m c (t.val + 1)).2 y = R.dcqArr i := by
  have hp := at_dcq m c hS t ht (y 1) (y 3)
  have hy : y = ix4 0 (y 1) 0 (y 3) := (eq_ix4 y).trans (congrArg₂ (fun a b => ix4 a (y 1) b (y 3)) (Subsingleton.elim (α := Fin 1) _ _) (Subsingleton.elim (α := Fin 1) _ _))
  refine (congrArg (shared m c (t.val + 1)).2 hy).trans (hp.trans ?_)
  rw [Src.dcqArr, e0, e1, e3]

theorem final_dk : (dats m 0 c).arrAt 10 cfg0.N = R.dkArr := by
  refine (dats m 0 c).arrAt_eq_of_covers 10 _ (by decide +kernel) fun t hf y => ?_
  have e0 : ((win0_10.blk t).view.emb y 0).val = 1024 * (t.val % 8) + (y 0).val := by blk_simp [idx t]; omega
  have e1 : ((win0_10.blk t).view.emb y 1).val = 128 * (t.val / 8) + (y 1).val := by blk_simp [idx t]; omega
  blk_simp
  rw [after0_10]
  exact place_dk m c hS t y _ e0 e1

theorem final_dv : (dats m 0 c).arrAt 11 cfg0.N = R.dvArr := by
  refine (dats m 0 c).arrAt_eq_of_covers 11 _ (by decide +kernel) fun t hf y => ?_
  have e0 : ((win0_11.blk t).view.emb y 0).val = 1024 * (t.val % 8) + (y 0).val := by blk_simp [idx t]; omega
  have e1 : ((win0_11.blk t).view.emb y 1).val = 128 * (t.val / 8) + (y 1).val := by blk_simp [idx t]; omega
  blk_simp
  rw [after0_11]
  exact place_dv m c hS t y _ e0 e1

theorem final_dck : (dats m 0 c).arrAt 12 cfg0.N = R.dckArr := by
  refine (dats m 0 c).arrAt_eq_of_covers 12 _ (by decide +kernel) fun t hf y => ?_
  have e0 : ((win0_12.blk t).view.emb y 0).val = t.val / 8 := by blk_simp [idx t]
  have e1 : ((win0_12.blk t).view.emb y 1).val = 1024 * (t.val % 8) + (y 1).val := by blk_simp [idx t]; omega
  blk_simp
  rw [after0_12]
  exact place_dck m c hS t y _ e0 e1

theorem final_dq : (dats m 0 c).arrAt 13 cfg0.N = R.dqArr := by
  refine (dats m 0 c).arrAt_eq_of_covers 13 _ (by decide +kernel) fun t hf y => ?_
  have ht := (flush0_13 t).1 hf
  have e0 : ((win0_13.blk t).view.emb y 0).val = t.val / 8 := by blk_simp [idx t]
  have e1 : ((win0_13.blk t).view.emb y 1).val = (y 1).val := by blk_simp [idx t]
  have e2 : ((win0_13.blk t).view.emb y 2).val = (y 2).val := by blk_simp [idx t]
  have e3 : ((win0_13.blk t).view.emb y 3).val = (y 3).val := by blk_simp [idx t]
  blk_simp
  rw [after0_13]
  exact place_dq m c hS t ht y _ e0 e1 e2 e3

theorem final_dcq : (dats m 0 c).arrAt 14 cfg0.N = R.dcqArr := by
  refine (dats m 0 c).arrAt_eq_of_covers 14 _ (by decide +kernel) fun t hf y => ?_
  have ht := (flush0_14 t).1 hf
  have e0 : ((win0_14.blk t).view.emb y 0).val = t.val / 8 := by blk_simp [idx t]
  have e1 : ((win0_14.blk t).view.emb y 1).val = (y 1).val := by blk_simp [idx t]
  have e3 : ((win0_14.blk t).view.emb y 3).val = (y 3).val := by blk_simp [idx t]
  blk_simp
  rw [after0_14]
  exact place_dcq m c hS t ht y _ e0 e1 e3

end Cert.KernelIdeal.FoxBody

end
-- ==== Proof.ReferenceOps.lean ====
/-
  The steps of the reference, each as a function of the arrays it reads, and what each reads at an index.
-/
module

public import proofs.«01_k».proof.Proof.HostReal
public import proofs.«01_k».proof.Proof.Gen.ReferenceIdeal

@[expose] public section

set_option maxRecDepth 16384

noncomputable section

namespace Cert.ReferenceIdeal.FoxOps

open Idealize.ShloMosaic Cert.ReferenceIdeal Cert.ReferenceIdeal.Gen Cert.FoxMath
open Cert.KernelIdeal.FoxHost (rsqrt128 bot_bits)

variable (a : FVec Ideal S8192x8 .f32) (q k v : FVec Ideal S8192x8x128 .f32) (o : FVec Ideal S8x128x8192 .f32)
  (seen : IVec S8x8192x8192 1) (x y z : FVec Ideal S8x8192x8192 .f32) (l n : FVec Ideal S8x8192 .f32)

/-! ## The steps -/

/-- Every query's number, at every key. -/
def perQuery : FVec Ideal S8x8192x8192 .f32 :=
  broadcastInDim S8x8192x8192 ![0, 1, 2] bcast_S8x8192x1_S8x8192x8192_0_1_2 (broadcastInDim S8x8192x1 ![0, 1] bcast_S8x8192_S8x8192x1_0_1 l)

/-- 1/√128, everywhere. -/
def scale : FVec Ideal S8x8192x8192 .f32 :=
  broadcastInDim S8x8192x8192 ![] bcast_S_S8x8192x8192 (Host.rsqrt (constant S_ .f32 0x43000000#32))

def everywhere (w : BitVec 32) : FVec Ideal S8x8192x8192 .f32 :=
  broadcastInDim S8x8192x8192 ![] bcast_S_S8x8192x8192 (constant S_ .f32 w)

def logits : FVec Ideal S8x8192x8192 .f32 :=
  select seen (subf (addf (mulf (Host.dotGeneral dot_S8192x8x128_S8192x8x128_S8x8192x8192_2_2_0_0_1_1 none q k) scale)
      (perQuery (transpose S8x8192 [1, 0] a transposes_S8192x8_S8x8192_1_0)))
    (broadcastInDim S8x8192x8192 ![0, 1, 2] bcast_S8x1x8192_S8x8192x8192_0_1_2 (broadcastInDim S8x1x8192 ![0, 2] bcast_S8x8192_S8x1x8192_0_2
      (transpose S8x8192 [1, 0] a transposes_S8192x8_S8x8192_1_0))))
    (everywhere 0xFF800000#32)

/-- Every query's greatest number. -/
def greatest : FVec Ideal S8x8192 .f32 :=
  Host.reduce FloatOps.maximumf x (constant S_ .f32 0xFF800000#32) reducesTo_S8x8192x8192_S8x8192_d2 h_S_

def exps : FVec Ideal S8x8192x8192 .f32 :=
  Host.exp (subf x (perQuery (maximumf (broadcastInDim S8x8192 ![] bcast_S_S8x8192 (constant S_ .f32 0xFF800000#32)) l)))

/-- Every query's sum over the keys. -/
def overKeys : FVec Ideal S8x8192 .f32 :=
  Host.reduceAdd x (constant S_ .f32 0x00000000#32) reducesTo_S8x8192x8192_S8x8192_d2 h_S_

def shares : FVec Ideal S8x8192x8192 .f32 := Host.divf x (perQuery l)

/-- One over the square of every query's number, at every key. -/
def overSquare : FVec Ideal S8x8192x8192 .f32 :=
  broadcastInDim S8x8192x8192 ![0, 1, 2] bcast_S8x8192x1_S8x8192x8192_0_1_2
    (Host.divf (broadcastInDim S8x8192x1 ![] bcast_S_S8x8192x1 (constant S_ .f32 0x3F800000#32))
      (mulf (broadcastInDim S8x8192x1 ![0, 1] bcast_S8x8192_S8x8192x1_0_1 l) (broadcastInDim S8x8192x1 ![0, 1] bcast_S8x8192_S8x8192x1_0_1 l)))

def dWeights : FVec Ideal S8x8192x8192 .f32 :=
  Host.dotGeneral dot_S8x128x8192_S8192x8x128_S8x8192x8192_1_2_2_0_0_1 none o v

/-- Minus every query's number, at every key. -/
def lessQuery : FVec Ideal S8x8192x8192 .f32 :=
  broadcastInDim S8x8192x8192 ![0, 1] bcast_S8x8192_S8x8192x8192_0_1
    (Host.reduceAdd (Host.negf (shapeCast S8x8192x1 l shapeCasts_S8x8192_S8x8192x1)) (constant S_ .f32 0x00000000#32) reducesTo_S8x8192x1_S8x8192_d2 h_S_)

def dLogits : FVec Ideal S8x8192x8192 .f32 :=
  select seen (mulf (addf (Host.divf x (perQuery l)) (lessQuery n)) y) (everywhere 0x00000000#32)

def outK : FVec Ideal S8192x1024 .bf16 :=
  truncf .bf16 (shapeCast S8192x1024 (transpose S8192x8x128 [1, 0, 2]
    (Host.dotGeneral dot_S8x8192x8192_S8192x8x128_S8x8192x128_1_0_2_2_0_1 none (mulf x scale) q) transposes_S8x8192x128_S8192x8x128_1_0_2)
    shapeCasts_S8192x8x128_S8192x1024) bitsLt_bf16_f32

def outV : FVec Ideal S8192x1024 .bf16 :=
  truncf .bf16 (shapeCast S8192x1024 (transpose S8192x8x128 [2, 0, 1]
    (Host.dotGeneral dot_S8x128x8192_S8x8192x8192_S8x128x8192_2_1_1_2_0_0 none o x) transposes_S8x128x8192_S8192x8x128_2_0_1)
    shapeCasts_S8192x8x128_S8192x1024) bitsLt_bf16_f32

def outQ : FVec Ideal S8x32x128x256 .f32 :=
  transpose S8x32x128x256 [2, 0, 3, 1] (shapeCast S32x256x8x128 (transpose S8192x8x128 [1, 0, 2]
    (Host.dotGeneral dot_S8x8192x8192_S8192x8x128_S8x8192x128_2_0_1_2_0_1 none (mulf x scale) k) transposes_S8x8192x128_S8192x8x128_1_0_2)
    shapeCasts_S8192x8x128_S32x256x8x128) transposes_S32x256x8x128_S8x32x128x256_2_0_3_1

def outGateK : FVec Ideal S8x8192x1 .f32 :=
  broadcastInDim S8x8192x1 ![0, 1] bcast_S8x8192_S8x8192x1_0_1 (transpose S8x8192 [1, 0] (transpose S8192x8 [1, 0]
    (Host.reduceAdd (shapeCast S8x1x8192 (Host.reduceAdd (Host.negf x) (constant S_ .f32 0x00000000#32) reducesTo_S8x8192x8192_S8x8192_d1 h_S_)
      shapeCasts_S8x8192_S8x1x8192) (constant S_ .f32 0x00000000#32) reducesTo_S8x1x8192_S8x8192_d1 h_S_)
    transposes_S8x8192_S8192x8_1_0) transposes_S8192x8_S8x8192_1_0)

def outGateQ : FVec Ideal S8x32x1x256 .f32 :=
  shapeCast S8x32x1x256 (transpose S8x8192 [1, 0] (transpose S8192x8 [1, 0]
    (Host.reduceAdd (shapeCast S8x8192x1 (overKeys x) shapeCasts_S8x8192_S8x8192x1) (constant S_ .f32 0x00000000#32) reducesTo_S8x8192x1_S8x8192_d2 h_S_)
    transposes_S8x8192_S8192x8_1_0) transposes_S8192x8_S8x8192_1_0) shapeCasts_S8x8192_S8x32x1x256

/-! ## The steps at an index -/

theorem perQuery_apply (h : Fin 8) (t s : Fin 8192) : perQuery l (ix3 h t s) = l (ix2 h t) := by
  pointwise [perQuery]

theorem scale_apply (h : Fin 8) (t s : Fin 8192) : scale (ix3 h t s) = (sc : EReal) := by
  pointwise [scale]
  exact rsqrt128

theorem everywhere_apply (w : BitVec 32) (h : Fin 8) (t s : Fin 8192) : everywhere w (ix3 h t s) = Ideal.ofBits .f32 w := by
  pointwise [everywhere]

theorem logits_apply (h : Fin 8) (t s : Fin 8192) : logits a q k seen (ix3 h t s)
    = Scalar.select (seen (ix3 h t s)) ((∑ d : Fin 128, q (ix3 t h d) * k (ix3 s h d)) * (sc : EReal) + a (ix2 t h) - a (ix2 s h)) (⊥ : EReal) := by
  pointwise [logits]
  rw [scale_apply, perQuery_apply, everywhere_apply, bot_bits]
  pointwise

theorem greatest_apply (h : Fin 8) (t : Fin 8192) :
    greatest x (ix2 h t) = Finset.univ.fold max (⊥ : EReal) (fun s : Fin 8192 => x (ix3 h t s)) := by
  pointwise [greatest]
  rw [bot_bits]

theorem exps_apply (h : Fin 8) (t s : Fin 8192) : exps x l (ix3 h t s) = Ideal.exp (x (ix3 h t s) - l (ix2 h t)) := by
  pointwise [exps, perQuery]
  rw [bot_bits, max_eq_right bot_le]

theorem overKeys_apply (h : Fin 8) (t : Fin 8192) : overKeys x (ix2 h t) = ∑ s : Fin 8192, x (ix3 h t s) := by
  pointwise [overKeys]

theorem shares_apply (h : Fin 8) (t s : Fin 8192) : shares x l (ix3 h t s) = Ideal.div (x (ix3 h t s)) (l (ix2 h t)) := by
  pointwise [shares, perQuery]

theorem one_bits : Ideal.ofBits .f32 0x3F800000#32 = (1 : EReal) := by
  simp [Ideal.ofBits, Ideal.ieee]
  try (rw [← EReal.coe_mul]; norm_num)

theorem overSquare_apply (h : Fin 8) (t s : Fin 8192) : overSquare l (ix3 h t s) = Ideal.div (1 : EReal) (l (ix2 h t) * l (ix2 h t)) := by
  pointwise [overSquare]

theorem dWeights_apply (h : Fin 8) (t s : Fin 8192) :
    dWeights v o (ix3 h t s) = ∑ d : Fin 128, o (ix3 h d t) * v (ix3 s h d) := by
  pointwise [dWeights]

theorem lessQuery_apply (h : Fin 8) (t s : Fin 8192) : lessQuery l (ix3 h t s) = -l (ix2 h t) := by
  pointwise [lessQuery]
  simp

theorem dLogits_apply (h : Fin 8) (t s : Fin 8192) : dLogits seen x y l n (ix3 h t s)
    = Scalar.select (seen (ix3 h t s)) ((Ideal.div (x (ix3 h t s)) (l (ix2 h t)) + -n (ix2 h t)) * y (ix3 h t s)) (0 : EReal) := by
  pointwise [dLogits]
  rw [lessQuery_apply, perQuery_apply, everywhere_apply]
  simp [Ideal.ofBits, Ideal.ieee]

theorem outK_apply (s : Fin 8192) (y : Fin 1024) : outK q x (ix2 s y) = ∑ t : Fin 8192,
    x (ix3 ⟨y.val / 128, by omega⟩ t s) * (sc : EReal) * q (ix3 t ⟨y.val / 128, by omega⟩ ⟨y.val % 128, by omega⟩) := by
  pointwise [outK]
  simp only [scale_apply]

theorem outV_apply (s : Fin 8192) (y : Fin 1024) : outV o x (ix2 s y) = ∑ t : Fin 8192,
    o (ix3 ⟨y.val / 128, by omega⟩ ⟨y.val % 128, by omega⟩ t) * x (ix3 ⟨y.val / 128, by omega⟩ t s) := by
  pointwise [outV]

theorem outQ_apply (h : Fin 8) (n : Fin 32) (d : Fin 128) (c : Fin 256) : outQ k x (ix4 h n d c) = ∑ s : Fin 8192,
    x (ix3 h ⟨256 * n.val + c.val, by omega⟩ s) * (sc : EReal) * k (ix3 s h d) := by
  pointwise [outQ]
  simp only [scale_apply, Nat.mul_comm]

theorem outGateK_apply (h : Fin 8) (s : Fin 8192) : outGateK x (ix3 h s 0) = ∑ t : Fin 8192, -x (ix3 h t s) := by
  pointwise [outGateK]
  simp

theorem outGateQ_apply (h : Fin 8) (n : Fin 32) (c : Fin 256) :
    outGateQ x (ix4 h n 0 c) = ∑ s : Fin 8192, x (ix3 h ⟨256 * n.val + c.val, by omega⟩ s) := by
  pointwise [outGateQ]
  simp [overKeys_apply, Nat.mul_comm]

end Cert.ReferenceIdeal.FoxOps

end
-- ==== Proof.ReferenceValue.lean ====
/-
  The reference, entry by entry and over the reals. It adds a query's own gate to all of the query's logits, and what it
  forms from them is the same whatever is added to all of them alike.
-/
module

public import proofs.«01_k».proof.Proof.ReferenceOps
public import proofs.«01_k».proof.Proof.Final
public import proofs.«01_k».proof.Proof.Gen.ReferenceIdeal.Read

@[expose] public section

set_option maxRecDepth 16384

noncomputable section

namespace Cert.ReferenceIdeal.FoxRef

open Idealize.ShloMosaic Cert.ReferenceIdeal Cert.ReferenceIdeal.Read Cert.FoxMath

variable (u : FVec Ideal S8192x13824 .bf16) (g : FVec Ideal S8192x1024 .bf16) (a : FVec Ideal S8192x8 .f32)

/-! ## The stages -/

def queries : FVec Ideal S8192x8x128 .f32 := val_main_v2 (F := Ideal) u
def keys : FVec Ideal S8192x8x128 .f32 := val_main_v5 (F := Ideal) u
def values : FVec Ideal S8192x8x128 .f32 := val_main_v8 (F := Ideal) u
/-- The incoming gradient as [head, feature, position]. -/
def gradT : FVec Ideal S8x128x8192 .f32 := val_main_v60 (F := Ideal) g
def seen : IVec S8x8192x8192 1 := val_main_v27_1 (F := Ideal)
def logits : FVec Ideal S8x8192x8192 .f32 := val_main_v27_0 (F := Ideal) u a
def top : FVec Ideal S8x8192 .f32 := val_main_v28 (F := Ideal) u a
def exps : FVec Ideal S8x8192x8192 .f32 := val_main_v48 (F := Ideal) u a
def total : FVec Ideal S8x8192 .f32 := val_main_v49 (F := Ideal) u a
def weights : FVec Ideal S8x8192x8192 .f32 := val_main_v52 (F := Ideal) u a
/-- The gradient of the weights. -/
def dWeights : FVec Ideal S8x8192x8192 .f32 := val_main_v61 (F := Ideal) u g
/-- The sum, over a query's keys, of the weights' gradients times the exponentials over the squared total. -/
def share : FVec Ideal S8x8192 .f32 := val_main_v67 (F := Ideal) u g a
/-- The gradient of the logits. -/
def dLogits : FVec Ideal S8x8192x8192 .f32 := val_main_v76 (F := Ideal) u g a

/-! ## Entry by entry -/

theorem queries_apply (t : Fin 8192) (h : Fin 8) (d : Fin 128) :
    queries u (ix3 t h d) = u (ix2 t ⟨128 * h.val + d.val, by omega⟩) := by
  pointwise [queries, val_main_v2, val_main_v1, val_main_v0]
  simp only [Nat.mul_comm]

theorem keys_apply (t : Fin 8192) (h : Fin 8) (d : Fin 128) :
    keys u (ix3 t h d) = u (ix2 t ⟨1024 + (128 * h.val + d.val), by omega⟩) := by
  pointwise [keys, val_main_v5, val_main_v4, val_main_v3]
  simp only [Nat.mul_comm]

theorem values_apply (t : Fin 8192) (h : Fin 8) (d : Fin 128) :
    values u (ix3 t h d) = u (ix2 t ⟨2048 + (128 * h.val + d.val), by omega⟩) := by
  pointwise [values, val_main_v8, val_main_v7, val_main_v6]
  simp only [Nat.mul_comm]

theorem gradT_apply (h : Fin 8) (d : Fin 128) (t : Fin 8192) :
    gradT g (ix3 h d t) = g (ix2 t ⟨128 * h.val + d.val, by omega⟩) := by
  pointwise [gradT, val_main_v60, val_main_v59, val_main_v58]
  simp only [Nat.mul_comm]

theorem seen_apply (h : Fin 8) (t s : Fin 8192) : seen (ix3 h t s) = BitVec.ofBool (decide (s.val ≤ t.val)) := by
  pointwise [seen, val_main_v27_1, val_main_v26, val_main_v25, val_main_v24, val_main_v23, val_main_v22, val_main_v21]
  exact sle_small (by omega) (by omega)

/-! ## Every stage is a step applied to stages before it -/

theorem logits_eq : logits u a = FoxOps.logits a (queries u) (keys u) seen := rfl
theorem top_eq : top u a = FoxOps.greatest (logits u a) := rfl
theorem exps_eq : exps u a = FoxOps.exps (logits u a) (top u a) := rfl
theorem total_eq : total u a = FoxOps.overKeys (exps u a) := rfl
theorem weights_eq : weights u a = FoxOps.shares (exps u a) (total u a) := rfl
theorem dWeights_eq : dWeights u g = FoxOps.dWeights (values u) (gradT g) := rfl
theorem share_eq : share u g a = FoxOps.overKeys (mulf (mulf (dWeights u g) (FoxOps.overSquare (total u a))) (exps u a)) := rfl
theorem dLogits_eq : dLogits u g a = FoxOps.dLogits seen (dWeights u g) (exps u a) (total u a) (share u g a) := rfl
theorem result_dk : (val_main_v93 (F := Ideal) u g a : FVec Ideal S8192x1024 .bf16) = FoxOps.outK (queries u) (dLogits u g a) := rfl
theorem result_dv : (val_main_v95 (F := Ideal) u g a : FVec Ideal S8192x1024 .bf16) = FoxOps.outV (gradT g) (weights u a) := rfl
theorem result_dck : (val_main_v97 (F := Ideal) u g a : FVec Ideal S8x8192x1 .f32) = FoxOps.outGateK (dLogits u g a) := rfl
theorem result_dq : (val_main_v99 (F := Ideal) u g a : FVec Ideal S8x32x128x256 .f32) = FoxOps.outQ (keys u) (dLogits u g a) := rfl
theorem result_dcq : (val_main_v101 (F := Ideal) u g a : FVec Ideal S8x32x1x256 .f32) = FoxOps.outGateQ (dLogits u g a) := rfl

/-! ## Over the reals -/

variable {u g a} {R : Src} (hS : SrcIs R u g a)

include hS

theorem queries_real (t : Fin 8192) (h : Fin 8) (d : Fin 128) : queries u (ix3 t h d) = (R.q h.val t.val d.val : EReal) := by
  rw [queries_apply, hS.u _ _ (by show 128 * h.val + d.val < 3072; omega)]; rfl

theorem keys_real (t : Fin 8192) (h : Fin 8) (d : Fin 128) : keys u (ix3 t h d) = (R.k h.val t.val d.val : EReal) := by
  rw [keys_apply, hS.u _ _ (by show 1024 + (128 * h.val + d.val) < 3072; omega)]; rfl

theorem values_real (t : Fin 8192) (h : Fin 8) (d : Fin 128) : values u (ix3 t h d) = (R.v h.val t.val d.val : EReal) := by
  rw [values_apply, hS.u _ _ (by show 2048 + (128 * h.val + d.val) < 3072; omega)]; rfl

theorem gradT_real (h : Fin 8) (d : Fin 128) (t : Fin 8192) : gradT g (ix3 h d t) = (R.o h.val t.val d.val : EReal) := by
  rw [gradT_apply, hS.g]; rfl

theorem logits_real (h : Fin 8) (t s : Fin 8192) :
    logits u a (ix3 h t s) = if s.val ≤ t.val then ((R.logit h.val t.val s.val + R.c t.val h.val : ℝ) : EReal) else ⊥ := by
  rw [logits_eq, FoxOps.logits_apply, seen_apply, Scalar.select_ofBool]
  simp only [decide_eq_true_eq]
  refine if_congr Iff.rfl ?_ rfl
  have e : (∑ d : Fin 128, queries u (ix3 t h d) * keys u (ix3 s h d)) = (R.qk h.val t.val s.val : EReal) := by
    rw [Src.qk, ← coe_sum]
    exact Finset.sum_congr rfl fun d _ => by rw [queries_real hS, keys_real hS, EReal.coe_mul]
  rw [e, hS.c, hS.c, ← EReal.coe_mul, ← EReal.coe_add, ← EReal.coe_sub]
  exact congrArg _ (by rw [Src.logit]; ring)

theorem exists_top (h : Fin 8) (t : Fin 8192) : ∃ M : ℝ, top u a (ix2 h t) = (M : EReal) := by
  rw [top_eq, FoxOps.greatest_apply]
  simp only [logits_real hS]
  exact max_real t.isLt fun s => R.logit h.val t.val s + R.c t.val h.val

theorem dWeights_real (h : Fin 8) (t s : Fin 8192) : dWeights u g (ix3 h t s) = (R.dp h.val t.val s.val : EReal) := by
  rw [dWeights_eq, FoxOps.dWeights_apply, Src.dp, ← coe_sum]
  exact Finset.sum_congr rfl fun d _ => by rw [gradT_real hS, values_real hS, EReal.coe_mul]

/-- The exponentials and their total, from one shift `A` of all of a query's logits. -/
theorem exists_shift (h : Fin 8) (t : Fin 8192) : ∃ A : ℝ,
    (∀ s : Fin 8192, exps u a (ix3 h t s) = ((if s.val ≤ t.val then Real.exp (R.logit h.val t.val s.val - A) else 0 : ℝ) : EReal))
    ∧ total u a (ix2 h t) = ((R.mass h.val t.val * Real.exp (-A) : ℝ) : EReal) := by
  obtain ⟨M, hM⟩ := exists_top hS h t
  have e : ∀ s : Fin 8192, exps u a (ix3 h t s)
      = ((if s.val ≤ t.val then Real.exp (R.logit h.val t.val s.val - (M - R.c t.val h.val)) else 0 : ℝ) : EReal) := fun s => by
    rw [exps_eq, FoxOps.exps_apply, logits_real hS, hM]
    split
    · rw [← EReal.coe_sub, Ideal.exp_coe]
      exact congrArg (fun x : ℝ => ((Real.exp x : ℝ) : EReal)) (by ring)
    · rw [EReal.bot_sub, Ideal.exp_bot, EReal.coe_zero]
  refine ⟨M - R.c t.val h.val, e, ?_⟩
  rw [total_eq, FoxOps.overKeys_apply, ← mass_shift, ← coe_sum]
  exact Finset.sum_congr rfl fun s _ => e s

omit hS in
theorem total_pos (R : Src) (h : Fin 8) (t : Fin 8192) (A : ℝ) : 0 < R.mass h.val t.val * Real.exp (-A) :=
  mul_pos (mass_pos t.isLt) (Real.exp_pos _)

theorem weights_real (h : Fin 8) (t s : Fin 8192) : weights u a (ix3 h t s) = (R.w h.val t.val s.val : EReal) := by
  obtain ⟨A, he, hl⟩ := exists_shift hS h t
  rw [weights_eq, FoxOps.shares_apply, he, hl, Ideal.div_coe (total_pos R h t A).ne', ← EReal.coe_mul, ← div_eq_mul_one_div, w_shift]

/-- The share, in terms of the total from the shift `A`: the mean over that total. -/
theorem share_real {h : Fin 8} {t : Fin 8192} {A : ℝ}
    (he : ∀ s : Fin 8192, exps u a (ix3 h t s) = ((if s.val ≤ t.val then Real.exp (R.logit h.val t.val s.val - A) else 0 : ℝ) : EReal))
    (hl : total u a (ix2 h t) = ((R.mass h.val t.val * Real.exp (-A) : ℝ) : EReal)) :
    share u g a (ix2 h t) = ((R.mean h.val t.val / (R.mass h.val t.val * Real.exp (-A)) : ℝ) : EReal) := by
  have hp := (total_pos R h t A).ne'
  rw [share_eq, FoxOps.overKeys_apply, Src.mean, Finset.sum_div, ← coe_sum]
  refine Finset.sum_congr rfl fun s _ => ?_
  pointwise
  rw [FoxOps.overSquare_apply, he, hl, dWeights_real hS, ← EReal.coe_mul, Ideal.div_coe (mul_ne_zero hp hp), one_mul, ← EReal.coe_mul, ← EReal.coe_mul,
    ← w_shift A]
  exact congrArg _ (by field_simp)

theorem dLogits_real (h : Fin 8) (t s : Fin 8192) : dLogits u g a (ix3 h t s) = (R.ds h.val t.val s.val : EReal) := by
  obtain ⟨A, he, hl⟩ := exists_shift hS h t
  have hp := (total_pos R h t A).ne'
  rw [dLogits_eq, FoxOps.dLogits_apply, seen_apply, Scalar.select_ofBool]
  simp only [decide_eq_true_eq]
  split
  · rw [share_real hS he hl, he, hl, dWeights_real hS, Ideal.div_coe hp, ← EReal.coe_mul, ← EReal.coe_neg, ← EReal.coe_add, ← EReal.coe_mul, Src.ds,
      ← w_shift A]
    exact congrArg _ (by field_simp; ring)
  · rw [ds_of_lt (by omega), EReal.coe_zero]

theorem dk_real : FoxOps.outK (queries u) (dLogits u g a) = R.dkArr := by
  funext i
  obtain ⟨s, y, rfl⟩ : ∃ (s : Fin 8192) (y : Fin 1024), i = ix2 s y := ⟨_, _, eq_ix2 i⟩
  rw [FoxOps.outK_apply]
  show _ = ((R.dk (y.val / 128) s.val (y.val % 128) : ℝ) : EReal)
  rw [Src.dk, Finset.sum_mul, ← coe_sum]
  refine Finset.sum_congr rfl fun t _ => ?_
  rw [dLogits_real hS, queries_real hS, ← EReal.coe_mul, ← EReal.coe_mul]
  exact congrArg _ (by ring)

theorem dv_real : FoxOps.outV (gradT g) (weights u a) = R.dvArr := by
  funext i
  obtain ⟨s, y, rfl⟩ : ∃ (s : Fin 8192) (y : Fin 1024), i = ix2 s y := ⟨_, _, eq_ix2 i⟩
  rw [FoxOps.outV_apply]
  show _ = ((R.dv (y.val / 128) s.val (y.val % 128) : ℝ) : EReal)
  rw [Src.dv, ← coe_sum]
  refine Finset.sum_congr rfl fun t _ => ?_
  rw [weights_real hS, gradT_real hS, ← EReal.coe_mul]
  exact congrArg _ (mul_comm _ _)

theorem dck_real : FoxOps.outGateK (dLogits u g a) = R.dckArr := by
  funext i
  obtain ⟨h, s, z, rfl⟩ : ∃ (h : Fin 8) (s : Fin 8192) (z : Fin 1), i = ix3 h s z := ⟨_, _, _, eq_ix3 i⟩
  obtain rfl : z = 0 := Subsingleton.elim _ _
  rw [FoxOps.outGateK_apply]
  show _ = ((R.dck h.val s.val : ℝ) : EReal)
  rw [Src.dck, ← Finset.sum_neg_distrib, ← coe_sum]
  exact Finset.sum_congr rfl fun t _ => by rw [dLogits_real hS, EReal.coe_neg]

theorem dq_real : FoxOps.outQ (keys u) (dLogits u g a) = R.dqArr := by
  funext i
  obtain ⟨h, n, d, c, rfl⟩ : ∃ (h : Fin 8) (n : Fin 32) (d : Fin 128) (c : Fin 256), i = ix4 h n d c := ⟨_, _, _, _, eq_ix4 i⟩
  rw [FoxOps.outQ_apply]
  show _ = ((R.dq h.val (256 * n.val + c.val) d.val : ℝ) : EReal)
  rw [Src.dq, Finset.sum_mul, ← coe_sum]
  refine Finset.sum_congr rfl fun s _ => ?_
  rw [dLogits_real hS, keys_real hS, ← EReal.coe_mul, ← EReal.coe_mul]
  exact congrArg _ (by ring)

theorem dcq_real : FoxOps.outGateQ (dLogits u g a) = R.dcqArr := by
  funext i
  obtain ⟨h, n, z, c, rfl⟩ : ∃ (h : Fin 8) (n : Fin 32) (z : Fin 1) (c : Fin 256), i = ix4 h n z c := ⟨_, _, _, _, eq_ix4 i⟩
  obtain rfl : z = 0 := Subsingleton.elim _ _
  rw [FoxOps.outGateQ_apply]
  show _ = ((R.dcq h.val (256 * n.val + c.val) : ℝ) : EReal)
  rw [Src.dcq, ← coe_sum]
  exact Finset.sum_congr rfl fun s _ => by rw [dLogits_real hS]

end Cert.ReferenceIdeal.FoxRef

end
-- ==== Proof.Finite.lean ====
/-
  The precondition: finite arguments hold sources.
-/
module

public import proofs.«01_k».proof.Pre_finite
public import proofs.«01_k».proof.Proof.HostReal

@[expose] public section

set_option maxRecDepth 16384

noncomputable section

namespace Cert.Pre_finite

open Idealize.ShloMosaic Cert.FoxMath

theorem facts : Facts := ⟨by decide, by decide, by decide, by decide⟩

theorem top_bf16 : Ideal.ofBits .bf16 0x7F80#16 = (⊤ : EReal) := by
  simp [Ideal.ofBits, Ideal.ieee]

theorem top_f32 : Ideal.ofBits .f32 0x7F800000#32 = (⊤ : EReal) := by
  simp [Ideal.ofBits, Ideal.ieee]

/-- An extended real whose absolute value is less than ∞ is the real it reads as. -/
theorem coe_of_lt (x : EReal) (h : BitVec.ofBool (decide (max x (-x) < ⊤)) = 1#1) : x = (x.toReal : EReal) := by
  have h' : max x (-x) < ⊤ := by
    by_contra hn
    rw [decide_eq_false hn] at h
    exact absurd h (by decide)
  have h1 : x < ⊤ := lt_of_le_of_lt (le_max_left _ _) h'
  have h2 : -x < ⊤ := lt_of_le_of_lt (le_max_right _ _) h'
  refine (EReal.coe_toReal h1.ne fun hb => ?_).symm
  rw [hb, EReal.neg_bot] at h2
  exact lt_irrefl _ h2

variable (u : FVec Ideal S8192x13824 .bf16) (g : FVec Ideal S8192x1024 .bf16) (a : FVec Ideal S8192x8 .f32)

/-- The sources an argument triple holds. -/
def sources : Src where
  u t x := if H : t < 8192 ∧ x < 13824 then (u (ix2 ⟨t, H.1⟩ ⟨x, H.2⟩) : EReal).toReal else 0
  g t x := if H : t < 8192 ∧ x < 1024 then (g (ix2 ⟨t, H.1⟩ ⟨x, H.2⟩) : EReal).toReal else 0
  c t h := if H : t < 8192 ∧ h < 8 then (a (ix2 ⟨t, H.1⟩ ⟨h, H.2⟩) : EReal).toReal else 0

/-- Finite arguments hold their sources. -/
theorem sources_is [Facts] (h : (fn (F := Ideal) u g a).1 = (fun _ => 1#1) ∧ (fn (F := Ideal) u g a).2.1 = (fun _ => 1#1)
    ∧ (fn (F := Ideal) u g a).2.2 = (fun _ => 1#1)) : SrcIs (sources u g a) u g a where
  u t x hx := by
    have e := congrFun h.1 (ix2 t ⟨x.val, hx⟩)
    unfold fn at e
    dsimp only at e
    pointwise at e
    rw [top_bf16] at e
    exact (coe_of_lt _ e).trans (by simp only [sources, dif_pos (And.intro t.isLt x.isLt)])
  g t x := by
    have e := congrFun h.2.1 (ix2 t x)
    unfold fn at e
    dsimp only at e
    pointwise at e
    rw [top_bf16] at e
    exact (coe_of_lt _ e).trans (by simp only [sources, dif_pos (And.intro t.isLt x.isLt)])
  c t h' := by
    have e := congrFun h.2.2 (ix2 t h')
    unfold fn at e
    dsimp only at e
    pointwise at e
    rw [top_f32] at e
    exact (coe_of_lt _ e).trans (by simp only [sources, dif_pos (And.intro t.isLt h'.isLt)])

end Cert.Pre_finite

end
-- ==== Proof.Products.lean ====
/-
  The projections' arrays over the extended reals: the three ways in which a product meets its factors' axes, and the sum of a
  product taken block by block.
-/
module

public import Idealize.ShloMosaic.Lib.Pipeline.ValueKit

@[expose] public section

noncomputable section

namespace Cert.Products

open Idealize.ShloMosaic

/-- `a b`: the left factor's columns meet the right factor's rows. -/
def nn {M K N : ℕ} (a : Shape.Idx ⟨2, ![M, K]⟩ → EReal) (b : Shape.Idx ⟨2, ![K, N]⟩ → EReal) : Shape.Idx ⟨2, ![M, N]⟩ → EReal :=
  fun i => ∑ k : Fin K, a (ix2 (i 0) k) * b (ix2 k (i 1))

/-- `a bᵀ`: columns meet columns. -/
def nt {M K N : ℕ} (a : Shape.Idx ⟨2, ![M, K]⟩ → EReal) (b : Shape.Idx ⟨2, ![N, K]⟩ → EReal) : Shape.Idx ⟨2, ![M, N]⟩ → EReal :=
  fun i => ∑ k : Fin K, a (ix2 (i 0) k) * b (ix2 (i 1) k)

/-- `aᵀ b`: rows meet rows. -/
def tn {M K N : ℕ} (a : Shape.Idx ⟨2, ![K, M]⟩ → EReal) (b : Shape.Idx ⟨2, ![K, N]⟩ → EReal) : Shape.Idx ⟨2, ![M, N]⟩ → EReal :=
  fun i => ∑ k : Fin K, a (ix2 k (i 0)) * b (ix2 k (i 1))

/-- A sum over the inner axis, block by block. -/
theorem sum_blocks {n w K : ℕ} (hK : n * w = K) (f : Fin K → EReal) (g : Fin n → Fin w → EReal)
    (h : ∀ (s : Fin n) (x : Fin w) (hs : w * s.val + x.val < K), g s x = f ⟨w * s.val + x.val, hs⟩) :
    ∑ s, ∑ x, g s x = ∑ k, f k := by
  subst hK
  rw [← finProdFinEquiv.sum_comp, Fintype.sum_prod_type]
  refine Finset.sum_congr rfl fun s _ => Finset.sum_congr rfl fun x _ => ?_
  have e : (finProdFinEquiv (s, x)).val = w * s.val + x.val := by
    simp only [finProdFinEquiv_apply_val]
    omega
  rw [h s x (e ▸ (finProdFinEquiv (s, x)).isLt)]
  exact congrArg f (Fin.ext e.symm)

end Cert.Products

end
-- ==== Proof.Product2.lean ====
/-
  The gradient of the main columns of w_in: the kernel and the reference leave the same product.
-/
module

public import proofs.«01_k».proof.Defs
public import proofs.«01_k».proof.Proof.Products
public import proofs.«01_k».proof.Proof.Gen.Kernel2Ideal.Frame
public import proofs.«01_k».proof.Proof.Gen.Reference2Ideal.Run
public import Idealize.ShloMosaic.Adequacy
public import Idealize.ShloMosaic.Init
public import Idealize.ShloMosaic.Lib.Pipeline.ReadBack

@[expose] public section

set_option maxRecDepth 16384

noncomputable section

namespace Cert.Kernel2Ideal.Product

open Idealize.ShloMosaic Idealize.ShloMosaic.TcCoe Idealize.ShloMosaic.Tactic Idealize.SL.Sem
open Cert.Kernel2Ideal Cert.Kernel2Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S8192x13824 .bf16 := m ((c : Thread nD τ).loc main_arg1)

/-- What the call leaves. -/
abbrev result : FVec Ideal S2048x13824 .bf16 := Products.tn (arg0 m c) (arg1 m c)

/-- Which block each window reads or writes at a point. -/
theorem idx : ∀ t : Fin cfg0.N, win0_0.index t = ![t.val % 4, t.val / 4 % 4]
    ∧ win0_1.index t = ![t.val % 4, t.val / 16]
    ∧ win0_2.index t = ![t.val / 4 % 4, t.val / 16] := by decide +kernel

/-- The number of points. -/
theorem point_lt (t : Fin cfg0.N) : t.val < 144 := t.isLt

abbrev blkA (t : Fin cfg0.N) : FVec Ideal S2048x512 .bf16 := iblk m c 0 t
abbrev blkB (t : Fin cfg0.N) : FVec Ideal S2048x1536 .bf16 := iblk m c 1 t

/-- A point's share of its block: the sum over its part of the inner axis. -/
def part (y : S512x1536.Idx) (t : Fin cfg0.N) : EReal :=
  ∑ x : Fin 2048, (blkA m c t (ix2 x (y 0)) * blkB m c t (ix2 x (y 1)) : EReal)

/-- The first point of a block's run stores its share. -/
theorem first (t : Fin cfg0.N) (h : t.val % 4 = 0) (y : S512x1536.Idx) : ((outsAt0 m c t.val t.isLt).2 y : EReal) = 0 + part m c y t := by
  rw [outsAt0_A m c t h (by omega) (by omega), zero_add]
  dsimp only
  frame_out
  pointwise [k0_pay2, k0_pay1]
  rfl

/-- Every later point of the run adds its share to what is there. -/
theorem next (t : Fin cfg0.N) (h : ¬t.val % 4 = 0) (y : S512x1536.Idx) :
    ((outsAt0 m c t.val t.isLt).2 y : EReal) = (outsAt0 m c (t.val - 1) (Nat.lt_of_le_of_lt (Nat.sub_le _ _) t.isLt)).2 y + part m c y t := by
  by_cases hl : t.val % 4 = 3
  · rw [outsAt0_C m c t h (by omega) hl]
    dsimp only
    frame_out
    pointwise [k0_pay3, k0_pay1]
    rw [read_unread_whole]
    rfl
  · rw [outsAt0_B m c t h (by omega) hl]
    dsimp only
    frame_out
    pointwise [k0_pay3, k0_pay1]
    rw [read_unread_whole]
    rfl

/-- The last point of a block's run writes the sum down. -/
theorem last (t : Fin cfg0.N) (h : t.val % 4 = 3) (y : S512x1536.Idx) :
    ((outsAt0 m c t.val t.isLt).1 y : EReal) = (outsAt0 m c t.val t.isLt).2 y := by
  rw [outsAt0_C m c t (by omega) (by omega) h]
  dsimp only
  frame_out
  pointwise [k0_pay4, k0_pay3, k0_pay1]

/-- A block of the result, at the last point of its run. -/
theorem place (t : Fin cfg0.N) (h : t.val % 4 = 3) (y : S512x1536.Idx) (i : S2048x13824.Idx) (e0 : (i 0).val = 512 * (t.val / 4 % 4) + (y 0).val)
    (e1 : (i 1).val = 1536 * (t.val / 16) + (y 1).val) :
    ((outsAt0 m c t.val t.isLt).1 y : EReal) = result m c i := by
  have := point_lt t
  rw [last m c t h y, Pipeline.eq_sum_fin_of_reset_step_of_flush (fun n h => ((outsAt0 m c n h).2 y : EReal)) 4 0 (part m c y)
    (fun t h => first m c t h y) (fun t h => next m c t h y) t h, zero_add]
  unfold result Products.tn part
  refine Products.sum_blocks (by decide) _ _ fun s x hs => congrArg₂ (fun a b : EReal => a * b) ?_ ?_
  · blk_ext [blkA, iblk, V_main_arg0, idx]
  · blk_ext [blkB, iblk, V_main_arg1, idx]

/-- The array after the last point. -/
theorem final : (dats m 0 c).arrAt 2 cfg0.N = result m c := by
  refine (dats m 0 c).arrAt_eq_of_covers 2 _ (by decide +kernel) fun t hf y => ?_
  have e0 : ((win0_2.blk t).view.emb y 0).val = 512 * (t.val / 4 % 4) + (y 0).val := by blk_simp [idx t]; omega
  have e1 : ((win0_2.blk t).view.emb y 1).val = 1536 * (t.val / 16) + (y 1).val := by blk_simp [idx t]; omega
  blk_simp
  rw [after0_2]
  exact place m c t ((flush0_2 t).1 hf) y _ e0 e1

/-- The kernel's run: its result, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m ρ) (unchanged m ρ))

end Cert.Kernel2Ideal.Product

namespace Cert.Reference2Ideal.Product

open Idealize.ShloMosaic Idealize.ShloMosaic.TcCoe Idealize.ShloMosaic.Tactic Idealize.SL.Sem
open Cert.Reference2Ideal Cert.Reference2Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S8192x13824 .bf16 := m ((c : Thread nD τ).loc main_arg1)

abbrev result : FVec Ideal S2048x13824 .bf16 := Products.tn (arg0 m c) (arg1 m c)

/-- The reference's expression is the product as a sum over the inner axis. -/
theorem value (x0 : FVec Ideal S8192x2048 .bf16) (x1 : FVec Ideal S8192x13824 .bf16) :
    (truncf .bf16 (transpose S2048x13824 [1, 0] (Host.dotGeneral (F := Ideal) dot_S8192x13824_S8192x2048_S13824x2048_0_0_1_1_n_n none (extf .f32 x1 bitsLt_bf16_f32) (extf .f32 x0 bitsLt_bf16_f32)) transposes_S13824x2048_S2048x13824_1_0) bitsLt_bf16_f32 : FVec Ideal S2048x13824 .bf16) = Products.tn x0 x1 := by
  funext i
  pointwise
  unfold Products.tn
  exact Finset.sum_congr rfl fun k _ => mul_comm (_ : EReal) _

/-- The reference's run: its result, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value _ _), (h c).2⟩) (Value.run (F := Ideal) m ρ)

/-- The reference's frame. -/
theorem frame : Cert.quiescent_Reference2Ideal := fun m ρ _ =>
  (θ_run defs _ _).mono (fun r h => ⟨fun c => (h c).2, sem_eq_zero_of_no_sems (by decide) r.2⟩) (Value.run (F := Ideal) m ρ)

end Cert.Reference2Ideal.Product

namespace Cert.Proof

open Idealize.ShloMosaic Idealize.SL.Sem

/-- From the same arguments kernel and reference leave the same array. -/
theorem algebraic2 : Cert.algebraic_Kernel2Ideal_Reference2Ideal (hKernel2Ideal := Cert.Kernel2Ideal.Gen.facts)
    (hReference2Ideal := Cert.Reference2Ideal.Gen.facts) := fun m ρ m' ρ' _ ha =>
  ⟨_, Cert.Kernel2Ideal.Product.run m ρ, (θ_run (Cert.Reference2Ideal.defs (F := Ideal)) _ _).mono
    (fun _ h c => ⟨(h c).1.trans (by
      unfold Cert.Reference2Ideal.Product.result Cert.Reference2Ideal.Product.arg0 Cert.Reference2Ideal.Product.arg1
      rw [(ha c).1, (ha c).2]), (h c).2⟩) (Cert.Reference2Ideal.Product.run m' ρ')⟩

end Cert.Proof

end
-- ==== Proof.Product3.lean ====
/-
  The gradient of h through the main columns: the kernel and the reference leave the same product.
-/
module

public import proofs.«01_k».proof.Defs
public import proofs.«01_k».proof.Proof.Products
public import proofs.«01_k».proof.Proof.Gen.Kernel3Ideal.Frame
public import proofs.«01_k».proof.Proof.Gen.Reference3Ideal.Run
public import Idealize.ShloMosaic.Adequacy
public import Idealize.ShloMosaic.Init
public import Idealize.ShloMosaic.Lib.Pipeline.ReadBack

@[expose] public section

set_option maxRecDepth 16384

noncomputable section

namespace Cert.Kernel3Ideal.Product

open Idealize.ShloMosaic Idealize.ShloMosaic.TcCoe Idealize.ShloMosaic.Tactic Idealize.SL.Sem
open Cert.Kernel3Ideal Cert.Kernel3Ideal.Gen

variable (m : (ℓ : Loc nD τ sig) → Buf (Elt Ideal) ℓ) (c : Dev nD)

abbrev arg0 : FVec Ideal S8192x13824 .bf16 := m ((c : Thread nD τ).loc main_arg0)
abbrev arg1 : FVec Ideal S2048x13824 .bf16 := m ((c : Thread nD τ).loc main_arg1)
abbrev arg2 : FVec Ideal S8192x2048 .f32 := m ((c : Thread nD τ).loc main_arg2)

/-- What the call leaves. -/
abbrev result : FVec Ideal S8192x2048 .f32 := fun i : S8192x2048.Idx => (arg2 m c i + Products.nt (arg0 m c) (arg1 m c) i : EReal)

/-- Which block each window reads or writes at a point. -/
theorem idx : ∀ t : Fin cfg0.N, win0_0.index t = ![t.val / 9 % 16, t.val % 9]
    ∧ win0_1.index t = ![t.val / 144, t.val % 9]
    ∧ win0_2.index t = ![t.val / 9 % 16, t.val / 144]
    ∧ win0_3.index t = ![t.val / 9 % 16, t.val / 144] := by decide +kernel

/-- The number of points. -/
theorem point_lt (t : Fin cfg0.N) : t.val < 288 := t.isLt

abbrev blkA (t : Fin cfg0.N) : FVec Ideal S512x1536 .bf16 := iblk m c 0 t
abbrev blkB (t : Fin cfg0.N) : FVec Ideal S1024x1536 .bf16 := iblk m c 1 t
abbrev blkAdd (t : Fin cfg0.N) : FVec Ideal S512x1024 .f32 := iblk m c 2 t

/-- A point's share of its block: the sum over its part of the inner axis. -/
def part (y : S512x1024.Idx) (t : Fin cfg0.N) : EReal :=
  ∑ x : Fin 1536, (blkA m c t (ix2 (y 0) x) * blkB m c t (ix2 (y 1) x) : EReal)

/-- The first point of a block's run stores its share. -/
theorem first (t : Fin cfg0.N) (h : t.val % 9 = 0) (y : S512x1024.Idx) : ((outsAt0 m c t.val t.isLt).2 y : EReal) = 0 + part m c y t := by
  rw [outsAt0_A m c t h (by omega) (by omega), zero_add]
  dsimp only
  frame_out
  pointwise [k0_pay2, k0_pay1]
  rfl

/-- Every later point of the run adds its share to what is there. -/
theorem next (t : Fin cfg0.N) (h : ¬t.val % 9 = 0) (y : S512x1024.Idx) :
    ((outsAt0 m c t.val t.isLt).2 y : EReal) = (outsAt0 m c (t.val - 1) (Nat.lt_of_le_of_lt (Nat.sub_le _ _) t.isLt)).2 y + part m c y t := by
  by_cases hl : t.val % 9 = 8
  · rw [outsAt0_C m c t h (by omega) hl]
    dsimp only
    frame_out
    pointwise [k0_pay3, k0_pay1]
    rw [read_unread_whole]
    rfl
  · rw [outsAt0_B m c t h (by omega) hl]
    dsimp only
    frame_out
    pointwise [k0_pay3, k0_pay1]
    rw [read_unread_whole]
    rfl

/-- The last point of a block's run writes the sum down. -/
theorem last (t : Fin cfg0.N) (h : t.val % 9 = 8) (y : S512x1024.Idx) :
    ((outsAt0 m c t.val t.isLt).1 y : EReal) = (outsAt0 m c t.val t.isLt).2 y + blkAdd m c t y := by
  rw [outsAt0_C m c t (by omega) (by omega) h]
  dsimp only
  frame_out
  pointwise [k0_pay4, k0_pay3, k0_pay1]

/-- A block of the result, at the last point of its run. -/
theorem place (t : Fin cfg0.N) (h : t.val % 9 = 8) (y : S512x1024.Idx) (i : S8192x2048.Idx) (e0 : (i 0).val = 512 * (t.val / 9 % 16) + (y 0).val)
    (e1 : (i 1).val = 1024 * (t.val / 144) + (y 1).val) :
    ((outsAt0 m c t.val t.isLt).1 y : EReal) = result m c i := by
  have := point_lt t
  rw [last m c t h y, Pipeline.eq_sum_fin_of_reset_step_of_flush (fun n h => ((outsAt0 m c n h).2 y : EReal)) 9 0 (part m c y)
    (fun t h => first m c t h y) (fun t h => next m c t h y) t h, zero_add]
  unfold result Products.nt part
  rw [add_comm]
  refine congrArg₂ (fun a b : EReal => a + b) ?_ (Products.sum_blocks (by decide) _ _ fun s x hs => congrArg₂ (fun a b : EReal => a * b) ?_ ?_)
  · blk_ext [blkAdd, iblk, V_main_arg2, idx t]
  · blk_ext [blkA, iblk, V_main_arg0, idx]
  · blk_ext [blkB, iblk, V_main_arg1, idx]

/-- The array after the last point. -/
theorem final : (dats m 0 c).arrAt 3 cfg0.N = result m c := by
  refine (dats m 0 c).arrAt_eq_of_covers 3 _ (by decide +kernel) fun t hf y => ?_
  have e0 : ((win0_3.blk t).view.emb y 0).val = 512 * (t.val / 9 % 16) + (y 0).val := by blk_simp [idx t]; omega
  have e1 : ((win0_3.blk t).view.emb y 1).val = 1024 * (t.val / 144) + (y 1).val := by blk_simp [idx t]; omega
  blk_simp
  rw [after0_3]
  exact place m c t ((flush0_3 t).1 hf) y _ e0 e1

/-- The kernel's run: its result, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩) (θ_run_and (run_main m ρ) (unchanged m ρ))

end Cert.Kernel3Ideal.Product

namespace Cert.Reference3Ideal.Product

open Idealize.ShloMosaic Idealize.ShloMosaic.TcCoe Idealize.ShloMosaic.Tactic Idealize.SL.Sem
open Cert.Reference3Ideal Cert.Reference3Ideal.Gen

variable (m : (ℓ : Loc nD τ sig) → Buf (Elt Ideal) ℓ) (c : Dev nD)

abbrev arg0 : FVec Ideal S8192x13824 .bf16 := m ((c : Thread nD τ).loc main_arg0)
abbrev arg1 : FVec Ideal S2048x13824 .bf16 := m ((c : Thread nD τ).loc main_arg1)
abbrev arg2 : FVec Ideal S8192x2048 .f32 := m ((c : Thread nD τ).loc main_arg2)

abbrev result : FVec Ideal S8192x2048 .f32 := fun i : S8192x2048.Idx => (arg2 m c i + Products.nt (arg0 m c) (arg1 m c) i : EReal)

/-- The reference's expression is the product as a sum over the inner axis. -/
theorem value (x0 : FVec Ideal S8192x13824 .bf16) (x1 : FVec Ideal S2048x13824 .bf16) (x2 : FVec Ideal S8192x2048 .f32) :
    (addf x2 (Host.dotGeneral (F := Ideal) dot_S8192x13824_S2048x13824_S8192x2048_1_1_0_0_n_n none (extf .f32 x0 bitsLt_bf16_f32) (extf .f32 x1 bitsLt_bf16_f32)) : FVec Ideal S8192x2048 .f32) = fun i : S8192x2048.Idx => (x2 i + Products.nt x0 x1 i : EReal) := by
  funext i
  pointwise
  rfl

/-- The reference's run: its result, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (value _ _ _), (h c).2⟩) (Value.run (F := Ideal) m ρ)

/-- The reference's frame. -/
theorem frame : Cert.quiescent_Reference3Ideal := fun m ρ _ =>
  (θ_run defs _ _).mono (fun r h => ⟨fun c => (h c).2, sem_eq_zero_of_no_sems (by decide) r.2⟩) (Value.run (F := Ideal) m ρ)

end Cert.Reference3Ideal.Product

namespace Cert.Proof

open Idealize.ShloMosaic Idealize.SL.Sem

/-- From the same arguments kernel and reference leave the same array. -/
theorem algebraic3 : Cert.algebraic_Kernel3Ideal_Reference3Ideal (hKernel3Ideal := Cert.Kernel3Ideal.Gen.facts)
    (hReference3Ideal := Cert.Reference3Ideal.Gen.facts) := fun m ρ m' ρ' _ ha =>
  ⟨_, Cert.Kernel3Ideal.Product.run m ρ, (θ_run (Cert.Reference3Ideal.defs (F := Ideal)) _ _).mono
    (fun _ h c => ⟨(h c).1.trans (by
      unfold Cert.Reference3Ideal.Product.result Cert.Reference3Ideal.Product.arg0 Cert.Reference3Ideal.Product.arg1 Cert.Reference3Ideal.Product.arg2
      rw [(ha c).1, (ha c).2.1, (ha c).2.2]), (h c).2⟩) (Cert.Reference3Ideal.Product.run m' ρ')⟩

end Cert.Proof

end
-- ==== Proof.Product4.lean ====
/-
  The gradient of w_gate[i] and of w_out: the kernel and the reference leave the same product.
-/
module

public import proofs.«01_k».proof.Defs
public import proofs.«01_k».proof.Proof.Products
public import proofs.«01_k».proof.Proof.Gen.Kernel4Ideal.Frame
public import proofs.«01_k».proof.Proof.Gen.Reference4Ideal.Run
public import Idealize.ShloMosaic.Adequacy
public import Idealize.ShloMosaic.Init
public import Idealize.ShloMosaic.Lib.Pipeline.ReadBack

@[expose] public section

set_option maxRecDepth 16384

noncomputable section

namespace Cert.Kernel4Ideal.Product

open Idealize.ShloMosaic Idealize.ShloMosaic.TcCoe Idealize.ShloMosaic.Tactic Idealize.SL.Sem
open Cert.Kernel4Ideal Cert.Kernel4Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S8192x2048 .bf16 := m ((c : Thread nD τ).loc main_arg1)

/-- What the call leaves. -/
abbrev result : FVec Ideal S2048x2048 .bf16 := Products.tn (arg0 m c) (arg1 m c)

/-- Which block each window reads or writes at a point. -/
theorem idx : ∀ t : Fin cfg0.N, win0_0.index t = ![t.val % 4, t.val / 4 % 4]
    ∧ win0_1.index t = ![t.val % 4, t.val / 16]
    ∧ win0_2.index t = ![t.val / 4 % 4, t.val / 16] := by decide +kernel

/-- The number of points. -/
theorem point_lt (t : Fin cfg0.N) : t.val < 32 := t.isLt

abbrev blkA (t : Fin cfg0.N) : FVec Ideal S2048x512 .bf16 := iblk m c 0 t
abbrev blkB (t : Fin cfg0.N) : FVec Ideal S2048x1024 .bf16 := iblk m c 1 t

/-- A point's share of its block: the sum over its part of the inner axis. -/
def part (y : S512x1024.Idx) (t : Fin cfg0.N) : EReal :=
  ∑ x : Fin 2048, (blkA m c t (ix2 x (y 0)) * blkB m c t (ix2 x (y 1)) : EReal)

/-- The first point of a block's run stores its share. -/
theorem first (t : Fin cfg0.N) (h : t.val % 4 = 0) (y : S512x1024.Idx) : ((outsAt0 m c t.val t.isLt).2 y : EReal) = 0 + part m c y t := by
  rw [outsAt0_A m c t h (by omega) (by omega), zero_add]
  dsimp only
  frame_out
  pointwise [k0_pay2, k0_pay1]
  rfl

/-- Every later point of the run adds its share to what is there. -/
theorem next (t : Fin cfg0.N) (h : ¬t.val % 4 = 0) (y : S512x1024.Idx) :
    ((outsAt0 m c t.val t.isLt).2 y : EReal) = (outsAt0 m c (t.val - 1) (Nat.lt_of_le_of_lt (Nat.sub_le _ _) t.isLt)).2 y + part m c y t := by
  by_cases hl : t.val % 4 = 3
  · rw [outsAt0_C m c t h (by omega) hl]
    dsimp only
    frame_out
    pointwise [k0_pay3, k0_pay1]
    rw [read_unread_whole]
    rfl
  · rw [outsAt0_B m c t h (by omega) hl]
    dsimp only
    frame_out
    pointwise [k0_pay3, k0_pay1]
    rw [read_unread_whole]
    rfl

/-- The last point of a block's run writes the sum down. -/
theorem last (t : Fin cfg0.N) (h : t.val % 4 = 3) (y : S512x1024.Idx) :
    ((outsAt0 m c t.val t.isLt).1 y : EReal) = (outsAt0 m c t.val t.isLt).2 y := by
  rw [outsAt0_C m c t (by omega) (by omega) h]
  dsimp only
  frame_out
  pointwise [k0_pay4, k0_pay3, k0_pay1]

/-- A block of the result, at the last point of its run. -/
theorem place (t : Fin cfg0.N) (h : t.val % 4 = 3) (y : S512x1024.Idx) (i : S2048x2048.Idx) (e0 : (i 0).val = 512 * (t.val / 4 % 4) + (y 0).val)
    (e1 : (i 1).val = 1024 * (t.val / 16) + (y 1).val) :
    ((outsAt0 m c t.val t.isLt).1 y : EReal) = result m c i := by
  have := point_lt t
  rw [last m c t h y, Pipeline.eq_sum_fin_of_reset_step_of_flush (fun n h => ((outsAt0 m c n h).2 y : EReal)) 4 0 (part m c y)
    (fun t h => first m c t h y) (fun t h => next m c t h y) t h, zero_add]
  unfold result Products.tn part
  refine Products.sum_blocks (by decide) _ _ fun s x hs => congrArg₂ (fun a b : EReal => a * b) ?_ ?_
  · blk_ext [blkA, iblk, V_main_arg0, idx]
  · blk_ext [blkB, iblk, V_main_arg1, idx]

/-- The array after the last point. -/
theorem final : (dats m 0 c).arrAt 2 cfg0.N = result m c := by
  refine (dats m 0 c).arrAt_eq_of_covers 2 _ (by decide +kernel) fun t hf y => ?_
  have e0 : ((win0_2.blk t).view.emb y 0).val = 512 * (t.val / 4 % 4) + (y 0).val := by blk_simp [idx t]; omega
  have e1 : ((win0_2.blk t).view.emb y 1).val = 1024 * (t.val / 16) + (y 1).val := by blk_simp [idx t]; omega
  blk_simp
  rw [after0_2]
  exact place m c t ((flush0_2 t).1 hf) y _ e0 e1

/-- The kernel's run: its result, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m ρ) (unchanged m ρ))

end Cert.Kernel4Ideal.Product

namespace Cert.Reference4Ideal.Product

open Idealize.ShloMosaic Idealize.ShloMosaic.TcCoe Idealize.ShloMosaic.Tactic Idealize.SL.Sem
open Cert.Reference4Ideal Cert.Reference4Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S8192x2048 .bf16 := m ((c : Thread nD τ).loc main_arg1)

abbrev result : FVec Ideal S2048x2048 .bf16 := Products.tn (arg0 m c) (arg1 m c)

/-- The reference's expression is the product as a sum over the inner axis. -/
theorem value (x0 : FVec Ideal S8192x2048 .bf16) (x1 : FVec Ideal S8192x2048 .bf16) :
    (truncf .bf16 (transpose S2048x2048 [1, 0] (Host.dotGeneral (F := Ideal) dot_S8192x2048_S8192x2048_S2048x2048_0_0_1_1_n_n none (extf .f32 x1 bitsLt_bf16_f32) (extf .f32 x0 bitsLt_bf16_f32)) transposes_S2048x2048_S2048x2048_1_0) bitsLt_bf16_f32 : FVec Ideal S2048x2048 .bf16) = Products.tn x0 x1 := by
  funext i
  pointwise
  unfold Products.tn
  exact Finset.sum_congr rfl fun k _ => mul_comm (_ : EReal) _

/-- The reference's run: its result, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value _ _), (h c).2⟩) (Value.run (F := Ideal) m ρ)

/-- The reference's frame. -/
theorem frame : Cert.quiescent_Reference4Ideal := fun m ρ _ =>
  (θ_run defs _ _).mono (fun r h => ⟨fun c => (h c).2, sem_eq_zero_of_no_sems (by decide) r.2⟩) (Value.run (F := Ideal) m ρ)

end Cert.Reference4Ideal.Product

namespace Cert.Proof

open Idealize.ShloMosaic Idealize.SL.Sem

/-- From the same arguments kernel and reference leave the same array. -/
theorem algebraic4 : Cert.algebraic_Kernel4Ideal_Reference4Ideal (hKernel4Ideal := Cert.Kernel4Ideal.Gen.facts)
    (hReference4Ideal := Cert.Reference4Ideal.Gen.facts) := fun m ρ m' ρ' _ ha =>
  ⟨_, Cert.Kernel4Ideal.Product.run m ρ, (θ_run (Cert.Reference4Ideal.defs (F := Ideal)) _ _).mono
    (fun _ h c => ⟨(h c).1.trans (by
      unfold Cert.Reference4Ideal.Product.result Cert.Reference4Ideal.Product.arg0 Cert.Reference4Ideal.Product.arg1
      rw [(ha c).1, (ha c).2]), (h c).2⟩) (Cert.Reference4Ideal.Product.run m' ρ')⟩

end Cert.Proof

end
-- ==== Proof.Product5.lean ====
/-
  The gradient of h through a later gate: the kernel and the reference leave the same product.
-/
module

public import proofs.«01_k».proof.Defs
public import proofs.«01_k».proof.Proof.Products
public import proofs.«01_k».proof.Proof.Gen.Kernel5Ideal.Frame
public import proofs.«01_k».proof.Proof.Gen.Reference5Ideal.Run
public import Idealize.ShloMosaic.Adequacy
public import Idealize.ShloMosaic.Init
public import Idealize.ShloMosaic.Lib.Pipeline.ReadBack

@[expose] public section

set_option maxRecDepth 16384

noncomputable section

namespace Cert.Kernel5Ideal.Product

open Idealize.ShloMosaic Idealize.ShloMosaic.TcCoe Idealize.ShloMosaic.Tactic Idealize.SL.Sem
open Cert.Kernel5Ideal Cert.Kernel5Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S2048x2048 .bf16 := m ((c : Thread nD τ).loc main_arg1)
abbrev arg2 : FVec Ideal S8192x2048 .f32 := m ((c : Thread nD τ).loc main_arg2)

/-- What the call leaves. -/
abbrev result : FVec Ideal S8192x2048 .f32 := fun i : S8192x2048.Idx => (arg2 m c i + Products.nt (arg0 m c) (arg1 m c) i : EReal)

/-- Which block each window reads or writes at a point. -/
theorem idx : ∀ t : Fin cfg0.N, win0_0.index t = ![t.val % 16, 0]
    ∧ win0_1.index t = ![t.val / 16, 0]
    ∧ win0_2.index t = ![t.val % 16, t.val / 16]
    ∧ win0_3.index t = ![t.val % 16, t.val / 16] := by decide +kernel

/-- A point's block of it. -/
theorem place (t : Fin cfg0.N) (y : S512x1024.Idx) (i : S8192x2048.Idx) (e0 : (i 0).val = 512 * (t.val % 16) + (y 0).val)
    (e1 : (i 1).val = 1024 * (t.val / 16) + (y 1).val) :
    (k0_pay1 (F := Ideal) (iblk m c 0 t) (iblk m c 1 t) (iblk m c 2 t) : FVec Ideal S512x1024 .f32) y = (result m c i : EReal) := by
  pointwise [k0_pay1]
  unfold result Products.nt
  rw [add_comm]
  refine congrArg₂ (fun a b : EReal => a + b) ?_ (Finset.sum_congr rfl fun k _ => congrArg₂ (fun a b : EReal => a * b) ?_ ?_)
  · blk_ext [iblk, V_main_arg2, idx t]
  · blk_ext [iblk, V_main_arg0, idx t]
  · blk_ext [iblk, V_main_arg1, idx t]

/-- The array after the last point. -/
theorem final : (dats m 0 c).arrAt 3 cfg0.N = result m c := by
  refine (dats m 0 c).arrAt_eq_of_covers 3 _ (by decide +kernel) fun t hf y => ?_
  have e0 : ((win0_3.blk t).view.emb y 0).val = 512 * (t.val % 16) + (y 0).val := by blk_simp [idx t]; omega
  have e1 : ((win0_3.blk t).view.emb y 1).val = 1024 * (t.val / 16) + (y 1).val := by blk_simp [idx t]; omega
  blk_simp
  rw [after0_3]
  frame_out
  exact place m c t y _ e0 e1

/-- The kernel's run: its result, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩) (θ_run_and (run_main m ρ) (unchanged m ρ))

end Cert.Kernel5Ideal.Product

namespace Cert.Reference5Ideal.Product

open Idealize.ShloMosaic Idealize.ShloMosaic.TcCoe Idealize.ShloMosaic.Tactic Idealize.SL.Sem
open Cert.Reference5Ideal Cert.Reference5Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S2048x2048 .bf16 := m ((c : Thread nD τ).loc main_arg1)
abbrev arg2 : FVec Ideal S8192x2048 .f32 := m ((c : Thread nD τ).loc main_arg2)

abbrev result : FVec Ideal S8192x2048 .f32 := fun i : S8192x2048.Idx => (arg2 m c i + Products.nt (arg0 m c) (arg1 m c) i : EReal)

/-- The reference's expression is the product as a sum over the inner axis. -/
theorem value (x0 : FVec Ideal S8192x2048 .bf16) (x1 : FVec Ideal S2048x2048 .bf16) (x2 : FVec Ideal S8192x2048 .f32) :
    (addf x2 (Host.dotGeneral (F := Ideal) dot_S8192x2048_S2048x2048_S8192x2048_1_1_0_0_n_n none (extf .f32 x0 bitsLt_bf16_f32) (extf .f32 x1 bitsLt_bf16_f32)) : FVec Ideal S8192x2048 .f32) = fun i : S8192x2048.Idx => (x2 i + Products.nt x0 x1 i : EReal) := by
  funext i
  pointwise
  rfl

/-- The reference's run: its result, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (value _ _ _), (h c).2⟩) (Value.run (F := Ideal) m ρ)

/-- The reference's frame. -/
theorem frame : Cert.quiescent_Reference5Ideal := fun m ρ _ =>
  (θ_run defs _ _).mono (fun r h => ⟨fun c => (h c).2, sem_eq_zero_of_no_sems (by decide) r.2⟩) (Value.run (F := Ideal) m ρ)

end Cert.Reference5Ideal.Product

namespace Cert.Proof

open Idealize.ShloMosaic Idealize.SL.Sem

/-- From the same arguments kernel and reference leave the same array. -/
theorem algebraic5 : Cert.algebraic_Kernel5Ideal_Reference5Ideal (hKernel5Ideal := Cert.Kernel5Ideal.Gen.facts)
    (hReference5Ideal := Cert.Reference5Ideal.Gen.facts) := fun m ρ m' ρ' _ ha =>
  ⟨_, Cert.Kernel5Ideal.Product.run m ρ, (θ_run (Cert.Reference5Ideal.defs (F := Ideal)) _ _).mono
    (fun _ h c => ⟨(h c).1.trans (by
      unfold Cert.Reference5Ideal.Product.result Cert.Reference5Ideal.Product.arg0 Cert.Reference5Ideal.Product.arg1 Cert.Reference5Ideal.Product.arg2
      rw [(ha c).1, (ha c).2.1, (ha c).2.2]), (h c).2⟩) (Cert.Reference5Ideal.Product.run m' ρ')⟩

end Cert.Proof

end
-- ==== Proof.Product6.lean ====
/-
  The gradient of h through the first gate: the kernel and the reference leave the same product.
-/
module

public import proofs.«01_k».proof.Defs
public import proofs.«01_k».proof.Proof.Products
public import proofs.«01_k».proof.Proof.Gen.Kernel6Ideal.Frame
public import proofs.«01_k».proof.Proof.Gen.Reference6Ideal.Run
public import Idealize.ShloMosaic.Adequacy
public import Idealize.ShloMosaic.Init
public import Idealize.ShloMosaic.Lib.Pipeline.ReadBack

@[expose] public section

set_option maxRecDepth 16384

noncomputable section

namespace Cert.Kernel6Ideal.Product

open Idealize.ShloMosaic Idealize.ShloMosaic.TcCoe Idealize.ShloMosaic.Tactic Idealize.SL.Sem
open Cert.Kernel6Ideal Cert.Kernel6Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S2048x2048 .bf16 := m ((c : Thread nD τ).loc main_arg1)

/-- What the call leaves. -/
abbrev result : FVec Ideal S8192x2048 .f32 := Products.nt (arg0 m c) (arg1 m c)

/-- Which block each window reads or writes at a point. -/
theorem idx : ∀ t : Fin cfg0.N, win0_0.index t = ![t.val % 16, 0]
    ∧ win0_1.index t = ![t.val / 16, 0]
    ∧ win0_2.index t = ![t.val % 16, t.val / 16] := by decide +kernel

/-- A point's block of it. -/
theorem place (t : Fin cfg0.N) (y : S512x1024.Idx) (i : S8192x2048.Idx) (e0 : (i 0).val = 512 * (t.val % 16) + (y 0).val)
    (e1 : (i 1).val = 1024 * (t.val / 16) + (y 1).val) :
    (k0_pay1 (F := Ideal) (iblk m c 0 t) (iblk m c 1 t) : FVec Ideal S512x1024 .f32) y = (result m c i : EReal) := by
  pointwise [k0_pay1]
  unfold result Products.nt
  refine Finset.sum_congr rfl fun k _ => congrArg₂ (fun a b : EReal => a * b) ?_ ?_
  · blk_ext [iblk, V_main_arg0, idx t]
  · blk_ext [iblk, V_main_arg1, idx t]

/-- The array after the last point. -/
theorem final : (dats m 0 c).arrAt 2 cfg0.N = result m c := by
  refine (dats m 0 c).arrAt_eq_of_covers 2 _ (by decide +kernel) fun t hf y => ?_
  have e0 : ((win0_2.blk t).view.emb y 0).val = 512 * (t.val % 16) + (y 0).val := by blk_simp [idx t]; omega
  have e1 : ((win0_2.blk t).view.emb y 1).val = 1024 * (t.val / 16) + (y 1).val := by blk_simp [idx t]; omega
  blk_simp
  rw [after0_2]
  frame_out
  exact place m c t y _ e0 e1

/-- The kernel's run: its result, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m ρ) (unchanged m ρ))

end Cert.Kernel6Ideal.Product

namespace Cert.Reference6Ideal.Product

open Idealize.ShloMosaic Idealize.ShloMosaic.TcCoe Idealize.ShloMosaic.Tactic Idealize.SL.Sem
open Cert.Reference6Ideal Cert.Reference6Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S2048x2048 .bf16 := m ((c : Thread nD τ).loc main_arg1)

abbrev result : FVec Ideal S8192x2048 .f32 := Products.nt (arg0 m c) (arg1 m c)

/-- The reference's expression is the product as a sum over the inner axis. -/
theorem value (x0 : FVec Ideal S8192x2048 .bf16) (x1 : FVec Ideal S2048x2048 .bf16) :
    (Host.dotGeneral (F := Ideal) dot_S8192x2048_S2048x2048_S8192x2048_1_1_0_0_n_n none (extf .f32 x0 bitsLt_bf16_f32) (extf .f32 x1 bitsLt_bf16_f32) : FVec Ideal S8192x2048 .f32) = Products.nt x0 x1 := by
  funext i
  pointwise
  rfl

/-- The reference's run: its result, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value _ _), (h c).2⟩) (Value.run (F := Ideal) m ρ)

/-- The reference's frame. -/
theorem frame : Cert.quiescent_Reference6Ideal := fun m ρ _ =>
  (θ_run defs _ _).mono (fun r h => ⟨fun c => (h c).2, sem_eq_zero_of_no_sems (by decide) r.2⟩) (Value.run (F := Ideal) m ρ)

end Cert.Reference6Ideal.Product

namespace Cert.Proof

open Idealize.ShloMosaic Idealize.SL.Sem

/-- From the same arguments kernel and reference leave the same array. -/
theorem algebraic6 : Cert.algebraic_Kernel6Ideal_Reference6Ideal (hKernel6Ideal := Cert.Kernel6Ideal.Gen.facts)
    (hReference6Ideal := Cert.Reference6Ideal.Gen.facts) := fun m ρ m' ρ' _ ha =>
  ⟨_, Cert.Kernel6Ideal.Product.run m ρ, (θ_run (Cert.Reference6Ideal.defs (F := Ideal)) _ _).mono
    (fun _ h c => ⟨(h c).1.trans (by
      unfold Cert.Reference6Ideal.Product.result Cert.Reference6Ideal.Product.arg0 Cert.Reference6Ideal.Product.arg1
      rw [(ha c).1, (ha c).2]), (h c).2⟩) (Cert.Reference6Ideal.Product.run m' ρ')⟩

end Cert.Proof

end
-- ==== Proof.Product7.lean ====
/-
  The gradient of the merged branches: the kernel and the reference leave the same product.
-/
module

public import proofs.«01_k».proof.Defs
public import proofs.«01_k».proof.Proof.Products
public import proofs.«01_k».proof.Proof.Gen.Kernel7Ideal.Frame
public import proofs.«01_k».proof.Proof.Gen.Reference7Ideal.Run
public import Idealize.ShloMosaic.Adequacy
public import Idealize.ShloMosaic.Init
public import Idealize.ShloMosaic.Lib.Pipeline.ReadBack

@[expose] public section

set_option maxRecDepth 16384

noncomputable section

namespace Cert.Kernel7Ideal.Product

open Idealize.ShloMosaic Idealize.ShloMosaic.TcCoe Idealize.ShloMosaic.Tactic Idealize.SL.Sem
open Cert.Kernel7Ideal Cert.Kernel7Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S2048x2048 .bf16 := m ((c : Thread nD τ).loc main_arg1)

/-- What the call leaves. -/
abbrev result : FVec Ideal S8192x2048 .bf16 := Products.nt (arg0 m c) (arg1 m c)

/-- Which block each window reads or writes at a point. -/
theorem idx : ∀ t : Fin cfg0.N, win0_0.index t = ![t.val % 16, 0]
    ∧ win0_1.index t = ![t.val / 16, 0]
    ∧ win0_2.index t = ![t.val % 16, t.val / 16] := by decide +kernel

/-- A point's block of it. -/
theorem place (t : Fin cfg0.N) (y : S512x1024.Idx) (i : S8192x2048.Idx) (e0 : (i 0).val = 512 * (t.val % 16) + (y 0).val)
    (e1 : (i 1).val = 1024 * (t.val / 16) + (y 1).val) :
    (k0_pay1 (F := Ideal) (iblk m c 0 t) (iblk m c 1 t) : FVec Ideal S512x1024 .bf16) y = (result m c i : EReal) := by
  pointwise [k0_pay1]
  unfold result Products.nt
  refine Finset.sum_congr rfl fun k _ => congrArg₂ (fun a b : EReal => a * b) ?_ ?_
  · blk_ext [iblk, V_main_arg0, idx t]
  · blk_ext [iblk, V_main_arg1, idx t]

/-- The array after the last point. -/
theorem final : (dats m 0 c).arrAt 2 cfg0.N = result m c := by
  refine (dats m 0 c).arrAt_eq_of_covers 2 _ (by decide +kernel) fun t hf y => ?_
  have e0 : ((win0_2.blk t).view.emb y 0).val = 512 * (t.val % 16) + (y 0).val := by blk_simp [idx t]; omega
  have e1 : ((win0_2.blk t).view.emb y 1).val = 1024 * (t.val / 16) + (y 1).val := by blk_simp [idx t]; omega
  blk_simp
  rw [after0_2]
  frame_out
  exact place m c t y _ e0 e1

/-- The kernel's run: its result, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m ρ) (unchanged m ρ))

end Cert.Kernel7Ideal.Product

namespace Cert.Reference7Ideal.Product

open Idealize.ShloMosaic Idealize.ShloMosaic.TcCoe Idealize.ShloMosaic.Tactic Idealize.SL.Sem
open Cert.Reference7Ideal Cert.Reference7Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S2048x2048 .bf16 := m ((c : Thread nD τ).loc main_arg1)

abbrev result : FVec Ideal S8192x2048 .bf16 := Products.nt (arg0 m c) (arg1 m c)

/-- The reference's expression is the product as a sum over the inner axis. -/
theorem value (x0 : FVec Ideal S8192x2048 .bf16) (x1 : FVec Ideal S2048x2048 .bf16) :
    (truncf .bf16 (Host.dotGeneral (F := Ideal) dot_S8192x2048_S2048x2048_S8192x2048_1_1_0_0_n_n none (extf .f32 x0 bitsLt_bf16_f32) (extf .f32 x1 bitsLt_bf16_f32)) bitsLt_bf16_f32 : FVec Ideal S8192x2048 .bf16) = Products.nt x0 x1 := by
  funext i
  pointwise
  rfl

/-- The reference's run: its result, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value _ _), (h c).2⟩) (Value.run (F := Ideal) m ρ)

/-- The reference's frame. -/
theorem frame : Cert.quiescent_Reference7Ideal := fun m ρ _ =>
  (θ_run defs _ _).mono (fun r h => ⟨fun c => (h c).2, sem_eq_zero_of_no_sems (by decide) r.2⟩) (Value.run (F := Ideal) m ρ)

end Cert.Reference7Ideal.Product

namespace Cert.Proof

open Idealize.ShloMosaic Idealize.SL.Sem

/-- From the same arguments kernel and reference leave the same array. -/
theorem algebraic7 : Cert.algebraic_Kernel7Ideal_Reference7Ideal (hKernel7Ideal := Cert.Kernel7Ideal.Gen.facts)
    (hReference7Ideal := Cert.Reference7Ideal.Gen.facts) := fun m ρ m' ρ' _ ha =>
  ⟨_, Cert.Kernel7Ideal.Product.run m ρ, (θ_run (Cert.Reference7Ideal.defs (F := Ideal)) _ _).mono
    (fun _ h c => ⟨(h c).1.trans (by
      unfold Cert.Reference7Ideal.Product.result Cert.Reference7Ideal.Product.arg0 Cert.Reference7Ideal.Product.arg1
      rw [(ha c).1, (ha c).2]), (h c).2⟩) (Cert.Reference7Ideal.Product.run m' ρ')⟩

end Cert.Proof

end
-- ==== Proof.Product8.lean ====
/-
  The gradient of w_branch[i]: the kernel and the reference leave the same product.
-/
module

public import proofs.«01_k».proof.Defs
public import proofs.«01_k».proof.Proof.Products
public import proofs.«01_k».proof.Proof.Gen.Kernel8Ideal.Frame
public import proofs.«01_k».proof.Proof.Gen.Reference8Ideal.Run
public import Idealize.ShloMosaic.Adequacy
public import Idealize.ShloMosaic.Init
public import Idealize.ShloMosaic.Lib.Pipeline.ReadBack

@[expose] public section

set_option maxRecDepth 16384

noncomputable section

namespace Cert.Kernel8Ideal.Product

open Idealize.ShloMosaic Idealize.ShloMosaic.TcCoe Idealize.ShloMosaic.Tactic Idealize.SL.Sem
open Cert.Kernel8Ideal Cert.Kernel8Ideal.Gen

variable (m : (ℓ : Loc nD τ sig) → Buf (Elt Ideal) ℓ) (c : Dev nD)

abbrev arg0 : FVec Ideal S8192x1024 .bf16 := m ((c : Thread nD τ).loc main_arg0)
abbrev arg1 : FVec Ideal S8192x2048 .bf16 := m ((c : Thread nD τ).loc main_arg1)

/-- What the call leaves. -/
abbrev result : FVec Ideal S1024x2048 .bf16 := Products.tn (arg0 m c) (arg1 m c)

/-- Which block each window reads or writes at a point. -/
theorem idx : ∀ t : Fin cfg0.N, win0_0.index t = ![t.val % 4, t.val / 4 % 2]
    ∧ win0_1.index t = ![t.val % 4, t.val / 8]
    ∧ win0_2.index t = ![t.val / 4 % 2, t.val / 8] := by decide +kernel

/-- The number of points. -/
theorem point_lt (t : Fin cfg0.N) : t.val < 16 := t.isLt

abbrev blkA (t : Fin cfg0.N) : FVec Ideal S2048x512 .bf16 := iblk m c 0 t
abbrev blkB (t : Fin cfg0.N) : FVec Ideal S2048x1024 .bf16 := iblk m c 1 t

/-- A point's share of its block: the sum over its part of the inner axis. -/
def part (y : S512x1024.Idx) (t : Fin cfg0.N) : EReal :=
  ∑ x : Fin 2048, (blkA m c t (ix2 x (y 0)) * blkB m c t (ix2 x (y 1)) : EReal)

/-- The first point of a block's run stores its share. -/
theorem first (t : Fin cfg0.N) (h : t.val % 4 = 0) (y : S512x1024.Idx) : ((outsAt0 m c t.val t.isLt).2 y : EReal) = 0 + part m c y t := by
  rw [outsAt0_A m c t h (by omega) (by omega), zero_add]
  dsimp only
  frame_out
  pointwise [k0_pay2, k0_pay1]
  rfl

/-- Every later point of the run adds its share to what is there. -/
theorem next (t : Fin cfg0.N) (h : ¬t.val % 4 = 0) (y : S512x1024.Idx) :
    ((outsAt0 m c t.val t.isLt).2 y : EReal) = (outsAt0 m c (t.val - 1) (Nat.lt_of_le_of_lt (Nat.sub_le _ _) t.isLt)).2 y + part m c y t := by
  by_cases hl : t.val % 4 = 3
  · rw [outsAt0_C m c t h (by omega) hl]
    dsimp only
    frame_out
    pointwise [k0_pay3, k0_pay1]
    rw [read_unread_whole]
    rfl
  · rw [outsAt0_B m c t h (by omega) hl]
    dsimp only
    frame_out
    pointwise [k0_pay3, k0_pay1]
    rw [read_unread_whole]
    rfl

/-- The last point of a block's run writes the sum down. -/
theorem last (t : Fin cfg0.N) (h : t.val % 4 = 3) (y : S512x1024.Idx) :
    ((outsAt0 m c t.val t.isLt).1 y : EReal) = (outsAt0 m c t.val t.isLt).2 y := by
  rw [outsAt0_C m c t (by omega) (by omega) h]
  dsimp only
  frame_out
  pointwise [k0_pay4, k0_pay3, k0_pay1]

/-- A block of the result, at the last point of its run. -/
theorem place (t : Fin cfg0.N) (h : t.val % 4 = 3) (y : S512x1024.Idx) (i : S1024x2048.Idx) (e0 : (i 0).val = 512 * (t.val / 4 % 2) + (y 0).val)
    (e1 : (i 1).val = 1024 * (t.val / 8) + (y 1).val) :
    ((outsAt0 m c t.val t.isLt).1 y : EReal) = result m c i := by
  have := point_lt t
  rw [last m c t h y, Pipeline.eq_sum_fin_of_reset_step_of_flush (fun n h => ((outsAt0 m c n h).2 y : EReal)) 4 0 (part m c y)
    (fun t h => first m c t h y) (fun t h => next m c t h y) t h, zero_add]
  unfold result Products.tn part
  refine Products.sum_blocks (by decide) _ _ fun s x hs => congrArg₂ (fun a b : EReal => a * b) ?_ ?_
  · blk_ext [blkA, iblk, V_main_arg0, idx]
  · blk_ext [blkB, iblk, V_main_arg1, idx]

/-- The array after the last point. -/
theorem final : (dats m 0 c).arrAt 2 cfg0.N = result m c := by
  refine (dats m 0 c).arrAt_eq_of_covers 2 _ (by decide +kernel) fun t hf y => ?_
  have e0 : ((win0_2.blk t).view.emb y 0).val = 512 * (t.val / 4 % 2) + (y 0).val := by blk_simp [idx t]; omega
  have e1 : ((win0_2.blk t).view.emb y 1).val = 1024 * (t.val / 8) + (y 1).val := by blk_simp [idx t]; omega
  blk_simp
  rw [after0_2]
  exact place m c t ((flush0_2 t).1 hf) y _ e0 e1

/-- The kernel's run: its result, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m ρ) (unchanged m ρ))

end Cert.Kernel8Ideal.Product

namespace Cert.Reference8Ideal.Product

open Idealize.ShloMosaic Idealize.ShloMosaic.TcCoe Idealize.ShloMosaic.Tactic Idealize.SL.Sem
open Cert.Reference8Ideal Cert.Reference8Ideal.Gen

variable (m : (ℓ : Loc nD τ sig) → Buf (Elt Ideal) ℓ) (c : Dev nD)

abbrev arg0 : FVec Ideal S8192x1024 .bf16 := m ((c : Thread nD τ).loc main_arg0)
abbrev arg1 : FVec Ideal S8192x2048 .bf16 := m ((c : Thread nD τ).loc main_arg1)

abbrev result : FVec Ideal S1024x2048 .bf16 := Products.tn (arg0 m c) (arg1 m c)

/-- The reference's expression is the product as a sum over the inner axis. -/
theorem value (x0 : FVec Ideal S8192x1024 .bf16) (x1 : FVec Ideal S8192x2048 .bf16) :
    (truncf .bf16 (transpose S1024x2048 [1, 0] (Host.dotGeneral (F := Ideal) dot_S8192x2048_S8192x1024_S2048x1024_0_0_1_1_n_n none (extf .f32 x1 bitsLt_bf16_f32) (extf .f32 x0 bitsLt_bf16_f32)) transposes_S2048x1024_S1024x2048_1_0) bitsLt_bf16_f32 : FVec Ideal S1024x2048 .bf16) = Products.tn x0 x1 := by
  funext i
  pointwise
  unfold Products.tn
  exact Finset.sum_congr rfl fun k _ => mul_comm (_ : EReal) _

/-- The reference's run: its result, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value _ _), (h c).2⟩) (Value.run (F := Ideal) m ρ)

/-- The reference's frame. -/
theorem frame : Cert.quiescent_Reference8Ideal := fun m ρ _ =>
  (θ_run defs _ _).mono (fun r h => ⟨fun c => (h c).2, sem_eq_zero_of_no_sems (by decide) r.2⟩) (Value.run (F := Ideal) m ρ)

end Cert.Reference8Ideal.Product

namespace Cert.Proof

open Idealize.ShloMosaic Idealize.SL.Sem

/-- From the same arguments kernel and reference leave the same array. -/
theorem algebraic8 : Cert.algebraic_Kernel8Ideal_Reference8Ideal (hKernel8Ideal := Cert.Kernel8Ideal.Gen.facts)
    (hReference8Ideal := Cert.Reference8Ideal.Gen.facts) := fun m ρ m' ρ' _ ha =>
  ⟨_, Cert.Kernel8Ideal.Product.run m ρ, (θ_run (Cert.Reference8Ideal.defs (F := Ideal)) _ _).mono
    (fun _ h c => ⟨(h c).1.trans (by
      unfold Cert.Reference8Ideal.Product.result Cert.Reference8Ideal.Product.arg0 Cert.Reference8Ideal.Product.arg1
      rw [(ha c).1, (ha c).2]), (h c).2⟩) (Cert.Reference8Ideal.Product.run m' ρ')⟩

end Cert.Proof

end
-- ==== Proof.Product9.lean ====
/-
  The gradient of a branch's output: the kernel and the reference leave the same product.
-/
module

public import proofs.«01_k».proof.Defs
public import proofs.«01_k».proof.Proof.Products
public import proofs.«01_k».proof.Proof.Gen.Kernel9Ideal.Frame
public import proofs.«01_k».proof.Proof.Gen.Reference9Ideal.Run
public import Idealize.ShloMosaic.Adequacy
public import Idealize.ShloMosaic.Init
public import Idealize.ShloMosaic.Lib.Pipeline.ReadBack

@[expose] public section

set_option maxRecDepth 16384

noncomputable section

namespace Cert.Kernel9Ideal.Product

open Idealize.ShloMosaic Idealize.ShloMosaic.TcCoe Idealize.ShloMosaic.Tactic Idealize.SL.Sem
open Cert.Kernel9Ideal Cert.Kernel9Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S1024x2048 .bf16 := m ((c : Thread nD τ).loc main_arg1)

/-- What the call leaves. -/
abbrev result : FVec Ideal S8192x1024 .bf16 := Products.nt (arg0 m c) (arg1 m c)

/-- Which block each window reads or writes at a point. -/
theorem idx : ∀ t : Fin cfg0.N, win0_0.index t = ![t.val % 16, 0]
    ∧ win0_1.index t = ![t.val / 16, 0]
    ∧ win0_2.index t = ![t.val % 16, t.val / 16] := by decide +kernel

/-- A point's block of it. -/
theorem place (t : Fin cfg0.N) (y : S512x1024.Idx) (i : S8192x1024.Idx) (e0 : (i 0).val = 512 * (t.val % 16) + (y 0).val)
    (e1 : (i 1).val = 1024 * (t.val / 16) + (y 1).val) :
    (k0_pay1 (F := Ideal) (iblk m c 0 t) (iblk m c 1 t) : FVec Ideal S512x1024 .bf16) y = (result m c i : EReal) := by
  pointwise [k0_pay1]
  unfold result Products.nt
  refine Finset.sum_congr rfl fun k _ => congrArg₂ (fun a b : EReal => a * b) ?_ ?_
  · blk_ext [iblk, V_main_arg0, idx t]
  · blk_ext [iblk, V_main_arg1, idx t]

/-- The array after the last point. -/
theorem final : (dats m 0 c).arrAt 2 cfg0.N = result m c := by
  refine (dats m 0 c).arrAt_eq_of_covers 2 _ (by decide +kernel) fun t hf y => ?_
  have e0 : ((win0_2.blk t).view.emb y 0).val = 512 * (t.val % 16) + (y 0).val := by blk_simp [idx t]; omega
  have e1 : ((win0_2.blk t).view.emb y 1).val = 1024 * (t.val / 16) + (y 1).val := by blk_simp [idx t]; omega
  blk_simp
  rw [after0_2]
  frame_out
  exact place m c t y _ e0 e1

/-- The kernel's run: its result, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m ρ) (unchanged m ρ))

end Cert.Kernel9Ideal.Product

namespace Cert.Reference9Ideal.Product

open Idealize.ShloMosaic Idealize.ShloMosaic.TcCoe Idealize.ShloMosaic.Tactic Idealize.SL.Sem
open Cert.Reference9Ideal Cert.Reference9Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S1024x2048 .bf16 := m ((c : Thread nD τ).loc main_arg1)

abbrev result : FVec Ideal S8192x1024 .bf16 := Products.nt (arg0 m c) (arg1 m c)

/-- The reference's expression is the product as a sum over the inner axis. -/
theorem value (x0 : FVec Ideal S8192x2048 .bf16) (x1 : FVec Ideal S1024x2048 .bf16) :
    (truncf .bf16 (Host.dotGeneral (F := Ideal) dot_S8192x2048_S1024x2048_S8192x1024_1_1_0_0_n_n none (extf .f32 x0 bitsLt_bf16_f32) (extf .f32 x1 bitsLt_bf16_f32)) bitsLt_bf16_f32 : FVec Ideal S8192x1024 .bf16) = Products.nt x0 x1 := by
  funext i
  pointwise
  rfl

/-- The reference's run: its result, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value _ _), (h c).2⟩) (Value.run (F := Ideal) m ρ)

/-- The reference's frame. -/
theorem frame : Cert.quiescent_Reference9Ideal := fun m ρ _ =>
  (θ_run defs _ _).mono (fun r h => ⟨fun c => (h c).2, sem_eq_zero_of_no_sems (by decide) r.2⟩) (Value.run (F := Ideal) m ρ)

end Cert.Reference9Ideal.Product

namespace Cert.Proof

open Idealize.ShloMosaic Idealize.SL.Sem

/-- From the same arguments kernel and reference leave the same array. -/
theorem algebraic9 : Cert.algebraic_Kernel9Ideal_Reference9Ideal (hKernel9Ideal := Cert.Kernel9Ideal.Gen.facts)
    (hReference9Ideal := Cert.Reference9Ideal.Gen.facts) := fun m ρ m' ρ' _ ha =>
  ⟨_, Cert.Kernel9Ideal.Product.run m ρ, (θ_run (Cert.Reference9Ideal.defs (F := Ideal)) _ _).mono
    (fun _ h c => ⟨(h c).1.trans (by
      unfold Cert.Reference9Ideal.Product.result Cert.Reference9Ideal.Product.arg0 Cert.Reference9Ideal.Product.arg1
      rw [(ha c).1, (ha c).2]), (h c).2⟩) (Cert.Reference9Ideal.Product.run m' ρ')⟩

end Cert.Proof

end
-- ==== Proof.Product10.lean ====
/-
  The main columns of h @ w_in: the kernel and the reference leave the same product.
-/
module

public import proofs.«01_k».proof.Defs
public import proofs.«01_k».proof.Proof.Products
public import proofs.«01_k».proof.Proof.Gen.Kernel10Ideal.Frame
public import proofs.«01_k».proof.Proof.Gen.Reference10Ideal.Run
public import Idealize.ShloMosaic.Adequacy
public import Idealize.ShloMosaic.Init
public import Idealize.ShloMosaic.Lib.Pipeline.ReadBack

@[expose] public section

set_option maxRecDepth 16384

noncomputable section

namespace Cert.Kernel10Ideal.Product

open Idealize.ShloMosaic Idealize.ShloMosaic.TcCoe Idealize.ShloMosaic.Tactic Idealize.SL.Sem
open Cert.Kernel10Ideal Cert.Kernel10Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S2048x13824 .bf16 := m ((c : Thread nD τ).loc main_arg1)

/-- What the call leaves. -/
abbrev result : FVec Ideal S8192x13824 .bf16 := Products.nn (arg0 m c) (arg1 m c)

/-- Which block each window reads or writes at a point. -/
theorem idx : ∀ t : Fin cfg0.N, win0_0.index t = ![t.val % 16, 0]
    ∧ win0_1.index t = ![0, t.val / 16]
    ∧ win0_2.index t = ![t.val % 16, t.val / 16] := by decide +kernel

/-- A point's block of it. -/
theorem place (t : Fin cfg0.N) (y : S512x1536.Idx) (i : S8192x13824.Idx) (e0 : (i 0).val = 512 * (t.val % 16) + (y 0).val)
    (e1 : (i 1).val = 1536 * (t.val / 16) + (y 1).val) :
    (k0_pay1 (F := Ideal) (iblk m c 0 t) (iblk m c 1 t) : FVec Ideal S512x1536 .bf16) y = (result m c i : EReal) := by
  pointwise [k0_pay1]
  unfold result Products.nn
  refine Finset.sum_congr rfl fun k _ => congrArg₂ (fun a b : EReal => a * b) ?_ ?_
  · blk_ext [iblk, V_main_arg0, idx t]
  · blk_ext [iblk, V_main_arg1, idx t]

/-- The array after the last point. -/
theorem final : (dats m 0 c).arrAt 2 cfg0.N = result m c := by
  refine (dats m 0 c).arrAt_eq_of_covers 2 _ (by decide +kernel) fun t hf y => ?_
  have e0 : ((win0_2.blk t).view.emb y 0).val = 512 * (t.val % 16) + (y 0).val := by blk_simp [idx t]; omega
  have e1 : ((win0_2.blk t).view.emb y 1).val = 1536 * (t.val / 16) + (y 1).val := by blk_simp [idx t]; omega
  blk_simp
  rw [after0_2]
  frame_out
  exact place m c t y _ e0 e1

/-- The kernel's run: its result, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m ρ) (unchanged m ρ))

end Cert.Kernel10Ideal.Product

namespace Cert.Reference10Ideal.Product

open Idealize.ShloMosaic Idealize.ShloMosaic.TcCoe Idealize.ShloMosaic.Tactic Idealize.SL.Sem
open Cert.Reference10Ideal Cert.Reference10Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S2048x13824 .bf16 := m ((c : Thread nD τ).loc main_arg1)

abbrev result : FVec Ideal S8192x13824 .bf16 := Products.nn (arg0 m c) (arg1 m c)

/-- The reference's expression is the product as a sum over the inner axis. -/
theorem value (x0 : FVec Ideal S8192x2048 .bf16) (x1 : FVec Ideal S2048x13824 .bf16) :
    (truncf .bf16 (Host.dotGeneral (F := Ideal) dot_S8192x2048_S2048x13824_S8192x13824_1_0_0_1_n_n none (extf .f32 x0 bitsLt_bf16_f32) (extf .f32 x1 bitsLt_bf16_f32)) bitsLt_bf16_f32 : FVec Ideal S8192x13824 .bf16) = Products.nn x0 x1 := by
  funext i
  pointwise
  rfl

/-- The reference's run: its result, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value _ _), (h c).2⟩) (Value.run (F := Ideal) m ρ)

/-- The reference's frame. -/
theorem frame : Cert.quiescent_Reference10Ideal := fun m ρ _ =>
  (θ_run defs _ _).mono (fun r h => ⟨fun c => (h c).2, sem_eq_zero_of_no_sems (by decide) r.2⟩) (Value.run (F := Ideal) m ρ)

end Cert.Reference10Ideal.Product

namespace Cert.Proof

open Idealize.ShloMosaic Idealize.SL.Sem

/-- From the same arguments kernel and reference leave the same array. -/
theorem algebraic10 : Cert.algebraic_Kernel10Ideal_Reference10Ideal (hKernel10Ideal := Cert.Kernel10Ideal.Gen.facts)
    (hReference10Ideal := Cert.Reference10Ideal.Gen.facts) := fun m ρ m' ρ' _ ha =>
  ⟨_, Cert.Kernel10Ideal.Product.run m ρ, (θ_run (Cert.Reference10Ideal.defs (F := Ideal)) _ _).mono
    (fun _ h c => ⟨(h c).1.trans (by
      unfold Cert.Reference10Ideal.Product.result Cert.Reference10Ideal.Product.arg0 Cert.Reference10Ideal.Product.arg1
      rw [(ha c).1, (ha c).2]), (h c).2⟩) (Cert.Reference10Ideal.Product.run m' ρ')⟩

end Cert.Proof

end
-- ==== Proof.Product11.lean ====
/-
  h @ w_gate[i]: the kernel and the reference leave the same product.
-/
module

public import proofs.«01_k».proof.Defs
public import proofs.«01_k».proof.Proof.Products
public import proofs.«01_k».proof.Proof.Gen.Kernel11Ideal.Frame
public import proofs.«01_k».proof.Proof.Gen.Reference11Ideal.Run
public import Idealize.ShloMosaic.Adequacy
public import Idealize.ShloMosaic.Init
public import Idealize.ShloMosaic.Lib.Pipeline.ReadBack

@[expose] public section

set_option maxRecDepth 16384

noncomputable section

namespace Cert.Kernel11Ideal.Product

open Idealize.ShloMosaic Idealize.ShloMosaic.TcCoe Idealize.ShloMosaic.Tactic Idealize.SL.Sem
open Cert.Kernel11Ideal Cert.Kernel11Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S2048x2048 .bf16 := m ((c : Thread nD τ).loc main_arg1)

/-- What the call leaves. -/
abbrev result : FVec Ideal S8192x2048 .bf16 := Products.nn (arg0 m c) (arg1 m c)

/-- Which block each window reads or writes at a point. -/
theorem idx : ∀ t : Fin cfg0.N, win0_0.index t = ![t.val % 16, 0]
    ∧ win0_1.index t = ![0, t.val / 16]
    ∧ win0_2.index t = ![t.val % 16, t.val / 16] := by decide +kernel

/-- A point's block of it. -/
theorem place (t : Fin cfg0.N) (y : S512x1024.Idx) (i : S8192x2048.Idx) (e0 : (i 0).val = 512 * (t.val % 16) + (y 0).val)
    (e1 : (i 1).val = 1024 * (t.val / 16) + (y 1).val) :
    (k0_pay1 (F := Ideal) (iblk m c 0 t) (iblk m c 1 t) : FVec Ideal S512x1024 .bf16) y = (result m c i : EReal) := by
  pointwise [k0_pay1]
  unfold result Products.nn
  refine Finset.sum_congr rfl fun k _ => congrArg₂ (fun a b : EReal => a * b) ?_ ?_
  · blk_ext [iblk, V_main_arg0, idx t]
  · blk_ext [iblk, V_main_arg1, idx t]

/-- The array after the last point. -/
theorem final : (dats m 0 c).arrAt 2 cfg0.N = result m c := by
  refine (dats m 0 c).arrAt_eq_of_covers 2 _ (by decide +kernel) fun t hf y => ?_
  have e0 : ((win0_2.blk t).view.emb y 0).val = 512 * (t.val % 16) + (y 0).val := by blk_simp [idx t]; omega
  have e1 : ((win0_2.blk t).view.emb y 1).val = 1024 * (t.val / 16) + (y 1).val := by blk_simp [idx t]; omega
  blk_simp
  rw [after0_2]
  frame_out
  exact place m c t y _ e0 e1

/-- The kernel's run: its result, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m ρ) (unchanged m ρ))

end Cert.Kernel11Ideal.Product

namespace Cert.Reference11Ideal.Product

open Idealize.ShloMosaic Idealize.ShloMosaic.TcCoe Idealize.ShloMosaic.Tactic Idealize.SL.Sem
open Cert.Reference11Ideal Cert.Reference11Ideal.Gen

variable (m : (ℓ : Loc nD τ sig) → Buf (Elt Ideal) ℓ) (c : Dev nD)

abbrev arg0 : FVec Ideal S8192x2048 .bf16 := m ((c : Thread nD τ).loc main_arg0)
abbrev arg1 : FVec Ideal S2048x2048 .bf16 := m ((c : Thread nD τ).loc main_arg1)

abbrev result : FVec Ideal S8192x2048 .bf16 := Products.nn (arg0 m c) (arg1 m c)

/-- The reference's expression is the product as a sum over the inner axis. -/
theorem value (x0 : FVec Ideal S8192x2048 .bf16) (x1 : FVec Ideal S2048x2048 .bf16) :
    (truncf .bf16 (Host.dotGeneral (F := Ideal) dot_S8192x2048_S2048x2048_S8192x2048_1_0_0_1_n_n none (extf .f32 x0 bitsLt_bf16_f32) (extf .f32 x1 bitsLt_bf16_f32)) bitsLt_bf16_f32 : FVec Ideal S8192x2048 .bf16) = Products.nn x0 x1 := by
  funext i
  pointwise
  rfl

/-- The reference's run: its result, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value _ _), (h c).2⟩) (Value.run (F := Ideal) m ρ)

/-- The reference's frame. -/
theorem frame : Cert.quiescent_Reference11Ideal := fun m ρ _ =>
  (θ_run defs _ _).mono (fun r h => ⟨fun c => (h c).2, sem_eq_zero_of_no_sems (by decide) r.2⟩) (Value.run (F := Ideal) m ρ)

end Cert.Reference11Ideal.Product

namespace Cert.Proof

open Idealize.ShloMosaic Idealize.SL.Sem

/-- From the same arguments kernel and reference leave the same array. -/
theorem algebraic11 : Cert.algebraic_Kernel11Ideal_Reference11Ideal (hKernel11Ideal := Cert.Kernel11Ideal.Gen.facts)
    (hReference11Ideal := Cert.Reference11Ideal.Gen.facts) := fun m ρ m' ρ' _ ha =>
  ⟨_, Cert.Kernel11Ideal.Product.run m ρ, (θ_run (Cert.Reference11Ideal.defs (F := Ideal)) _ _).mono
    (fun _ h c => ⟨(h c).1.trans (by
      unfold Cert.Reference11Ideal.Product.result Cert.Reference11Ideal.Product.arg0 Cert.Reference11Ideal.Product.arg1
      rw [(ha c).1, (ha c).2]), (h c).2⟩) (Cert.Reference11Ideal.Product.run m' ρ')⟩

end Cert.Proof

end
-- ==== Proof.Product12.lean ====
/-
  y_i @ w_branch[i]: the kernel and the reference leave the same product.
-/
module

public import proofs.«01_k».proof.Defs
public import proofs.«01_k».proof.Proof.Products
public import proofs.«01_k».proof.Proof.Gen.Kernel12Ideal.Frame
public import proofs.«01_k».proof.Proof.Gen.Reference12Ideal.Run
public import Idealize.ShloMosaic.Adequacy
public import Idealize.ShloMosaic.Init
public import Idealize.ShloMosaic.Lib.Pipeline.ReadBack

@[expose] public section

set_option maxRecDepth 16384

noncomputable section

namespace Cert.Kernel12Ideal.Product

open Idealize.ShloMosaic Idealize.ShloMosaic.TcCoe Idealize.ShloMosaic.Tactic Idealize.SL.Sem
open Cert.Kernel12Ideal Cert.Kernel12Ideal.Gen

variable (m : (ℓ : Loc nD τ sig) → Buf (Elt Ideal) ℓ) (c : Dev nD)

abbrev arg0 : FVec Ideal S8192x1024 .bf16 := m ((c : Thread nD τ).loc main_arg0)
abbrev arg1 : FVec Ideal S1024x2048 .bf16 := m ((c : Thread nD τ).loc main_arg1)

/-- What the call leaves. -/
abbrev result : FVec Ideal S8192x2048 .bf16 := Products.nn (arg0 m c) (arg1 m c)

/-- Which block each window reads or writes at a point. -/
theorem idx : ∀ t : Fin cfg0.N, win0_0.index t = ![t.val % 16, 0]
    ∧ win0_1.index t = ![0, t.val / 16]
    ∧ win0_2.index t = ![t.val % 16, t.val / 16] := by decide +kernel

/-- A point's block of it. -/
theorem place (t : Fin cfg0.N) (y : S512x1024.Idx) (i : S8192x2048.Idx) (e0 : (i 0).val = 512 * (t.val % 16) + (y 0).val)
    (e1 : (i 1).val = 1024 * (t.val / 16) + (y 1).val) :
    (k0_pay1 (F := Ideal) (iblk m c 0 t) (iblk m c 1 t) : FVec Ideal S512x1024 .bf16) y = (result m c i : EReal) := by
  pointwise [k0_pay1]
  unfold result Products.nn
  refine Finset.sum_congr rfl fun k _ => congrArg₂ (fun a b : EReal => a * b) ?_ ?_
  · blk_ext [iblk, V_main_arg0, idx t]
  · blk_ext [iblk, V_main_arg1, idx t]

/-- The array after the last point. -/
theorem final : (dats m 0 c).arrAt 2 cfg0.N = result m c := by
  refine (dats m 0 c).arrAt_eq_of_covers 2 _ (by decide +kernel) fun t hf y => ?_
  have e0 : ((win0_2.blk t).view.emb y 0).val = 512 * (t.val % 16) + (y 0).val := by blk_simp [idx t]; omega
  have e1 : ((win0_2.blk t).view.emb y 1).val = 1024 * (t.val / 16) + (y 1).val := by blk_simp [idx t]; omega
  blk_simp
  rw [after0_2]
  frame_out
  exact place m c t y _ e0 e1

/-- The kernel's run: its result, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final m c), h.2 c⟩) (θ_run_and (run_main m ρ) (unchanged m ρ))

end Cert.Kernel12Ideal.Product

namespace Cert.Reference12Ideal.Product

open Idealize.ShloMosaic Idealize.ShloMosaic.TcCoe Idealize.ShloMosaic.Tactic Idealize.SL.Sem
open Cert.Reference12Ideal Cert.Reference12Ideal.Gen

variable (m : (ℓ : Loc nD τ sig) → Buf (Elt Ideal) ℓ) (c : Dev nD)

abbrev arg0 : FVec Ideal S8192x1024 .bf16 := m ((c : Thread nD τ).loc main_arg0)
abbrev arg1 : FVec Ideal S1024x2048 .bf16 := m ((c : Thread nD τ).loc main_arg1)

abbrev result : FVec Ideal S8192x2048 .bf16 := Products.nn (arg0 m c) (arg1 m c)

/-- The reference's expression is the product as a sum over the inner axis. -/
theorem value (x0 : FVec Ideal S8192x1024 .bf16) (x1 : FVec Ideal S1024x2048 .bf16) :
    (truncf .bf16 (Host.dotGeneral (F := Ideal) dot_S8192x1024_S1024x2048_S8192x2048_1_0_0_1_n_n none (extf .f32 x0 bitsLt_bf16_f32) (extf .f32 x1 bitsLt_bf16_f32)) bitsLt_bf16_f32 : FVec Ideal S8192x2048 .bf16) = Products.nn x0 x1 := by
  funext i
  pointwise
  rfl

/-- The reference's run: its result, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value _ _), (h c).2⟩) (Value.run (F := Ideal) m ρ)

/-- The reference's frame. -/
theorem frame : Cert.quiescent_Reference12Ideal := fun m ρ _ =>
  (θ_run defs _ _).mono (fun r h => ⟨fun c => (h c).2, sem_eq_zero_of_no_sems (by decide) r.2⟩) (Value.run (F := Ideal) m ρ)

end Cert.Reference12Ideal.Product

namespace Cert.Proof

open Idealize.ShloMosaic Idealize.SL.Sem

/-- From the same arguments kernel and reference leave the same array. -/
theorem algebraic12 : Cert.algebraic_Kernel12Ideal_Reference12Ideal (hKernel12Ideal := Cert.Kernel12Ideal.Gen.facts)
    (hReference12Ideal := Cert.Reference12Ideal.Gen.facts) := fun m ρ m' ρ' _ ha =>
  ⟨_, Cert.Kernel12Ideal.Product.run m ρ, (θ_run (Cert.Reference12Ideal.defs (F := Ideal)) _ _).mono
    (fun _ h c => ⟨(h c).1.trans (by
      unfold Cert.Reference12Ideal.Product.result Cert.Reference12Ideal.Product.arg0 Cert.Reference12Ideal.Product.arg1
      rw [(ha c).1, (ha c).2]), (h c).2⟩) (Cert.Reference12Ideal.Product.run m' ρ')⟩

end Cert.Proof

end
-- ==== Proof.Product13.lean ====
/-
  x + merged @ w_out: the kernel and the reference leave the same product.
-/
module

public import proofs.«01_k».proof.Defs
public import proofs.«01_k».proof.Proof.Products
public import proofs.«01_k».proof.Proof.Gen.Kernel13Ideal.Frame
public import proofs.«01_k».proof.Proof.Gen.Reference13Ideal.Run
public import Idealize.ShloMosaic.Adequacy
public import Idealize.ShloMosaic.Init
public import Idealize.ShloMosaic.Lib.Pipeline.ReadBack

@[expose] public section

set_option maxRecDepth 16384

noncomputable section

namespace Cert.Kernel13Ideal.Product

open Idealize.ShloMosaic Idealize.ShloMosaic.TcCoe Idealize.ShloMosaic.Tactic Idealize.SL.Sem
open Cert.Kernel13Ideal Cert.Kernel13Ideal.Gen

variable (m : (ℓ : Loc nD τ sig) → Buf (Elt Ideal) ℓ) (c : Dev nD)

abbrev arg0 : FVec Ideal S8192x2048 .f32 := m ((c : Thread nD τ).loc main_arg0)
abbrev arg1 : FVec Ideal S8192x2048 .bf16 := m ((c : Thread nD τ).loc main_arg1)
abbrev arg2 : FVec Ideal S2048x2048 .bf16 := m ((c : Thread nD τ).loc main_arg2)

/-- What the call leaves. -/
abbrev result : FVec Ideal S8192x2048 .f32 := fun i : S8192x2048.Idx => (arg0 m c i + Products.nn (arg1 m c) (arg2 m c) i : EReal)

/-- Which block each window reads or writes at a point. -/
theorem idx : ∀ t : Fin cfg0.N, win0_0.index t = ![t.val % 16, 0]
    ∧ win0_1.index t = ![0, t.val / 16]
    ∧ win0_2.index t = ![t.val % 16, t.val / 16]
    ∧ win0_3.index t = ![t.val % 16, t.val / 16] := by decide +kernel

/-- A point's block of it. -/
theorem place (t : Fin cfg0.N) (y : S512x1024.Idx) (i : S8192x2048.Idx) (e0 : (i 0).val = 512 * (t.val % 16) + (y 0).val)
    (e1 : (i 1).val = 1024 * (t.val / 16) + (y 1).val) :
    (k0_pay1 (F := Ideal) (iblk m c 0 t) (iblk m c 1 t) (iblk m c 2 t) : FVec Ideal S512x1024 .f32) y = (result m c i : EReal) := by
  pointwise [k0_pay1]
  unfold result Products.nn
  rw [add_comm]
  refine congrArg₂ (fun a b : EReal => a + b) ?_ (Finset.sum_congr rfl fun k _ => congrArg₂ (fun a b : EReal => a * b) ?_ ?_)
  · blk_ext [iblk, V_main_arg0, idx t]
  · blk_ext [iblk, V_main_arg1, idx t]
  · blk_ext [iblk, V_main_arg2, idx t]

/-- The array after the last point. -/
theorem final : (dats m 0 c).arrAt 3 cfg0.N = result m c := by
  refine (dats m 0 c).arrAt_eq_of_covers 3 _ (by decide +kernel) fun t hf y => ?_
  have e0 : ((win0_3.blk t).view.emb y 0).val = 512 * (t.val % 16) + (y 0).val := by blk_simp [idx t]; omega
  have e1 : ((win0_3.blk t).view.emb y 1).val = 1024 * (t.val / 16) + (y 1).val := by blk_simp [idx t]; omega
  blk_simp
  rw [after0_3]
  frame_out
  exact place m c t y _ e0 e1

/-- The kernel's run: its result, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final m c), h.2 c⟩) (θ_run_and (run_main m ρ) (unchanged m ρ))

end Cert.Kernel13Ideal.Product

namespace Cert.Reference13Ideal.Product

open Idealize.ShloMosaic Idealize.ShloMosaic.TcCoe Idealize.ShloMosaic.Tactic Idealize.SL.Sem
open Cert.Reference13Ideal Cert.Reference13Ideal.Gen

variable (m : (ℓ : Loc nD τ sig) → Buf (Elt Ideal) ℓ) (c : Dev nD)

abbrev arg0 : FVec Ideal S8192x2048 .f32 := m ((c : Thread nD τ).loc main_arg0)
abbrev arg1 : FVec Ideal S8192x2048 .bf16 := m ((c : Thread nD τ).loc main_arg1)
abbrev arg2 : FVec Ideal S2048x2048 .bf16 := m ((c : Thread nD τ).loc main_arg2)

abbrev result : FVec Ideal S8192x2048 .f32 := fun i : S8192x2048.Idx => (arg0 m c i + Products.nn (arg1 m c) (arg2 m c) i : EReal)

/-- The reference's expression is the product as a sum over the inner axis. -/
theorem value (x0 : FVec Ideal S8192x2048 .f32) (x1 : FVec Ideal S8192x2048 .bf16) (x2 : FVec Ideal S2048x2048 .bf16) :
    (addf x0 (Host.dotGeneral (F := Ideal) dot_S8192x2048_S2048x2048_S8192x2048_1_0_0_1_n_n none (extf .f32 x1 bitsLt_bf16_f32) (extf .f32 x2 bitsLt_bf16_f32)) : FVec Ideal S8192x2048 .f32) = fun i : S8192x2048.Idx => (x0 i + Products.nn x1 x2 i : EReal) := by
  funext i
  pointwise
  rfl

/-- The reference's run: its result, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (value _ _ _), (h c).2⟩) (Value.run (F := Ideal) m ρ)

/-- The reference's frame. -/
theorem frame : Cert.quiescent_Reference13Ideal := fun m ρ _ =>
  (θ_run defs _ _).mono (fun r h => ⟨fun c => (h c).2, sem_eq_zero_of_no_sems (by decide) r.2⟩) (Value.run (F := Ideal) m ρ)

end Cert.Reference13Ideal.Product

namespace Cert.Proof

open Idealize.ShloMosaic Idealize.SL.Sem

/-- From the same arguments kernel and reference leave the same array. -/
theorem algebraic13 : Cert.algebraic_Kernel13Ideal_Reference13Ideal (hKernel13Ideal := Cert.Kernel13Ideal.Gen.facts)
    (hReference13Ideal := Cert.Reference13Ideal.Gen.facts) := fun m ρ m' ρ' _ ha =>
  ⟨_, Cert.Kernel13Ideal.Product.run m ρ, (θ_run (Cert.Reference13Ideal.defs (F := Ideal)) _ _).mono
    (fun _ h c => ⟨(h c).1.trans (by
      unfold Cert.Reference13Ideal.Product.result Cert.Reference13Ideal.Product.arg0 Cert.Reference13Ideal.Product.arg1 Cert.Reference13Ideal.Product.arg2
      rw [(ha c).1, (ha c).2.1, (ha c).2.2]), (h c).2⟩) (Cert.Reference13Ideal.Product.run m' ρ')⟩

end Cert.Proof

end
-- ==== Proof.Gate14.lean ====
/-
  The gradient of the attention's output gate: kernel and reference leave the same arrays.
-/
module

public import proofs.«01_k».proof.Defs
public import proofs.«01_k».proof.Proof.Gen.Kernel14Ideal.Frame
public import proofs.«01_k».proof.Proof.Gen.Reference14Ideal.Run
public import Idealize.ShloMosaic.Lib.Pipeline.ValueKit
public import Idealize.ShloMosaic.Adequacy
public import Idealize.ShloMosaic.Init

@[expose] public section

set_option maxRecDepth 16384

noncomputable section

namespace Cert.Gate14

open Idealize.ShloMosaic

/-- Result 0, of one entry of each argument. -/
def f0 (w1 w2 : EReal) : EReal := w2 * (w1 * Ideal.logistic w1)

/-- Result 1, of one entry of each argument. -/
def f1 (w0 w1 w2 : EReal) : EReal := w0 * w2 * Ideal.logistic w1 + w1 * (w0 * w2) * (Ideal.logistic w1 * (1 - Ideal.logistic w1))

end Cert.Gate14

namespace Cert.Kernel14Ideal.Gate

open Idealize.ShloMosaic Idealize.ShloMosaic.TcCoe Idealize.ShloMosaic.Tactic Idealize.SL.Sem
open Cert.Kernel14Ideal Cert.Kernel14Ideal.Gen

variable (m : (ℓ : Loc nD τ sig) → Buf (Elt Ideal) ℓ) (c : Dev nD)

abbrev arg0 : FVec Ideal S8192x1024 .bf16 := m ((c : Thread nD τ).loc main_arg0)
abbrev arg1 : FVec Ideal S8192x13824 .bf16 := m ((c : Thread nD τ).loc main_arg1)
abbrev arg2 : FVec Ideal S8192x1024 .bf16 := m ((c : Thread nD τ).loc main_arg2)

/-- The entry of window 0's array that belongs to an entry of the results. -/
abbrev at0 (i : S8192x1024.Idx) : EReal := arg0 m c i
abbrev blk0 (t : Fin cfg0.N) : FVec Ideal S256x1024 .bf16 := iblk m c 0 t
/-- The entry of window 1's array that belongs to an entry of the results. -/
abbrev at1 (i : S8192x1024.Idx) : EReal := arg1 m c (ix2 (i 0) ⟨3072 + (i 1).val, by have : (i 1).val < 1024 := (i 1).isLt; omega⟩)
abbrev blk1 (t : Fin cfg0.N) : FVec Ideal S256x1024 .bf16 := X0_1 m c t
/-- The entry of window 2's array that belongs to an entry of the results. -/
abbrev at2 (i : S8192x1024.Idx) : EReal := arg2 m c i
abbrev blk2 (t : Fin cfg0.N) : FVec Ideal S256x1024 .bf16 := iblk m c 2 t
abbrev result0 : FVec Ideal S8192x1024 .bf16 := fun i => Gate14.f0 (at1 m c i) (at2 m c i)
abbrev result1 : FVec Ideal S8192x1024 .bf16 := fun i => Gate14.f1 (at0 m c i) (at1 m c i) (at2 m c i)

/-- Which block each window reads or writes at a point. -/
theorem idx : ∀ t : Fin cfg0.N, win0_0.index t = ![t.val % 32, t.val / 32]
    ∧ win0_1.index t = ![t.val % 32, 3 + t.val / 32]
    ∧ win0_2.index t = ![t.val % 32, t.val / 32]
    ∧ win0_3.index t = ![t.val % 32, t.val / 32]
    ∧ win0_4.index t = ![t.val % 32, t.val / 32] := by decide +kernel

/-- An entry of window 0's block. -/
theorem read0 (t : Fin cfg0.N) (y : S256x1024.Idx) (i : S8192x1024.Idx) (e0 : (i 0).val = 256 * (t.val % 32) + (y 0).val) (e1 : (i 1).val = 1024 * (t.val / 32) + (y 1).val) :
    (blk0 m c t y : EReal) = at0 m c i := by
  blk_ext [blk0, iblk, V_main_arg0, idx t]

/-- An entry of window 1's block. -/
theorem read1 (t : Fin cfg0.N) (y : S256x1024.Idx) (i : S8192x1024.Idx) (e0 : (i 0).val = 256 * (t.val % 32) + (y 0).val) (e1 : (i 1).val = 1024 * (t.val / 32) + (y 1).val) :
    (blk1 m c t y : EReal) = at1 m c i := by
  unfold blk1 X0_1 Pipeline.Window.fill
  rw [dif_pos (moved0_1 t y)]
  blk_ext [blk1, iblk, V_main_arg1, idx t]

/-- An entry of window 2's block. -/
theorem read2 (t : Fin cfg0.N) (y : S256x1024.Idx) (i : S8192x1024.Idx) (e0 : (i 0).val = 256 * (t.val % 32) + (y 0).val) (e1 : (i 1).val = 1024 * (t.val / 32) + (y 1).val) :
    (blk2 m c t y : EReal) = at2 m c i := by
  blk_ext [blk2, iblk, V_main_arg2, idx t]

/-- What the body stores for result 0. -/
theorem pay0 (w1 : FVec Ideal S256x1024 .bf16) (w2 : FVec Ideal S256x1024 .bf16) (y : S256x1024.Idx) : (k0_pay4 (F := Ideal) w1 w2 y : EReal) = Gate14.f0 (w1 y) (w2 y) := by
  pointwise [k0_pay5, k0_pay4, k0_pay3, k0_pay2, k0_pay1]
  unfold Gate14.f0
  first | rfl | ac_rfl

/-- What a point leaves in result 0's block. -/
theorem out0 (t : Fin cfg0.N) (y : S256x1024.Idx) : ((outsAt0 m c t).1 y : EReal) = Gate14.f0 (blk1 m c t y) (blk2 m c t y) := by
  unfold outsAt0
  dsimp only
  frame_out
  exact pay0 (blk1 m c t) (blk2 m c t) y

/-- Array 0 after the last point. -/
theorem final0 : (dats m 0 c).arrAt 3 cfg0.N = result0 m c := by
  refine (dats m 0 c).arrAt_eq_of_covers 3 _ (by decide +kernel) fun t hf y => ?_
  have e0 : ((win0_3.blk t).view.emb y 0).val = 256 * (t.val % 32) + (y 0).val := by blk_simp [idx t]; omega
  have e1 : ((win0_3.blk t).view.emb y 1).val = 1024 * (t.val / 32) + (y 1).val := by blk_simp [idx t]; omega
  blk_simp
  rw [after0_3]
  refine (out0 m c t y).trans ?_
  unfold result0
  rw [read1 m c t y _ e0 e1, read2 m c t y _ e0 e1]

/-- What the body stores for result 1. -/
theorem pay1 (w0 : FVec Ideal S256x1024 .bf16) (w1 : FVec Ideal S256x1024 .bf16) (w2 : FVec Ideal S256x1024 .bf16) (y : S256x1024.Idx) : (k0_pay5 (F := Ideal) w0 w1 w2 y : EReal) = Gate14.f1 (w0 y) (w1 y) (w2 y) := by
  pointwise [k0_pay5, k0_pay4, k0_pay3, k0_pay2, k0_pay1]
  unfold Gate14.f1
  first | rfl | ac_rfl

/-- What a point leaves in result 1's block. -/
theorem out1 (t : Fin cfg0.N) (y : S256x1024.Idx) : ((outsAt0 m c t).2 y : EReal) = Gate14.f1 (blk0 m c t y) (blk1 m c t y) (blk2 m c t y) := by
  unfold outsAt0
  dsimp only
  frame_out
  exact pay1 (blk0 m c t) (blk1 m c t) (blk2 m c t) y

/-- Array 1 after the last point. -/
theorem final1 : (dats m 0 c).arrAt 4 cfg0.N = result1 m c := by
  refine (dats m 0 c).arrAt_eq_of_covers 4 _ (by decide +kernel) fun t hf y => ?_
  have e0 : ((win0_4.blk t).view.emb y 0).val = 256 * (t.val % 32) + (y 0).val := by blk_simp [idx t]; omega
  have e1 : ((win0_4.blk t).view.emb y 1).val = 1024 * (t.val / 32) + (y 1).val := by blk_simp [idx t]; omega
  blk_simp
  rw [after0_4]
  refine (out1 m c t y).trans ?_
  unfold result1
  rw [read0 m c t y _ e0 e1, read1 m c t y _ e0 e1, read2 m c t y _ e0 e1]

/-- The kernel's run: its results, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final0 m c), ((h.1 c).1 4).trans (final1 m c), h.2 c⟩) (θ_run_and (run_main m ρ) (unchanged m ρ))

end Cert.Kernel14Ideal.Gate

namespace Cert.Reference14Ideal.Gate

open Idealize.ShloMosaic Idealize.ShloMosaic.TcCoe Idealize.ShloMosaic.Tactic Idealize.SL.Sem
open Cert.Reference14Ideal Cert.Reference14Ideal.Gen

variable (m : (ℓ : Loc nD τ sig) → Buf (Elt Ideal) ℓ) (c : Dev nD)

abbrev arg0 : FVec Ideal S8192x1024 .bf16 := m ((c : Thread nD τ).loc main_arg0)
abbrev arg1 : FVec Ideal S8192x13824 .bf16 := m ((c : Thread nD τ).loc main_arg1)
abbrev arg2 : FVec Ideal S8192x1024 .bf16 := m ((c : Thread nD τ).loc main_arg2)

abbrev result0 : FVec Ideal S8192x1024 .bf16 := fun i => Gate14.f0 (arg1 m c (ix2 (i 0) ⟨3072 + (i 1).val, by have : (i 1).val < 1024 := (i 1).isLt; omega⟩)) (arg2 m c i)
abbrev result1 : FVec Ideal S8192x1024 .bf16 := fun i => Gate14.f1 (arg0 m c i) (arg1 m c (ix2 (i 0) ⟨3072 + (i 1).val, by have : (i 1).val < 1024 := (i 1).isLt; omega⟩)) (arg2 m c i)

/-- Result 0 of the reference, entry by entry. -/
theorem value0 (x1 : FVec Ideal S8192x13824 .bf16) (x2 : FVec Ideal S8192x1024 .bf16) :
    (truncf .bf16 (mulf (extf .f32 x2 bitsLt_bf16_f32) (mulf (extf .f32 (extractStridedSlice S8192x1024 ![0, 3072] x1 slices_S8192x13824_S8192x1024_0_3072) bitsLt_bf16_f32) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 3072] x1 slices_S8192x13824_S8192x1024_0_3072) bitsLt_bf16_f32))))))) bitsLt_bf16_f32 : FVec Ideal S8192x1024 .bf16) = fun i => Gate14.f0 (x1 (ix2 (i 0) ⟨3072 + (i 1).val, by have : (i 1).val < 1024 := (i 1).isLt; omega⟩)) (x2 i) := by
  funext i
  pointwise
  unfold Gate14.f0 Ideal.logistic
  first | rfl | ac_rfl

/-- Result 1 of the reference, entry by entry. -/
theorem value1 (x0 : FVec Ideal S8192x1024 .bf16) (x1 : FVec Ideal S8192x13824 .bf16) (x2 : FVec Ideal S8192x1024 .bf16) :
    (truncf .bf16 (addf (mulf (mulf (extf .f32 x0 bitsLt_bf16_f32) (extf .f32 x2 bitsLt_bf16_f32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 3072] x1 slices_S8192x13824_S8192x1024_0_3072) bitsLt_bf16_f32)))))) (mulf (mulf (extf .f32 (extractStridedSlice S8192x1024 ![0, 3072] x1 slices_S8192x13824_S8192x1024_0_3072) bitsLt_bf16_f32) (mulf (extf .f32 x0 bitsLt_bf16_f32) (extf .f32 x2 bitsLt_bf16_f32))) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 3072] x1 slices_S8192x13824_S8192x1024_0_3072) bitsLt_bf16_f32))))) (subf (broadcastInDim S8192x1024 ![] bcast_S_S8192x1024 (constant S_ .f32 0x3F800000#32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 3072] x1 slices_S8192x13824_S8192x1024_0_3072) bitsLt_bf16_f32))))))))) bitsLt_bf16_f32 : FVec Ideal S8192x1024 .bf16) = fun i => Gate14.f1 (x0 i) (x1 (ix2 (i 0) ⟨3072 + (i 1).val, by have : (i 1).val < 1024 := (i 1).isLt; omega⟩)) (x2 i) := by
  funext i
  pointwise
  unfold Gate14.f1 Ideal.logistic
  first | rfl | ac_rfl

/-- The reference's run: its results, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v9) = result0 m c
      ∧ r.2.mem ((c.tc : Thread nD τ).loc main_v10) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (value0 _ _), (h c).2.1.trans (value1 _ _ _), (h c).2.2⟩) (Value.run (F := Ideal) m ρ)

/-- The reference's frame. -/
theorem frame : Cert.quiescent_Reference14Ideal := fun m ρ _ =>
  (θ_run defs _ _).mono (fun r h => ⟨fun c => (h c).2.2, sem_eq_zero_of_no_sems (by decide) r.2⟩) (Value.run (F := Ideal) m ρ)

end Cert.Reference14Ideal.Gate

namespace Cert.Proof

open Idealize.ShloMosaic Idealize.SL.Sem

/-- From the same arguments kernel and reference leave the same arrays. -/
theorem algebraic14 : Cert.algebraic_Kernel14Ideal_Reference14Ideal (hKernel14Ideal := Cert.Kernel14Ideal.Gen.facts)
    (hReference14Ideal := Cert.Reference14Ideal.Gen.facts) := fun m ρ m' ρ' _ ha =>
  ⟨_, _, Cert.Kernel14Ideal.Gate.run m ρ, (θ_run (Cert.Reference14Ideal.defs (F := Ideal)) _ _).mono
    (fun _ h c => ⟨(h c).1.trans (by
      unfold Cert.Reference14Ideal.Gate.result0 Cert.Reference14Ideal.Gate.arg1 Cert.Reference14Ideal.Gate.arg2
      rw [(ha c).2.1, (ha c).2.2]),
      (h c).2.1.trans (by
      unfold Cert.Reference14Ideal.Gate.result1 Cert.Reference14Ideal.Gate.arg0 Cert.Reference14Ideal.Gate.arg1 Cert.Reference14Ideal.Gate.arg2
      rw [(ha c).1, (ha c).2.1, (ha c).2.2]),
      (h c).2.2⟩) (Cert.Reference14Ideal.Gate.run m' ρ')⟩

end Cert.Proof

end
-- ==== Proof.Gate15.lean ====
/-
  The gradient of the gates around the short convolution: kernel and reference leave the same arrays.
-/
module

public import proofs.«01_k».proof.Defs
public import proofs.«01_k».proof.Proof.Gen.Kernel15Ideal.Frame
public import proofs.«01_k».proof.Proof.Gen.Reference15Ideal.Run
public import Idealize.ShloMosaic.Lib.Pipeline.ValueKit
public import Idealize.ShloMosaic.Adequacy
public import Idealize.ShloMosaic.Init

@[expose] public section

set_option maxRecDepth 16384

noncomputable section

namespace Cert.Gate15

open Idealize.ShloMosaic

/-- Result 0, of one entry of each argument. -/
def f0 (w1 w2 w3 : EReal) : EReal := w3 * (w2 * Ideal.logistic w2) * w1

/-- Result 1, of one entry of each argument. -/
def f1 (w0 w2 w3 : EReal) : EReal := w0 * (w3 * (w2 * Ideal.logistic w2))

/-- Result 2, of one entry of each argument. -/
def f2 (w0 w1 w2 w3 : EReal) : EReal := w0 * w1 * w3 * Ideal.logistic w2 + w2 * (w0 * w1 * w3) * (Ideal.logistic w2 * (1 - Ideal.logistic w2))

end Cert.Gate15

namespace Cert.Kernel15Ideal.Gate

open Idealize.ShloMosaic Idealize.ShloMosaic.TcCoe Idealize.ShloMosaic.Tactic Idealize.SL.Sem
open Cert.Kernel15Ideal Cert.Kernel15Ideal.Gen

variable (m : (ℓ : Loc nD τ sig) → Buf (Elt Ideal) ℓ) (c : Dev nD)

abbrev arg0 : FVec Ideal S8192x13824 .bf16 := m ((c : Thread nD τ).loc main_arg0)
abbrev arg1 : FVec Ideal S8192x1024 .bf16 := m ((c : Thread nD τ).loc main_arg1)
abbrev arg2 : FVec Ideal S8192x1024 .bf16 := m ((c : Thread nD τ).loc main_arg2)

/-- The entry of window 0's array that belongs to an entry of the results. -/
abbrev at0 (i : S8192x1024.Idx) : EReal := arg0 m c (ix2 (i 0) ⟨5120 + (i 1).val, by have : (i 1).val < 1024 := (i 1).isLt; omega⟩)
abbrev blk0 (t : Fin cfg0.N) : FVec Ideal S256x512 .bf16 := iblk m c 0 t
/-- The entry of window 1's array that belongs to an entry of the results. -/
abbrev at1 (i : S8192x1024.Idx) : EReal := arg1 m c i
abbrev blk1 (t : Fin cfg0.N) : FVec Ideal S256x512 .bf16 := iblk m c 1 t
/-- The entry of window 2's array that belongs to an entry of the results. -/
abbrev at2 (i : S8192x1024.Idx) : EReal := arg0 m c (ix2 (i 0) ⟨8192 + (i 1).val, by have : (i 1).val < 1024 := (i 1).isLt; omega⟩)
abbrev blk2 (t : Fin cfg0.N) : FVec Ideal S256x512 .bf16 := iblk m c 2 t
/-- The entry of window 3's array that belongs to an entry of the results. -/
abbrev at3 (i : S8192x1024.Idx) : EReal := arg2 m c i
abbrev blk3 (t : Fin cfg0.N) : FVec Ideal S256x512 .bf16 := iblk m c 3 t
abbrev result0 : FVec Ideal S8192x1024 .bf16 := fun i => Gate15.f0 (at1 m c i) (at2 m c i) (at3 m c i)
abbrev result1 : FVec Ideal S8192x1024 .bf16 := fun i => Gate15.f1 (at0 m c i) (at2 m c i) (at3 m c i)
abbrev result2 : FVec Ideal S8192x1024 .bf16 := fun i => Gate15.f2 (at0 m c i) (at1 m c i) (at2 m c i) (at3 m c i)

/-- Which block each window reads or writes at a point. -/
theorem idx : ∀ t : Fin cfg0.N, win0_0.index t = ![t.val % 32, 10 + t.val / 32]
    ∧ win0_1.index t = ![t.val % 32, t.val / 32]
    ∧ win0_2.index t = ![t.val % 32, 16 + t.val / 32]
    ∧ win0_3.index t = ![t.val % 32, t.val / 32]
    ∧ win0_4.index t = ![t.val % 32, t.val / 32]
    ∧ win0_5.index t = ![t.val % 32, t.val / 32]
    ∧ win0_6.index t = ![t.val % 32, t.val / 32] := by decide +kernel

/-- An entry of window 0's block. -/
theorem read0 (t : Fin cfg0.N) (y : S256x512.Idx) (i : S8192x1024.Idx) (e0 : (i 0).val = 256 * (t.val % 32) + (y 0).val) (e1 : (i 1).val = 512 * (t.val / 32) + (y 1).val) :
    (blk0 m c t y : EReal) = at0 m c i := by
  blk_ext [blk0, iblk, V_main_arg0, idx t]

/-- An entry of window 1's block. -/
theorem read1 (t : Fin cfg0.N) (y : S256x512.Idx) (i : S8192x1024.Idx) (e0 : (i 0).val = 256 * (t.val % 32) + (y 0).val) (e1 : (i 1).val = 512 * (t.val / 32) + (y 1).val) :
    (blk1 m c t y : EReal) = at1 m c i := by
  blk_ext [blk1, iblk, V_main_arg1, idx t]

/-- An entry of window 2's block. -/
theorem read2 (t : Fin cfg0.N) (y : S256x512.Idx) (i : S8192x1024.Idx) (e0 : (i 0).val = 256 * (t.val % 32) + (y 0).val) (e1 : (i 1).val = 512 * (t.val / 32) + (y 1).val) :
    (blk2 m c t y : EReal) = at2 m c i := by
  blk_ext [blk2, iblk, V_main_arg0, idx t]

/-- An entry of window 3's block. -/
theorem read3 (t : Fin cfg0.N) (y : S256x512.Idx) (i : S8192x1024.Idx) (e0 : (i 0).val = 256 * (t.val % 32) + (y 0).val) (e1 : (i 1).val = 512 * (t.val / 32) + (y 1).val) :
    (blk3 m c t y : EReal) = at3 m c i := by
  blk_ext [blk3, iblk, V_main_arg2, idx t]

/-- What the body stores for result 0. -/
theorem pay0 (w1 : FVec Ideal S256x512 .bf16) (w2 : FVec Ideal S256x512 .bf16) (w3 : FVec Ideal S256x512 .bf16) (y : S256x512.Idx) : (k0_pay7 (F := Ideal) w1 w2 w3 y : EReal) = Gate15.f0 (w1 y) (w2 y) (w3 y) := by
  pointwise [k0_pay9, k0_pay8, k0_pay7, k0_pay6, k0_pay5, k0_pay4, k0_pay3, k0_pay2, k0_pay1]
  unfold Gate15.f0
  first | rfl | ac_rfl

/-- Array 0 after the last point. -/
theorem final0 : (dats m 0 c).arrAt 4 cfg0.N = result0 m c := by
  refine (dats m 0 c).arrAt_eq_of_covers 4 _ (by decide +kernel) fun t hf y => ?_
  have e0 : ((win0_4.blk t).view.emb y 0).val = 256 * (t.val % 32) + (y 0).val := by blk_simp [idx t]; omega
  have e1 : ((win0_4.blk t).view.emb y 1).val = 512 * (t.val / 32) + (y 1).val := by blk_simp [idx t]; omega
  blk_simp
  rw [after0_4]
  frame_out
  refine (pay0 (blk1 m c t) (blk2 m c t) (blk3 m c t) y).trans ?_
  unfold result0
  rw [read1 m c t y _ e0 e1, read2 m c t y _ e0 e1, read3 m c t y _ e0 e1]

/-- What the body stores for result 1. -/
theorem pay1 (w0 : FVec Ideal S256x512 .bf16) (w2 : FVec Ideal S256x512 .bf16) (w3 : FVec Ideal S256x512 .bf16) (y : S256x512.Idx) : (k0_pay8 (F := Ideal) w0 w2 w3 y : EReal) = Gate15.f1 (w0 y) (w2 y) (w3 y) := by
  pointwise [k0_pay9, k0_pay8, k0_pay7, k0_pay6, k0_pay5, k0_pay4, k0_pay3, k0_pay2, k0_pay1]
  unfold Gate15.f1
  first | rfl | ac_rfl

/-- Array 1 after the last point. -/
theorem final1 : (dats m 0 c).arrAt 5 cfg0.N = result1 m c := by
  refine (dats m 0 c).arrAt_eq_of_covers 5 _ (by decide +kernel) fun t hf y => ?_
  have e0 : ((win0_5.blk t).view.emb y 0).val = 256 * (t.val % 32) + (y 0).val := by blk_simp [idx t]; omega
  have e1 : ((win0_5.blk t).view.emb y 1).val = 512 * (t.val / 32) + (y 1).val := by blk_simp [idx t]; omega
  blk_simp
  rw [after0_5]
  frame_out
  refine (pay1 (blk0 m c t) (blk2 m c t) (blk3 m c t) y).trans ?_
  unfold result1
  rw [read0 m c t y _ e0 e1, read2 m c t y _ e0 e1, read3 m c t y _ e0 e1]

/-- What the body stores for result 2. -/
theorem pay2 (w0 : FVec Ideal S256x512 .bf16) (w1 : FVec Ideal S256x512 .bf16) (w2 : FVec Ideal S256x512 .bf16) (w3 : FVec Ideal S256x512 .bf16) (y : S256x512.Idx) : (k0_pay9 (F := Ideal) w0 w1 w2 w3 y : EReal) = Gate15.f2 (w0 y) (w1 y) (w2 y) (w3 y) := by
  pointwise [k0_pay9, k0_pay8, k0_pay7, k0_pay6, k0_pay5, k0_pay4, k0_pay3, k0_pay2, k0_pay1]
  unfold Gate15.f2
  first | rfl | ac_rfl

/-- Array 2 after the last point. -/
theorem final2 : (dats m 0 c).arrAt 6 cfg0.N = result2 m c := by
  refine (dats m 0 c).arrAt_eq_of_covers 6 _ (by decide +kernel) fun t hf y => ?_
  have e0 : ((win0_6.blk t).view.emb y 0).val = 256 * (t.val % 32) + (y 0).val := by blk_simp [idx t]; omega
  have e1 : ((win0_6.blk t).view.emb y 1).val = 512 * (t.val / 32) + (y 1).val := by blk_simp [idx t]; omega
  blk_simp
  rw [after0_6]
  frame_out
  refine (pay2 (blk0 m c t) (blk1 m c t) (blk2 m c t) (blk3 m c t) y).trans ?_
  unfold result2
  rw [read0 m c t y _ e0 e1, read1 m c t y _ e0 e1, read2 m c t y _ e0 e1, read3 m c t y _ e0 e1]

/-- The kernel's run: its results, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_v0_2) = result2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 4).trans (final0 m c), ((h.1 c).1 5).trans (final1 m c), ((h.1 c).1 6).trans (final2 m c), h.2 c⟩) (θ_run_and (run_main m ρ) (unchanged m ρ))

end Cert.Kernel15Ideal.Gate

namespace Cert.Reference15Ideal.Gate

open Idealize.ShloMosaic Idealize.ShloMosaic.TcCoe Idealize.ShloMosaic.Tactic Idealize.SL.Sem
open Cert.Reference15Ideal Cert.Reference15Ideal.Gen

variable (m : (ℓ : Loc nD τ sig) → Buf (Elt Ideal) ℓ) (c : Dev nD)

abbrev arg0 : FVec Ideal S8192x13824 .bf16 := m ((c : Thread nD τ).loc main_arg0)
abbrev arg1 : FVec Ideal S8192x1024 .bf16 := m ((c : Thread nD τ).loc main_arg1)
abbrev arg2 : FVec Ideal S8192x1024 .bf16 := m ((c : Thread nD τ).loc main_arg2)

abbrev result0 : FVec Ideal S8192x1024 .bf16 := fun i => Gate15.f0 (arg1 m c i) (arg0 m c (ix2 (i 0) ⟨8192 + (i 1).val, by have : (i 1).val < 1024 := (i 1).isLt; omega⟩)) (arg2 m c i)
abbrev result1 : FVec Ideal S8192x1024 .bf16 := fun i => Gate15.f1 (arg0 m c (ix2 (i 0) ⟨5120 + (i 1).val, by have : (i 1).val < 1024 := (i 1).isLt; omega⟩)) (arg0 m c (ix2 (i 0) ⟨8192 + (i 1).val, by have : (i 1).val < 1024 := (i 1).isLt; omega⟩)) (arg2 m c i)
abbrev result2 : FVec Ideal S8192x1024 .bf16 := fun i => Gate15.f2 (arg0 m c (ix2 (i 0) ⟨5120 + (i 1).val, by have : (i 1).val < 1024 := (i 1).isLt; omega⟩)) (arg1 m c i) (arg0 m c (ix2 (i 0) ⟨8192 + (i 1).val, by have : (i 1).val < 1024 := (i 1).isLt; omega⟩)) (arg2 m c i)

/-- Result 0 of the reference, entry by entry. -/
theorem value0 (x0 : FVec Ideal S8192x13824 .bf16) (x1 : FVec Ideal S8192x1024 .bf16) (x2 : FVec Ideal S8192x1024 .bf16) :
    (truncf .bf16 (mulf (mulf (extf .f32 x2 bitsLt_bf16_f32) (mulf (extf .f32 (extractStridedSlice S8192x1024 ![0, 8192] x0 slices_S8192x13824_S8192x1024_0_8192) bitsLt_bf16_f32) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 8192] x0 slices_S8192x13824_S8192x1024_0_8192) bitsLt_bf16_f32))))))) (extf .f32 x1 bitsLt_bf16_f32)) bitsLt_bf16_f32 : FVec Ideal S8192x1024 .bf16) = fun i => Gate15.f0 (x1 i) (x0 (ix2 (i 0) ⟨8192 + (i 1).val, by have : (i 1).val < 1024 := (i 1).isLt; omega⟩)) (x2 i) := by
  funext i
  pointwise
  unfold Gate15.f0 Ideal.logistic
  first | rfl | ac_rfl

/-- Result 1 of the reference, entry by entry. -/
theorem value1 (x0 : FVec Ideal S8192x13824 .bf16) (x2 : FVec Ideal S8192x1024 .bf16) :
    (truncf .bf16 (mulf (extf .f32 (extractStridedSlice S8192x1024 ![0, 5120] x0 slices_S8192x13824_S8192x1024_0_5120) bitsLt_bf16_f32) (mulf (extf .f32 x2 bitsLt_bf16_f32) (mulf (extf .f32 (extractStridedSlice S8192x1024 ![0, 8192] x0 slices_S8192x13824_S8192x1024_0_8192) bitsLt_bf16_f32) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 8192] x0 slices_S8192x13824_S8192x1024_0_8192) bitsLt_bf16_f32)))))))) bitsLt_bf16_f32 : FVec Ideal S8192x1024 .bf16) = fun i => Gate15.f1 (x0 (ix2 (i 0) ⟨5120 + (i 1).val, by have : (i 1).val < 1024 := (i 1).isLt; omega⟩)) (x0 (ix2 (i 0) ⟨8192 + (i 1).val, by have : (i 1).val < 1024 := (i 1).isLt; omega⟩)) (x2 i) := by
  funext i
  pointwise
  unfold Gate15.f1 Ideal.logistic
  first | rfl | ac_rfl

/-- Result 2 of the reference, entry by entry. -/
theorem value2 (x0 : FVec Ideal S8192x13824 .bf16) (x1 : FVec Ideal S8192x1024 .bf16) (x2 : FVec Ideal S8192x1024 .bf16) :
    (truncf .bf16 (addf (mulf (mulf (mulf (extf .f32 (extractStridedSlice S8192x1024 ![0, 5120] x0 slices_S8192x13824_S8192x1024_0_5120) bitsLt_bf16_f32) (extf .f32 x1 bitsLt_bf16_f32)) (extf .f32 x2 bitsLt_bf16_f32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 8192] x0 slices_S8192x13824_S8192x1024_0_8192) bitsLt_bf16_f32)))))) (mulf (mulf (extf .f32 (extractStridedSlice S8192x1024 ![0, 8192] x0 slices_S8192x13824_S8192x1024_0_8192) bitsLt_bf16_f32) (mulf (mulf (extf .f32 (extractStridedSlice S8192x1024 ![0, 5120] x0 slices_S8192x13824_S8192x1024_0_5120) bitsLt_bf16_f32) (extf .f32 x1 bitsLt_bf16_f32)) (extf .f32 x2 bitsLt_bf16_f32))) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 8192] x0 slices_S8192x13824_S8192x1024_0_8192) bitsLt_bf16_f32))))) (subf (broadcastInDim S8192x1024 ![] bcast_S_S8192x1024 (constant S_ .f32 0x3F800000#32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 8192] x0 slices_S8192x13824_S8192x1024_0_8192) bitsLt_bf16_f32))))))))) bitsLt_bf16_f32 : FVec Ideal S8192x1024 .bf16) = fun i => Gate15.f2 (x0 (ix2 (i 0) ⟨5120 + (i 1).val, by have : (i 1).val < 1024 := (i 1).isLt; omega⟩)) (x1 i) (x0 (ix2 (i 0) ⟨8192 + (i 1).val, by have : (i 1).val < 1024 := (i 1).isLt; omega⟩)) (x2 i) := by
  funext i
  pointwise
  unfold Gate15.f2 Ideal.logistic
  first | rfl | ac_rfl

/-- The reference's run: its results, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v14) = result0 m c
      ∧ r.2.mem ((c.tc : Thread nD τ).loc main_v15) = result1 m c
      ∧ r.2.mem ((c.tc : Thread nD τ).loc main_v16) = result2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (value0 _ _ _), (h c).2.1.trans (value1 _ _), (h c).2.2.1.trans (value2 _ _ _), (h c).2.2.2⟩) (Value.run (F := Ideal) m ρ)

/-- The reference's frame. -/
theorem frame : Cert.quiescent_Reference15Ideal := fun m ρ _ =>
  (θ_run defs _ _).mono (fun r h => ⟨fun c => (h c).2.2.2, sem_eq_zero_of_no_sems (by decide) r.2⟩) (Value.run (F := Ideal) m ρ)

end Cert.Reference15Ideal.Gate

namespace Cert.Proof

open Idealize.ShloMosaic Idealize.SL.Sem

/-- From the same arguments kernel and reference leave the same arrays. -/
theorem algebraic15 : Cert.algebraic_Kernel15Ideal_Reference15Ideal (hKernel15Ideal := Cert.Kernel15Ideal.Gen.facts)
    (hReference15Ideal := Cert.Reference15Ideal.Gen.facts) := fun m ρ m' ρ' _ ha =>
  ⟨_, _, _, Cert.Kernel15Ideal.Gate.run m ρ, (θ_run (Cert.Reference15Ideal.defs (F := Ideal)) _ _).mono
    (fun _ h c => ⟨(h c).1.trans (by
      unfold Cert.Reference15Ideal.Gate.result0 Cert.Reference15Ideal.Gate.arg0 Cert.Reference15Ideal.Gate.arg1 Cert.Reference15Ideal.Gate.arg2
      rw [(ha c).1, (ha c).2.1, (ha c).2.2]),
      (h c).2.1.trans (by
      unfold Cert.Reference15Ideal.Gate.result1 Cert.Reference15Ideal.Gate.arg0 Cert.Reference15Ideal.Gate.arg2
      rw [(ha c).1, (ha c).2.2]),
      (h c).2.2.1.trans (by
      unfold Cert.Reference15Ideal.Gate.result2 Cert.Reference15Ideal.Gate.arg0 Cert.Reference15Ideal.Gate.arg1 Cert.Reference15Ideal.Gate.arg2
      rw [(ha c).1, (ha c).2.1, (ha c).2.2]),
      (h c).2.2.2⟩) (Cert.Reference15Ideal.Gate.run m' ρ')⟩

end Cert.Proof

end
-- ==== Proof.Gate16.lean ====
/-
  The gradient of the product before the short convolution: kernel and reference leave the same arrays.
-/
module

public import proofs.«01_k».proof.Defs
public import proofs.«01_k».proof.Proof.Gen.Kernel16Ideal.Frame
public import proofs.«01_k».proof.Proof.Gen.Reference16Ideal.Run
public import Idealize.ShloMosaic.Lib.Pipeline.ValueKit
public import Idealize.ShloMosaic.Adequacy
public import Idealize.ShloMosaic.Init

@[expose] public section

set_option maxRecDepth 16384

noncomputable section

namespace Cert.Gate16

open Idealize.ShloMosaic

/-- Result 0, of one entry of each argument. -/
def f0 (w1 w2 : EReal) : EReal := w2 * w1

/-- Result 1, of one entry of each argument. -/
def f1 (w0 w2 : EReal) : EReal := w0 * w2

end Cert.Gate16

namespace Cert.Kernel16Ideal.Gate

open Idealize.ShloMosaic Idealize.ShloMosaic.TcCoe Idealize.ShloMosaic.Tactic Idealize.SL.Sem
open Cert.Kernel16Ideal Cert.Kernel16Ideal.Gen

variable (m : (ℓ : Loc nD τ sig) → Buf (Elt Ideal) ℓ) (c : Dev nD)

abbrev arg0 : FVec Ideal S8192x13824 .bf16 := m ((c : Thread nD τ).loc main_arg0)
abbrev arg1 : FVec Ideal S8192x1024 .bf16 := m ((c : Thread nD τ).loc main_arg1)

/-- The entry of window 0's array that belongs to an entry of the results. -/
abbrev at0 (i : S8192x1024.Idx) : EReal := arg0 m c (ix2 (i 0) ⟨6144 + (i 1).val, by have : (i 1).val < 1024 := (i 1).isLt; omega⟩)
abbrev blk0 (t : Fin cfg0.N) : FVec Ideal S256x512 .bf16 := iblk m c 0 t
/-- The entry of window 1's array that belongs to an entry of the results. -/
abbrev at1 (i : S8192x1024.Idx) : EReal := arg0 m c (ix2 (i 0) ⟨7168 + (i 1).val, by have : (i 1).val < 1024 := (i 1).isLt; omega⟩)
abbrev blk1 (t : Fin cfg0.N) : FVec Ideal S256x512 .bf16 := iblk m c 1 t
/-- The entry of window 2's array that belongs to an entry of the results. -/
abbrev at2 (i : S8192x1024.Idx) : EReal := arg1 m c i
abbrev blk2 (t : Fin cfg0.N) : FVec Ideal S256x512 .bf16 := iblk m c 2 t
abbrev result0 : FVec Ideal S8192x1024 .bf16 := fun i => Gate16.f0 (at1 m c i) (at2 m c i)
abbrev result1 : FVec Ideal S8192x1024 .bf16 := fun i => Gate16.f1 (at0 m c i) (at2 m c i)

/-- Which block each window reads or writes at a point. -/
theorem idx : ∀ t : Fin cfg0.N, win0_0.index t = ![t.val % 32, 12 + t.val / 32]
    ∧ win0_1.index t = ![t.val % 32, 14 + t.val / 32]
    ∧ win0_2.index t = ![t.val % 32, t.val / 32]
    ∧ win0_3.index t = ![t.val % 32, t.val / 32]
    ∧ win0_4.index t = ![t.val % 32, t.val / 32] := by decide +kernel

/-- An entry of window 0's block. -/
theorem read0 (t : Fin cfg0.N) (y : S256x512.Idx) (i : S8192x1024.Idx) (e0 : (i 0).val = 256 * (t.val % 32) + (y 0).val) (e1 : (i 1).val = 512 * (t.val / 32) + (y 1).val) :
    (blk0 m c t y : EReal) = at0 m c i := by
  blk_ext [blk0, iblk, V_main_arg0, idx t]

/-- An entry of window 1's block. -/
theorem read1 (t : Fin cfg0.N) (y : S256x512.Idx) (i : S8192x1024.Idx) (e0 : (i 0).val = 256 * (t.val % 32) + (y 0).val) (e1 : (i 1).val = 512 * (t.val / 32) + (y 1).val) :
    (blk1 m c t y : EReal) = at1 m c i := by
  blk_ext [blk1, iblk, V_main_arg0, idx t]

/-- An entry of window 2's block. -/
theorem read2 (t : Fin cfg0.N) (y : S256x512.Idx) (i : S8192x1024.Idx) (e0 : (i 0).val = 256 * (t.val % 32) + (y 0).val) (e1 : (i 1).val = 512 * (t.val / 32) + (y 1).val) :
    (blk2 m c t y : EReal) = at2 m c i := by
  blk_ext [blk2, iblk, V_main_arg1, idx t]

/-- What the body stores for result 0. -/
theorem pay0 (w1 : FVec Ideal S256x512 .bf16) (w2 : FVec Ideal S256x512 .bf16) (y : S256x512.Idx) : (k0_pay2 (F := Ideal) w1 w2 y : EReal) = Gate16.f0 (w1 y) (w2 y) := by
  pointwise [k0_pay3, k0_pay2, k0_pay1]
  unfold Gate16.f0
  first | rfl | ac_rfl

/-- Array 0 after the last point. -/
theorem final0 : (dats m 0 c).arrAt 3 cfg0.N = result0 m c := by
  refine (dats m 0 c).arrAt_eq_of_covers 3 _ (by decide +kernel) fun t hf y => ?_
  have e0 : ((win0_3.blk t).view.emb y 0).val = 256 * (t.val % 32) + (y 0).val := by blk_simp [idx t]; omega
  have e1 : ((win0_3.blk t).view.emb y 1).val = 512 * (t.val / 32) + (y 1).val := by blk_simp [idx t]; omega
  blk_simp
  rw [after0_3]
  frame_out
  refine (pay0 (blk1 m c t) (blk2 m c t) y).trans ?_
  unfold result0
  rw [read1 m c t y _ e0 e1, read2 m c t y _ e0 e1]

/-- What the body stores for result 1. -/
theorem pay1 (w0 : FVec Ideal S256x512 .bf16) (w2 : FVec Ideal S256x512 .bf16) (y : S256x512.Idx) : (k0_pay3 (F := Ideal) w0 w2 y : EReal) = Gate16.f1 (w0 y) (w2 y) := by
  pointwise [k0_pay3, k0_pay2, k0_pay1]
  unfold Gate16.f1
  first | rfl | ac_rfl

/-- Array 1 after the last point. -/
theorem final1 : (dats m 0 c).arrAt 4 cfg0.N = result1 m c := by
  refine (dats m 0 c).arrAt_eq_of_covers 4 _ (by decide +kernel) fun t hf y => ?_
  have e0 : ((win0_4.blk t).view.emb y 0).val = 256 * (t.val % 32) + (y 0).val := by blk_simp [idx t]; omega
  have e1 : ((win0_4.blk t).view.emb y 1).val = 512 * (t.val / 32) + (y 1).val := by blk_simp [idx t]; omega
  blk_simp
  rw [after0_4]
  frame_out
  refine (pay1 (blk0 m c t) (blk2 m c t) y).trans ?_
  unfold result1
  rw [read0 m c t y _ e0 e1, read2 m c t y _ e0 e1]

/-- The kernel's run: its results, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 3).trans (final0 m c), ((h.1 c).1 4).trans (final1 m c), h.2 c⟩) (θ_run_and (run_main m ρ) (unchanged m ρ))

end Cert.Kernel16Ideal.Gate

namespace Cert.Reference16Ideal.Gate

open Idealize.ShloMosaic Idealize.ShloMosaic.TcCoe Idealize.ShloMosaic.Tactic Idealize.SL.Sem
open Cert.Reference16Ideal Cert.Reference16Ideal.Gen

variable (m : (ℓ : Loc nD τ sig) → Buf (Elt Ideal) ℓ) (c : Dev nD)

abbrev arg0 : FVec Ideal S8192x13824 .bf16 := m ((c : Thread nD τ).loc main_arg0)
abbrev arg1 : FVec Ideal S8192x1024 .bf16 := m ((c : Thread nD τ).loc main_arg1)

abbrev result0 : FVec Ideal S8192x1024 .bf16 := fun i => Gate16.f0 (arg0 m c (ix2 (i 0) ⟨7168 + (i 1).val, by have : (i 1).val < 1024 := (i 1).isLt; omega⟩)) (arg1 m c i)
abbrev result1 : FVec Ideal S8192x1024 .bf16 := fun i => Gate16.f1 (arg0 m c (ix2 (i 0) ⟨6144 + (i 1).val, by have : (i 1).val < 1024 := (i 1).isLt; omega⟩)) (arg1 m c i)

/-- Result 0 of the reference, entry by entry. -/
theorem value0 (x0 : FVec Ideal S8192x13824 .bf16) (x1 : FVec Ideal S8192x1024 .bf16) :
    (truncf .bf16 (mulf (extf .f32 x1 bitsLt_bf16_f32) (extf .f32 (extractStridedSlice S8192x1024 ![0, 7168] x0 slices_S8192x13824_S8192x1024_0_7168) bitsLt_bf16_f32)) bitsLt_bf16_f32 : FVec Ideal S8192x1024 .bf16) = fun i => Gate16.f0 (x0 (ix2 (i 0) ⟨7168 + (i 1).val, by have : (i 1).val < 1024 := (i 1).isLt; omega⟩)) (x1 i) := by
  funext i
  pointwise
  unfold Gate16.f0
  first | rfl | ac_rfl

/-- Result 1 of the reference, entry by entry. -/
theorem value1 (x0 : FVec Ideal S8192x13824 .bf16) (x1 : FVec Ideal S8192x1024 .bf16) :
    (truncf .bf16 (mulf (extf .f32 (extractStridedSlice S8192x1024 ![0, 6144] x0 slices_S8192x13824_S8192x1024_0_6144) bitsLt_bf16_f32) (extf .f32 x1 bitsLt_bf16_f32)) bitsLt_bf16_f32 : FVec Ideal S8192x1024 .bf16) = fun i => Gate16.f1 (x0 (ix2 (i 0) ⟨6144 + (i 1).val, by have : (i 1).val < 1024 := (i 1).isLt; omega⟩)) (x1 i) := by
  funext i
  pointwise
  unfold Gate16.f1
  first | rfl | ac_rfl

/-- The reference's run: its results, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v8) = result0 m c
      ∧ r.2.mem ((c.tc : Thread nD τ).loc main_v9) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value0 _ _), (h c).2.1.trans (value1 _ _), (h c).2.2⟩) (Value.run (F := Ideal) m ρ)

/-- The reference's frame. -/
theorem frame : Cert.quiescent_Reference16Ideal := fun m ρ _ =>
  (θ_run defs _ _).mono (fun r h => ⟨fun c => (h c).2.2, sem_eq_zero_of_no_sems (by decide) r.2⟩) (Value.run (F := Ideal) m ρ)

end Cert.Reference16Ideal.Gate

namespace Cert.Proof

open Idealize.ShloMosaic Idealize.SL.Sem

/-- From the same arguments kernel and reference leave the same arrays. -/
theorem algebraic16 : Cert.algebraic_Kernel16Ideal_Reference16Ideal (hKernel16Ideal := Cert.Kernel16Ideal.Gen.facts)
    (hReference16Ideal := Cert.Reference16Ideal.Gen.facts) := fun m ρ m' ρ' _ ha =>
  ⟨_, _, Cert.Kernel16Ideal.Gate.run m ρ, (θ_run (Cert.Reference16Ideal.defs (F := Ideal)) _ _).mono
    (fun _ h c => ⟨(h c).1.trans (by
      unfold Cert.Reference16Ideal.Gate.result0 Cert.Reference16Ideal.Gate.arg0 Cert.Reference16Ideal.Gate.arg1
      rw [(ha c).1, (ha c).2]),
      (h c).2.1.trans (by
      unfold Cert.Reference16Ideal.Gate.result1 Cert.Reference16Ideal.Gate.arg0 Cert.Reference16Ideal.Gate.arg1
      rw [(ha c).1, (ha c).2]),
      (h c).2.2⟩) (Cert.Reference16Ideal.Gate.run m' ρ')⟩

end Cert.Proof

end
-- ==== Proof.Gate17.lean ====
/-
  The gradient of the gated linear unit before the long convolution: kernel and reference leave the same arrays.
-/
module

public import proofs.«01_k».proof.Defs
public import proofs.«01_k».proof.Proof.Gen.Kernel17Ideal.Frame
public import proofs.«01_k».proof.Proof.Gen.Reference17Ideal.Run
public import Idealize.ShloMosaic.Lib.Pipeline.ValueKit
public import Idealize.ShloMosaic.Adequacy
public import Idealize.ShloMosaic.Init

@[expose] public section

set_option maxRecDepth 16384

noncomputable section

namespace Cert.Gate17

open Idealize.ShloMosaic

/-- Result 0, of one entry of each argument. -/
def f0 (w1 w2 : EReal) : EReal := w2 * Ideal.logistic w1

/-- Result 1, of one entry of each argument. -/
def f1 (w0 w1 w2 : EReal) : EReal := w0 * w2 * (Ideal.logistic w1 * (1 - Ideal.logistic w1))

end Cert.Gate17

namespace Cert.Kernel17Ideal.Gate

open Idealize.ShloMosaic Idealize.ShloMosaic.TcCoe Idealize.ShloMosaic.Tactic Idealize.SL.Sem
open Cert.Kernel17Ideal Cert.Kernel17Ideal.Gen

variable (m : (ℓ : Loc nD τ sig) → Buf (Elt Ideal) ℓ) (c : Dev nD)

abbrev arg0 : FVec Ideal S8192x13824 .bf16 := m ((c : Thread nD τ).loc main_arg0)
abbrev arg1 : FVec Ideal S8192x1024 .bf16 := m ((c : Thread nD τ).loc main_arg1)

/-- The entry of window 0's array that belongs to an entry of the results. -/
abbrev at0 (i : S8192x1024.Idx) : EReal := arg0 m c (ix2 (i 0) ⟨9216 + (i 1).val, by have : (i 1).val < 1024 := (i 1).isLt; omega⟩)
abbrev blk0 (t : Fin cfg0.N) : FVec Ideal S256x512 .bf16 := iblk m c 0 t
/-- The entry of window 1's array that belongs to an entry of the results. -/
abbrev at1 (i : S8192x1024.Idx) : EReal := arg0 m c (ix2 (i 0) ⟨10240 + (i 1).val, by have : (i 1).val < 1024 := (i 1).isLt; omega⟩)
abbrev blk1 (t : Fin cfg0.N) : FVec Ideal S256x512 .bf16 := iblk m c 1 t
/-- The entry of window 2's array that belongs to an entry of the results. -/
abbrev at2 (i : S8192x1024.Idx) : EReal := arg1 m c i
abbrev blk2 (t : Fin cfg0.N) : FVec Ideal S256x512 .bf16 := iblk m c 2 t
abbrev result0 : FVec Ideal S8192x1024 .bf16 := fun i => Gate17.f0 (at1 m c i) (at2 m c i)
abbrev result1 : FVec Ideal S8192x1024 .bf16 := fun i => Gate17.f1 (at0 m c i) (at1 m c i) (at2 m c i)

/-- Which block each window reads or writes at a point. -/
theorem idx : ∀ t : Fin cfg0.N, win0_0.index t = ![t.val % 32, 18 + t.val / 32]
    ∧ win0_1.index t = ![t.val % 32, 20 + t.val / 32]
    ∧ win0_2.index t = ![t.val % 32, t.val / 32]
    ∧ win0_3.index t = ![t.val % 32, t.val / 32]
    ∧ win0_4.index t = ![t.val % 32, t.val / 32] := by decide +kernel

/-- An entry of window 0's block. -/
theorem read0 (t : Fin cfg0.N) (y : S256x512.Idx) (i : S8192x1024.Idx) (e0 : (i 0).val = 256 * (t.val % 32) + (y 0).val) (e1 : (i 1).val = 512 * (t.val / 32) + (y 1).val) :
    (blk0 m c t y : EReal) = at0 m c i := by
  blk_ext [blk0, iblk, V_main_arg0, idx t]

/-- An entry of window 1's block. -/
theorem read1 (t : Fin cfg0.N) (y : S256x512.Idx) (i : S8192x1024.Idx) (e0 : (i 0).val = 256 * (t.val % 32) + (y 0).val) (e1 : (i 1).val = 512 * (t.val / 32) + (y 1).val) :
    (blk1 m c t y : EReal) = at1 m c i := by
  blk_ext [blk1, iblk, V_main_arg0, idx t]

/-- An entry of window 2's block. -/
theorem read2 (t : Fin cfg0.N) (y : S256x512.Idx) (i : S8192x1024.Idx) (e0 : (i 0).val = 256 * (t.val % 32) + (y 0).val) (e1 : (i 1).val = 512 * (t.val / 32) + (y 1).val) :
    (blk2 m c t y : EReal) = at2 m c i := by
  blk_ext [blk2, iblk, V_main_arg1, idx t]

/-- What the body stores for result 0. -/
theorem pay0 (w1 : FVec Ideal S256x512 .bf16) (w2 : FVec Ideal S256x512 .bf16) (y : S256x512.Idx) : (k0_pay3 (F := Ideal) w1 w2 y : EReal) = Gate17.f0 (w1 y) (w2 y) := by
  pointwise [k0_pay4, k0_pay3, k0_pay2, k0_pay1]
  unfold Gate17.f0
  first | rfl | ac_rfl

/-- Array 0 after the last point. -/
theorem final0 : (dats m 0 c).arrAt 3 cfg0.N = result0 m c := by
  refine (dats m 0 c).arrAt_eq_of_covers 3 _ (by decide +kernel) fun t hf y => ?_
  have e0 : ((win0_3.blk t).view.emb y 0).val = 256 * (t.val % 32) + (y 0).val := by blk_simp [idx t]; omega
  have e1 : ((win0_3.blk t).view.emb y 1).val = 512 * (t.val / 32) + (y 1).val := by blk_simp [idx t]; omega
  blk_simp
  rw [after0_3]
  frame_out
  refine (pay0 (blk1 m c t) (blk2 m c t) y).trans ?_
  unfold result0
  rw [read1 m c t y _ e0 e1, read2 m c t y _ e0 e1]

/-- What the body stores for result 1. -/
theorem pay1 (w0 : FVec Ideal S256x512 .bf16) (w1 : FVec Ideal S256x512 .bf16) (w2 : FVec Ideal S256x512 .bf16) (y : S256x512.Idx) : (k0_pay4 (F := Ideal) w0 w1 w2 y : EReal) = Gate17.f1 (w0 y) (w1 y) (w2 y) := by
  pointwise [k0_pay4, k0_pay3, k0_pay2, k0_pay1]
  unfold Gate17.f1
  first | rfl | ac_rfl

/-- Array 1 after the last point. -/
theorem final1 : (dats m 0 c).arrAt 4 cfg0.N = result1 m c := by
  refine (dats m 0 c).arrAt_eq_of_covers 4 _ (by decide +kernel) fun t hf y => ?_
  have e0 : ((win0_4.blk t).view.emb y 0).val = 256 * (t.val % 32) + (y 0).val := by blk_simp [idx t]; omega
  have e1 : ((win0_4.blk t).view.emb y 1).val = 512 * (t.val / 32) + (y 1).val := by blk_simp [idx t]; omega
  blk_simp
  rw [after0_4]
  frame_out
  refine (pay1 (blk0 m c t) (blk1 m c t) (blk2 m c t) y).trans ?_
  unfold result1
  rw [read0 m c t y _ e0 e1, read1 m c t y _ e0 e1, read2 m c t y _ e0 e1]

/-- The kernel's run: its results, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 3).trans (final0 m c), ((h.1 c).1 4).trans (final1 m c), h.2 c⟩) (θ_run_and (run_main m ρ) (unchanged m ρ))

end Cert.Kernel17Ideal.Gate

namespace Cert.Reference17Ideal.Gate

open Idealize.ShloMosaic Idealize.ShloMosaic.TcCoe Idealize.ShloMosaic.Tactic Idealize.SL.Sem
open Cert.Reference17Ideal Cert.Reference17Ideal.Gen

variable (m : (ℓ : Loc nD τ sig) → Buf (Elt Ideal) ℓ) (c : Dev nD)

abbrev arg0 : FVec Ideal S8192x13824 .bf16 := m ((c : Thread nD τ).loc main_arg0)
abbrev arg1 : FVec Ideal S8192x1024 .bf16 := m ((c : Thread nD τ).loc main_arg1)

abbrev result0 : FVec Ideal S8192x1024 .bf16 := fun i => Gate17.f0 (arg0 m c (ix2 (i 0) ⟨10240 + (i 1).val, by have : (i 1).val < 1024 := (i 1).isLt; omega⟩)) (arg1 m c i)
abbrev result1 : FVec Ideal S8192x1024 .bf16 := fun i => Gate17.f1 (arg0 m c (ix2 (i 0) ⟨9216 + (i 1).val, by have : (i 1).val < 1024 := (i 1).isLt; omega⟩)) (arg0 m c (ix2 (i 0) ⟨10240 + (i 1).val, by have : (i 1).val < 1024 := (i 1).isLt; omega⟩)) (arg1 m c i)

/-- Result 0 of the reference, entry by entry. -/
theorem value0 (x0 : FVec Ideal S8192x13824 .bf16) (x1 : FVec Ideal S8192x1024 .bf16) :
    (truncf .bf16 (mulf (extf .f32 x1 bitsLt_bf16_f32) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 10240] x0 slices_S8192x13824_S8192x1024_0_10240) bitsLt_bf16_f32)))))) bitsLt_bf16_f32 : FVec Ideal S8192x1024 .bf16) = fun i => Gate17.f0 (x0 (ix2 (i 0) ⟨10240 + (i 1).val, by have : (i 1).val < 1024 := (i 1).isLt; omega⟩)) (x1 i) := by
  funext i
  pointwise
  unfold Gate17.f0 Ideal.logistic
  first | rfl | ac_rfl

/-- Result 1 of the reference, entry by entry. -/
theorem value1 (x0 : FVec Ideal S8192x13824 .bf16) (x1 : FVec Ideal S8192x1024 .bf16) :
    (truncf .bf16 (mulf (mulf (extf .f32 (extractStridedSlice S8192x1024 ![0, 9216] x0 slices_S8192x13824_S8192x1024_0_9216) bitsLt_bf16_f32) (extf .f32 x1 bitsLt_bf16_f32)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 10240] x0 slices_S8192x13824_S8192x1024_0_10240) bitsLt_bf16_f32))))) (subf (broadcastInDim S8192x1024 ![] bcast_S_S8192x1024 (constant S_ .f32 0x3F800000#32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 (extractStridedSlice S8192x1024 ![0, 10240] x0 slices_S8192x13824_S8192x1024_0_10240) bitsLt_bf16_f32)))))))) bitsLt_bf16_f32 : FVec Ideal S8192x1024 .bf16) = fun i => Gate17.f1 (x0 (ix2 (i 0) ⟨9216 + (i 1).val, by have : (i 1).val < 1024 := (i 1).isLt; omega⟩)) (x0 (ix2 (i 0) ⟨10240 + (i 1).val, by have : (i 1).val < 1024 := (i 1).isLt; omega⟩)) (x1 i) := by
  funext i
  pointwise
  unfold Gate17.f1 Ideal.logistic
  first | rfl | ac_rfl

/-- The reference's run: its results, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v18) = result0 m c
      ∧ r.2.mem ((c.tc : Thread nD τ).loc main_v19) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value0 _ _), (h c).2.1.trans (value1 _ _), (h c).2.2⟩) (Value.run (F := Ideal) m ρ)

/-- The reference's frame. -/
theorem frame : Cert.quiescent_Reference17Ideal := fun m ρ _ =>
  (θ_run defs _ _).mono (fun r h => ⟨fun c => (h c).2.2, sem_eq_zero_of_no_sems (by decide) r.2⟩) (Value.run (F := Ideal) m ρ)

end Cert.Reference17Ideal.Gate

namespace Cert.Proof

open Idealize.ShloMosaic Idealize.SL.Sem

/-- From the same arguments kernel and reference leave the same arrays. -/
theorem algebraic17 : Cert.algebraic_Kernel17Ideal_Reference17Ideal (hKernel17Ideal := Cert.Kernel17Ideal.Gen.facts)
    (hReference17Ideal := Cert.Reference17Ideal.Gen.facts) := fun m ρ m' ρ' _ ha =>
  ⟨_, _, Cert.Kernel17Ideal.Gate.run m ρ, (θ_run (Cert.Reference17Ideal.defs (F := Ideal)) _ _).mono
    (fun _ h c => ⟨(h c).1.trans (by
      unfold Cert.Reference17Ideal.Gate.result0 Cert.Reference17Ideal.Gate.arg0 Cert.Reference17Ideal.Gate.arg1
      rw [(ha c).1, (ha c).2]),
      (h c).2.1.trans (by
      unfold Cert.Reference17Ideal.Gate.result1 Cert.Reference17Ideal.Gate.arg0 Cert.Reference17Ideal.Gate.arg1
      rw [(ha c).1, (ha c).2]),
      (h c).2.2⟩) (Cert.Reference17Ideal.Gate.run m' ρ')⟩

end Cert.Proof

end
-- ==== Proof.Gate18.lean ====
/-
  The gradient of the silu after the state-space convolution: kernel and reference leave the same arrays.
-/
module

public import proofs.«01_k».proof.Defs
public import proofs.«01_k».proof.Proof.Gen.Kernel18Ideal.Frame
public import proofs.«01_k».proof.Proof.Gen.Reference18Ideal.Run
public import Idealize.ShloMosaic.Lib.Pipeline.ValueKit
public import Idealize.ShloMosaic.Adequacy
public import Idealize.ShloMosaic.Init

@[expose] public section

set_option maxRecDepth 16384

noncomputable section

namespace Cert.Gate18

open Idealize.ShloMosaic

/-- Result 0, of one entry of each argument. -/
def f0 (w0 w1 : EReal) : EReal := w1 * Ideal.logistic w0 + w0 * w1 * (Ideal.logistic w0 * (1 - Ideal.logistic w0))

end Cert.Gate18

namespace Cert.Kernel18Ideal.Gate

open Idealize.ShloMosaic Idealize.ShloMosaic.TcCoe Idealize.ShloMosaic.Tactic Idealize.SL.Sem
open Cert.Kernel18Ideal Cert.Kernel18Ideal.Gen

variable (m : (ℓ : Loc nD τ sig) → Buf (Elt Ideal) ℓ) (c : Dev nD)

abbrev arg0 : FVec Ideal S8192x1536 .bf16 := m ((c : Thread nD τ).loc main_arg0)
abbrev arg1 : FVec Ideal S8192x1536 .f32 := m ((c : Thread nD τ).loc main_arg1)

/-- The entry of window 0's array that belongs to an entry of the results. -/
abbrev at0 (i : S8192x1536.Idx) : EReal := arg0 m c i
abbrev blk0 (t : Fin cfg0.N) : FVec Ideal S256x512 .bf16 := iblk m c 0 t
/-- The entry of window 1's array that belongs to an entry of the results. -/
abbrev at1 (i : S8192x1536.Idx) : EReal := arg1 m c i
abbrev blk1 (t : Fin cfg0.N) : FVec Ideal S256x512 .f32 := iblk m c 1 t
abbrev result0 : FVec Ideal S8192x1536 .bf16 := fun i => Gate18.f0 (at0 m c i) (at1 m c i)

/-- Which block each window reads or writes at a point. -/
theorem idx : ∀ t : Fin cfg0.N, win0_0.index t = ![t.val % 32, t.val / 32]
    ∧ win0_1.index t = ![t.val % 32, t.val / 32]
    ∧ win0_2.index t = ![t.val % 32, t.val / 32] := by decide +kernel

/-- An entry of window 0's block. -/
theorem read0 (t : Fin cfg0.N) (y : S256x512.Idx) (i : S8192x1536.Idx) (e0 : (i 0).val = 256 * (t.val % 32) + (y 0).val) (e1 : (i 1).val = 512 * (t.val / 32) + (y 1).val) :
    (blk0 m c t y : EReal) = at0 m c i := by
  blk_ext [blk0, iblk, V_main_arg0, idx t]

/-- An entry of window 1's block. -/
theorem read1 (t : Fin cfg0.N) (y : S256x512.Idx) (i : S8192x1536.Idx) (e0 : (i 0).val = 256 * (t.val % 32) + (y 0).val) (e1 : (i 1).val = 512 * (t.val / 32) + (y 1).val) :
    (blk1 m c t y : EReal) = at1 m c i := by
  blk_ext [blk1, iblk, V_main_arg1, idx t]

/-- What the body stores for result 0. -/
theorem pay0 (w0 : FVec Ideal S256x512 .bf16) (w1 : FVec Ideal S256x512 .f32) (y : S256x512.Idx) : (k0_pay1 (F := Ideal) w0 w1 y : EReal) = Gate18.f0 (w0 y) (w1 y) := by
  pointwise [k0_pay1]
  unfold Gate18.f0
  first | rfl | ac_rfl

/-- Array 0 after the last point. -/
theorem final0 : (dats m 0 c).arrAt 2 cfg0.N = result0 m c := by
  refine (dats m 0 c).arrAt_eq_of_covers 2 _ (by decide +kernel) fun t hf y => ?_
  have e0 : ((win0_2.blk t).view.emb y 0).val = 256 * (t.val % 32) + (y 0).val := by blk_simp [idx t]; omega
  have e1 : ((win0_2.blk t).view.emb y 1).val = 512 * (t.val / 32) + (y 1).val := by blk_simp [idx t]; omega
  blk_simp
  rw [after0_2]
  frame_out
  refine (pay0 (blk0 m c t) (blk1 m c t) y).trans ?_
  unfold result0
  rw [read0 m c t y _ e0 e1, read1 m c t y _ e0 e1]

/-- The kernel's run: its results, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result0 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (final0 m c), h.2 c⟩) (θ_run_and (run_main m ρ) (unchanged m ρ))

end Cert.Kernel18Ideal.Gate

namespace Cert.Reference18Ideal.Gate

open Idealize.ShloMosaic Idealize.ShloMosaic.TcCoe Idealize.ShloMosaic.Tactic Idealize.SL.Sem
open Cert.Reference18Ideal Cert.Reference18Ideal.Gen

variable (m : (ℓ : Loc nD τ sig) → Buf (Elt Ideal) ℓ) (c : Dev nD)

abbrev arg0 : FVec Ideal S8192x1536 .bf16 := m ((c : Thread nD τ).loc main_arg0)
abbrev arg1 : FVec Ideal S8192x1536 .f32 := m ((c : Thread nD τ).loc main_arg1)

abbrev result0 : FVec Ideal S8192x1536 .bf16 := fun i => Gate18.f0 (arg0 m c i) (arg1 m c i)

/-- Result 0 of the reference, entry by entry. -/
theorem value0 (x0 : FVec Ideal S8192x1536 .bf16) (x1 : FVec Ideal S8192x1536 .f32) :
    (truncf .bf16 (addf (mulf x1 (Host.divf (broadcastInDim S8192x1536 ![] bcast_S_S8192x1536 (constant S_ .f32 0x3F800000#32)) (addf (broadcastInDim S8192x1536 ![] bcast_S_S8192x1536 (constant S_ .f32 0x3F800000#32)) (Host.exp (Host.negf (extf .f32 x0 bitsLt_bf16_f32)))))) (mulf (mulf (extf .f32 x0 bitsLt_bf16_f32) x1) (mulf (Host.divf (broadcastInDim S8192x1536 ![] bcast_S_S8192x1536 (constant S_ .f32 0x3F800000#32)) (addf (broadcastInDim S8192x1536 ![] bcast_S_S8192x1536 (constant S_ .f32 0x3F800000#32)) (Host.exp (Host.negf (extf .f32 x0 bitsLt_bf16_f32))))) (subf (broadcastInDim S8192x1536 ![] bcast_S_S8192x1536 (constant S_ .f32 0x3F800000#32)) (Host.divf (broadcastInDim S8192x1536 ![] bcast_S_S8192x1536 (constant S_ .f32 0x3F800000#32)) (addf (broadcastInDim S8192x1536 ![] bcast_S_S8192x1536 (constant S_ .f32 0x3F800000#32)) (Host.exp (Host.negf (extf .f32 x0 bitsLt_bf16_f32))))))))) bitsLt_bf16_f32 : FVec Ideal S8192x1536 .bf16) = fun i => Gate18.f0 (x0 i) (x1 i) := by
  funext i
  pointwise
  unfold Gate18.f0 Ideal.logistic
  first | rfl | ac_rfl

/-- The reference's run: its results, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3) = result0 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value0 _ _), (h c).2⟩) (Value.run (F := Ideal) m ρ)

/-- The reference's frame. -/
theorem frame : Cert.quiescent_Reference18Ideal := fun m ρ _ =>
  (θ_run defs _ _).mono (fun r h => ⟨fun c => (h c).2, sem_eq_zero_of_no_sems (by decide) r.2⟩) (Value.run (F := Ideal) m ρ)

end Cert.Reference18Ideal.Gate

namespace Cert.Proof

open Idealize.ShloMosaic Idealize.SL.Sem

/-- From the same arguments kernel and reference leave the same arrays. -/
theorem algebraic18 : Cert.algebraic_Kernel18Ideal_Reference18Ideal (hKernel18Ideal := Cert.Kernel18Ideal.Gen.facts)
    (hReference18Ideal := Cert.Reference18Ideal.Gen.facts) := fun m ρ m' ρ' _ ha =>
  ⟨_, Cert.Kernel18Ideal.Gate.run m ρ, (θ_run (Cert.Reference18Ideal.defs (F := Ideal)) _ _).mono
    (fun _ h c => ⟨(h c).1.trans (by
      unfold Cert.Reference18Ideal.Gate.result0 Cert.Reference18Ideal.Gate.arg0 Cert.Reference18Ideal.Gate.arg1
      rw [(ha c).1, (ha c).2]),
      (h c).2⟩) (Cert.Reference18Ideal.Gate.run m' ρ')⟩

end Cert.Proof

end
-- ==== Proof.Adam.lean ====
/-
  One step of the optimiser on one entry: the formulas, and the two divisions the kernel makes by multiplying.
-/
module

public import proofs.«01_k».proof.Defs
public import Idealize.ShloMosaic.Lib.Pipeline.ValueKit

@[expose] public section

noncomputable section

namespace Cert.Adam

open Idealize.ShloMosaic

/-- The two reciprocals the kernel multiplies by. -/
abbrev c1 : EReal := (((5463681 / 8388608)⁻¹ : ℝ) : EReal)
abbrev c2 : EReal := (((2672307 / 268435456)⁻¹ : ℝ) : EReal)

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The step. -/
def step (g w m v : EReal) : EReal :=
  Ideal.ofBits .f32 0xBA83126F#32 * (Ideal.div (first g m * c1) (Ideal.sqrt (second g v * c2) + Ideal.ofBits .f32 0x322BCC77#32)
    + Ideal.ofBits .f32 0x3C23D70A#32 * w)

theorem div_real (x : EReal) (r : ℝ) (h : r ≠ 0) : Ideal.div x (r : EReal) = x * ((r⁻¹ : ℝ) : EReal) := by
  unfold Ideal.div
  rw [if_neg (by rw [← EReal.coe_zero]; exact fun e => h (EReal.coe_injective e)), EReal.coe_inv]

theorem word1 : Ideal.ofBits .f32 0x3F26BD02#32 = ((5463681 / 8388608 : ℝ) : EReal) := by
  simp [Ideal.ofBits, Ideal.ieee]
  rw [← EReal.coe_mul]
  norm_num

theorem word2 : Ideal.ofBits .f32 0x3C231ACC#32 = ((2672307 / 268435456 : ℝ) : EReal) := by
  simp [Ideal.ofBits, Ideal.ieee]
  rw [← EReal.coe_mul]
  norm_num

theorem zero_word : Ideal.ofBits .f32 0x00000000#32 = (0 : EReal) := by
  simp [Ideal.ofBits, Ideal.ieee]

/-- Dividing by the first word is multiplying by its reciprocal. -/
theorem div1 (x : EReal) : Ideal.div x (Ideal.ofBits .f32 0x3F26BD02#32) = x * c1 := by
  rw [word1, div_real _ _ (by norm_num)]

/-- Dividing by the second word is multiplying by its reciprocal. -/
theorem div2 (x : EReal) : Ideal.div x (Ideal.ofBits .f32 0x3C231ACC#32) = x * c2 := by
  rw [word2, div_real _ _ (by norm_num)]

end Cert.Adam

end
-- ==== Proof.Adam20.lean ====
/-
  The optimiser's step on w_gate, from its gradients on the eight devices: kernel and reference leave the same arrays.
-/
module

public import proofs.«01_k».proof.Defs
public import proofs.«01_k».proof.Proof.Adam
public import proofs.«01_k».proof.Proof.Gen.Kernel20Ideal.Frame
public import proofs.«01_k».proof.Proof.Gen.Reference20Ideal.Run
public import proofs.«01_k».proof.Proof.Gen.Reference20Ideal.Read
public import Idealize.ShloMosaic.Lib.Pipeline.ValueKit
public import Idealize.ShloMosaic.Adequacy
public import Idealize.ShloMosaic.Init

@[expose] public section

set_option maxRecDepth 16384

noncomputable section

namespace Cert.Kernel20Ideal.Step

open Idealize.ShloMosaic Idealize.ShloMosaic.TcCoe Idealize.ShloMosaic.Tactic Idealize.SL.Sem
open Cert.Kernel20Ideal Cert.Kernel20Ideal.Gen

/-- An entry of the gradient: the sum over the devices, of the part its row lies in. -/
def grad (s0 s1 s2 s3 : FVec Ideal S8x1024x2048 .bf16) (i : S4096x2048.Idx) : EReal :=
  if h : (i 0).val < 1024 then ∑ k : Fin 8, s0 (ix3 k ⟨(i 0).val, h⟩ (i 1))
  else if h : (i 0).val - 1024 < 1024 then ∑ k : Fin 8, s1 (ix3 k ⟨(i 0).val - 1024, h⟩ (i 1))
  else if h : (i 0).val - 1024 - 1024 < 1024 then ∑ k : Fin 8, s2 (ix3 k ⟨(i 0).val - 1024 - 1024, h⟩ (i 1))
  else ∑ k : Fin 8, s3 (ix3 k ⟨(i 0).val - 1024 - 1024 - 1024, by have : (i 0).val < 4096 := (i 0).isLt; omega⟩ (i 1))

variable (m : (ℓ : Loc nD τ sig) → Buf (Elt Ideal) ℓ) (c : Dev nD)

abbrev arg0 : FVec Ideal S8x1024x2048 .bf16 := m ((c : Thread nD τ).loc main_arg0)
abbrev arg1 : FVec Ideal S8x1024x2048 .bf16 := m ((c : Thread nD τ).loc main_arg1)
abbrev arg2 : FVec Ideal S8x1024x2048 .bf16 := m ((c : Thread nD τ).loc main_arg2)
abbrev arg3 : FVec Ideal S8x1024x2048 .bf16 := m ((c : Thread nD τ).loc main_arg3)
abbrev arg4 : FVec Ideal S4096x2048 .f32 := m ((c : Thread nD τ).loc main_arg4)
abbrev arg5 : FVec Ideal S4096x2048 .f32 := m ((c : Thread nD τ).loc main_arg5)
abbrev arg6 : FVec Ideal S4096x2048 .f32 := m ((c : Thread nD τ).loc main_arg6)
abbrev blk0 (t : Fin cfg0.N) : FVec Ideal S8x64x2048 .bf16 := iblk m c 0 t
abbrev blk1 (t : Fin cfg0.N) : FVec Ideal S8x64x2048 .bf16 := iblk m c 1 t
abbrev blk2 (t : Fin cfg0.N) : FVec Ideal S8x64x2048 .bf16 := iblk m c 2 t
abbrev blk3 (t : Fin cfg0.N) : FVec Ideal S8x64x2048 .bf16 := iblk m c 3 t
abbrev blk4 (t : Fin cfg0.N) : FVec Ideal S64x2048 .f32 := iblk m c 4 t
abbrev blk5 (t : Fin cfg0.N) : FVec Ideal S64x2048 .f32 := iblk m c 5 t
abbrev blk6 (t : Fin cfg0.N) : FVec Ideal S64x2048 .f32 := iblk m c 6 t
abbrev gradAt (i : S4096x2048.Idx) : EReal := grad (arg0 m c) (arg1 m c) (arg2 m c) (arg3 m c) i
abbrev result0 : FVec Ideal S4096x2048 .f32 := fun i => gradAt m c i
abbrev result1 : FVec Ideal S4096x2048 .f32 := fun i => Adam.step (gradAt m c i) (arg4 m c i) (arg5 m c i) (arg6 m c i)
abbrev result2 : FVec Ideal S4096x2048 .f32 := fun i => Adam.first (gradAt m c i) (arg5 m c i)
abbrev result3 : FVec Ideal S4096x2048 .f32 := fun i => Adam.second (gradAt m c i) (arg6 m c i)

/-- Which block each window reads or writes at a point. -/
theorem idx : ∀ t : Fin cfg0.N, win0_0.index t = ![0, min (t.val - 0) 15, 0]
    ∧ win0_1.index t = ![0, min (t.val - 16) 15, 0]
    ∧ win0_2.index t = ![0, min (t.val - 32) 15, 0]
    ∧ win0_3.index t = ![0, min (t.val - 48) 15, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0] := by decide +kernel

/-- An entry of window 4's block. -/
theorem read4 (t : Fin cfg0.N) (y : S64x2048.Idx) (i : S4096x2048.Idx) (e0 : (i 0).val = 64 * t.val + (y 0).val) (e1 : (i 1).val = (y 1).val) :
    (blk4 m c t y : EReal) = arg4 m c i := by
  blk_ext [blk4, iblk, V_main_arg4, idx t]

/-- An entry of window 5's block. -/
theorem read5 (t : Fin cfg0.N) (y : S64x2048.Idx) (i : S4096x2048.Idx) (e0 : (i 0).val = 64 * t.val + (y 0).val) (e1 : (i 1).val = (y 1).val) :
    (blk5 m c t y : EReal) = arg5 m c i := by
  blk_ext [blk5, iblk, V_main_arg5, idx t]

/-- An entry of window 6's block. -/
theorem read6 (t : Fin cfg0.N) (y : S64x2048.Idx) (i : S4096x2048.Idx) (e0 : (i 0).val = 64 * t.val + (y 0).val) (e1 : (i 1).val = (y 1).val) :
    (blk6 m c t y : EReal) = arg6 m c i := by
  blk_ext [blk6, iblk, V_main_arg6, idx t]

/-- The sum over the devices, in part 0. -/
theorem sum0 (t : Fin cfg0.N) (h0 : 0 ≤ t.val) (h1 : t.val < 16) (y : S64x2048.Idx) (i : S4096x2048.Idx) (e0 : (i 0).val = 64 * t.val + (y 0).val) (e1 : (i 1).val = (y 1).val) :
    ∑ k : Fin 8, (blk0 m c t (ix3 k (y 0) (y 1)) : EReal) = gradAt m c i := by
  have hy : (y 0).val < 64 := (y 0).isLt
  unfold gradAt grad
  rw [dif_pos (by omega)]
  refine Finset.sum_congr rfl fun k _ => ?_
  blk_ext [blk0, iblk, V_main_arg0, idx t]

/-- The sum over the devices, in part 1. -/
theorem sum1 (t : Fin cfg0.N) (h0 : 16 ≤ t.val) (h1 : t.val < 32) (y : S64x2048.Idx) (i : S4096x2048.Idx) (e0 : (i 0).val = 64 * t.val + (y 0).val) (e1 : (i 1).val = (y 1).val) :
    ∑ k : Fin 8, (blk1 m c t (ix3 k (y 0) (y 1)) : EReal) = gradAt m c i := by
  have hy : (y 0).val < 64 := (y 0).isLt
  unfold gradAt grad
  rw [dif_neg (by omega), dif_pos (by omega)]
  refine Finset.sum_congr rfl fun k _ => ?_
  blk_ext [blk1, iblk, V_main_arg1, idx t]

/-- The sum over the devices, in part 2. -/
theorem sum2 (t : Fin cfg0.N) (h0 : 32 ≤ t.val) (h1 : t.val < 48) (y : S64x2048.Idx) (i : S4096x2048.Idx) (e0 : (i 0).val = 64 * t.val + (y 0).val) (e1 : (i 1).val = (y 1).val) :
    ∑ k : Fin 8, (blk2 m c t (ix3 k (y 0) (y 1)) : EReal) = gradAt m c i := by
  have hy : (y 0).val < 64 := (y 0).isLt
  unfold gradAt grad
  rw [dif_neg (by omega), dif_neg (by omega), dif_pos (by omega)]
  refine Finset.sum_congr rfl fun k _ => ?_
  blk_ext [blk2, iblk, V_main_arg2, idx t]

/-- The sum over the devices, in part 3. -/
theorem sum3 (t : Fin cfg0.N) (h0 : 48 ≤ t.val) (h1 : t.val < 64) (y : S64x2048.Idx) (i : S4096x2048.Idx) (e0 : (i 0).val = 64 * t.val + (y 0).val) (e1 : (i 1).val = (y 1).val) :
    ∑ k : Fin 8, (blk3 m c t (ix3 k (y 0) (y 1)) : EReal) = gradAt m c i := by
  have hy : (y 0).val < 64 := (y 0).isLt
  unfold gradAt grad
  rw [dif_neg (by omega), dif_neg (by omega), dif_neg (by omega)]
  refine Finset.sum_congr rfl fun k _ => ?_
  blk_ext [blk3, iblk, V_main_arg3, idx t]

theorem out0_A (t : Fin cfg0.N) (h0 : 0 ≤ t.val) (h1 : t.val < 16) (y : S64x2048.Idx) :
    ((outsAt0 m c t.val t.isLt).1 y : EReal) = (∑ k : Fin 8, (blk0 m c t (ix3 k (y 0) (y 1)) : EReal)) := by
  rw [outsAt0_A m c t (by omega) (by omega) (by omega) (by omega), Fin.sum_univ_eight]
  dsimp only
  frame_out
  pointwise [k0_pay13, k0_pay14, k0_pay3, k0_pay2, k0_pay1]
  try rfl

theorem out0_B (t : Fin cfg0.N) (h0 : 16 ≤ t.val) (h1 : t.val < 32) (y : S64x2048.Idx) :
    ((outsAt0 m c t.val t.isLt).1 y : EReal) = (∑ k : Fin 8, (blk1 m c t (ix3 k (y 0) (y 1)) : EReal)) := by
  rw [outsAt0_B m c t (by omega) (by omega) (by omega) (by omega), Fin.sum_univ_eight]
  dsimp only
  frame_out
  pointwise [k0_pay15, k0_pay16, k0_pay6, k0_pay5, k0_pay4]
  try rfl

theorem out0_C (t : Fin cfg0.N) (h0 : 32 ≤ t.val) (h1 : t.val < 48) (y : S64x2048.Idx) :
    ((outsAt0 m c t.val t.isLt).1 y : EReal) = (∑ k : Fin 8, (blk2 m c t (ix3 k (y 0) (y 1)) : EReal)) := by
  rw [outsAt0_C m c t (by omega) (by omega) (by omega) (by omega), Fin.sum_univ_eight]
  dsimp only
  frame_out
  pointwise [k0_pay17, k0_pay18, k0_pay9, k0_pay8, k0_pay7]
  try rfl

theorem out0_D (t : Fin cfg0.N) (h0 : 48 ≤ t.val) (h1 : t.val < 64) (y : S64x2048.Idx) :
    ((outsAt0 m c t.val t.isLt).1 y : EReal) = (∑ k : Fin 8, (blk3 m c t (ix3 k (y 0) (y 1)) : EReal)) := by
  rw [outsAt0_D m c t (by omega) (by omega) (by omega) (by omega), Fin.sum_univ_eight]
  dsimp only
  frame_out
  pointwise [k0_pay19, k0_pay20, k0_pay12, k0_pay11, k0_pay10]
  try rfl

/-- Array 0 after the last point. -/
theorem final0 : (dats m 0 c).arrAt 7 cfg0.N = result0 m c := by
  refine (dats m 0 c).arrAt_eq_of_covers 7 _ (by decide +kernel) fun t hf y => ?_
  have e0 : ((win0_7.blk t).view.emb y 0).val = 64 * t.val + (y 0).val := by blk_simp [idx t]; omega
  have e1 : ((win0_7.blk t).view.emb y 1).val = (y 1).val := by blk_simp [idx t]
  have ht : t.val < 64 := t.isLt
  blk_simp
  rw [after0_7]
  rcases Nat.lt_or_ge t.val 16 with h | h
  · exact (out0_A m c t (by omega) (by omega) y).trans (by rw [sum0 m c t (by omega) (by omega) y _ e0 e1])
  rcases Nat.lt_or_ge t.val 32 with h' | h'
  · exact (out0_B m c t (by omega) (by omega) y).trans (by rw [sum1 m c t (by omega) (by omega) y _ e0 e1])
  rcases Nat.lt_or_ge t.val 48 with h'' | h''
  · exact (out0_C m c t (by omega) (by omega) y).trans (by rw [sum2 m c t (by omega) (by omega) y _ e0 e1])
  · exact (out0_D m c t (by omega) (by omega) y).trans (by rw [sum3 m c t (by omega) (by omega) y _ e0 e1])

theorem out1_A (t : Fin cfg0.N) (h0 : 0 ≤ t.val) (h1 : t.val < 16) (y : S64x2048.Idx) :
    ((outsAt0 m c t.val t.isLt).2.1 y : EReal) = Adam.step (∑ k : Fin 8, (blk0 m c t (ix3 k (y 0) (y 1)) : EReal)) (blk4 m c t y) (blk5 m c t y) (blk6 m c t y) := by
  rw [outsAt0_A m c t (by omega) (by omega) (by omega) (by omega), Fin.sum_univ_eight]
  dsimp only
  frame_out
  pointwise [k0_pay13, k0_pay14, k0_pay3, k0_pay2, k0_pay1]
  unfold Adam.step Adam.first Adam.second
  try rfl

theorem out1_B (t : Fin cfg0.N) (h0 : 16 ≤ t.val) (h1 : t.val < 32) (y : S64x2048.Idx) :
    ((outsAt0 m c t.val t.isLt).2.1 y : EReal) = Adam.step (∑ k : Fin 8, (blk1 m c t (ix3 k (y 0) (y 1)) : EReal)) (blk4 m c t y) (blk5 m c t y) (blk6 m c t y) := by
  rw [outsAt0_B m c t (by omega) (by omega) (by omega) (by omega), Fin.sum_univ_eight]
  dsimp only
  frame_out
  pointwise [k0_pay15, k0_pay16, k0_pay6, k0_pay5, k0_pay4]
  unfold Adam.step Adam.first Adam.second
  try rfl

theorem out1_C (t : Fin cfg0.N) (h0 : 32 ≤ t.val) (h1 : t.val < 48) (y : S64x2048.Idx) :
    ((outsAt0 m c t.val t.isLt).2.1 y : EReal) = Adam.step (∑ k : Fin 8, (blk2 m c t (ix3 k (y 0) (y 1)) : EReal)) (blk4 m c t y) (blk5 m c t y) (blk6 m c t y) := by
  rw [outsAt0_C m c t (by omega) (by omega) (by omega) (by omega), Fin.sum_univ_eight]
  dsimp only
  frame_out
  pointwise [k0_pay17, k0_pay18, k0_pay9, k0_pay8, k0_pay7]
  unfold Adam.step Adam.first Adam.second
  try rfl

theorem out1_D (t : Fin cfg0.N) (h0 : 48 ≤ t.val) (h1 : t.val < 64) (y : S64x2048.Idx) :
    ((outsAt0 m c t.val t.isLt).2.1 y : EReal) = Adam.step (∑ k : Fin 8, (blk3 m c t (ix3 k (y 0) (y 1)) : EReal)) (blk4 m c t y) (blk5 m c t y) (blk6 m c t y) := by
  rw [outsAt0_D m c t (by omega) (by omega) (by omega) (by omega), Fin.sum_univ_eight]
  dsimp only
  frame_out
  pointwise [k0_pay19, k0_pay20, k0_pay12, k0_pay11, k0_pay10]
  unfold Adam.step Adam.first Adam.second
  try rfl

/-- Array 1 after the last point. -/
theorem final1 : (dats m 0 c).arrAt 8 cfg0.N = result1 m c := by
  refine (dats m 0 c).arrAt_eq_of_covers 8 _ (by decide +kernel) fun t hf y => ?_
  have e0 : ((win0_8.blk t).view.emb y 0).val = 64 * t.val + (y 0).val := by blk_simp [idx t]; omega
  have e1 : ((win0_8.blk t).view.emb y 1).val = (y 1).val := by blk_simp [idx t]
  have ht : t.val < 64 := t.isLt
  blk_simp
  rw [after0_8]
  rcases Nat.lt_or_ge t.val 16 with h | h
  · exact (out1_A m c t (by omega) (by omega) y).trans (by rw [sum0 m c t (by omega) (by omega) y _ e0 e1, read4 m c t y _ e0 e1, read5 m c t y _ e0 e1, read6 m c t y _ e0 e1])
  rcases Nat.lt_or_ge t.val 32 with h' | h'
  · exact (out1_B m c t (by omega) (by omega) y).trans (by rw [sum1 m c t (by omega) (by omega) y _ e0 e1, read4 m c t y _ e0 e1, read5 m c t y _ e0 e1, read6 m c t y _ e0 e1])
  rcases Nat.lt_or_ge t.val 48 with h'' | h''
  · exact (out1_C m c t (by omega) (by omega) y).trans (by rw [sum2 m c t (by omega) (by omega) y _ e0 e1, read4 m c t y _ e0 e1, read5 m c t y _ e0 e1, read6 m c t y _ e0 e1])
  · exact (out1_D m c t (by omega) (by omega) y).trans (by rw [sum3 m c t (by omega) (by omega) y _ e0 e1, read4 m c t y _ e0 e1, read5 m c t y _ e0 e1, read6 m c t y _ e0 e1])

theorem out2_A (t : Fin cfg0.N) (h0 : 0 ≤ t.val) (h1 : t.val < 16) (y : S64x2048.Idx) :
    ((outsAt0 m c t.val t.isLt).2.2.1 y : EReal) = Adam.first (∑ k : Fin 8, (blk0 m c t (ix3 k (y 0) (y 1)) : EReal)) (blk5 m c t y) := by
  rw [outsAt0_A m c t (by omega) (by omega) (by omega) (by omega), Fin.sum_univ_eight]
  dsimp only
  frame_out
  pointwise [k0_pay13, k0_pay14, k0_pay3, k0_pay2, k0_pay1]
  unfold Adam.first
  try rfl

theorem out2_B (t : Fin cfg0.N) (h0 : 16 ≤ t.val) (h1 : t.val < 32) (y : S64x2048.Idx) :
    ((outsAt0 m c t.val t.isLt).2.2.1 y : EReal) = Adam.first (∑ k : Fin 8, (blk1 m c t (ix3 k (y 0) (y 1)) : EReal)) (blk5 m c t y) := by
  rw [outsAt0_B m c t (by omega) (by omega) (by omega) (by omega), Fin.sum_univ_eight]
  dsimp only
  frame_out
  pointwise [k0_pay15, k0_pay16, k0_pay6, k0_pay5, k0_pay4]
  unfold Adam.first
  try rfl

theorem out2_C (t : Fin cfg0.N) (h0 : 32 ≤ t.val) (h1 : t.val < 48) (y : S64x2048.Idx) :
    ((outsAt0 m c t.val t.isLt).2.2.1 y : EReal) = Adam.first (∑ k : Fin 8, (blk2 m c t (ix3 k (y 0) (y 1)) : EReal)) (blk5 m c t y) := by
  rw [outsAt0_C m c t (by omega) (by omega) (by omega) (by omega), Fin.sum_univ_eight]
  dsimp only
  frame_out
  pointwise [k0_pay17, k0_pay18, k0_pay9, k0_pay8, k0_pay7]
  unfold Adam.first
  try rfl

theorem out2_D (t : Fin cfg0.N) (h0 : 48 ≤ t.val) (h1 : t.val < 64) (y : S64x2048.Idx) :
    ((outsAt0 m c t.val t.isLt).2.2.1 y : EReal) = Adam.first (∑ k : Fin 8, (blk3 m c t (ix3 k (y 0) (y 1)) : EReal)) (blk5 m c t y) := by
  rw [outsAt0_D m c t (by omega) (by omega) (by omega) (by omega), Fin.sum_univ_eight]
  dsimp only
  frame_out
  pointwise [k0_pay19, k0_pay20, k0_pay12, k0_pay11, k0_pay10]
  unfold Adam.first
  try rfl

/-- Array 2 after the last point. -/
theorem final2 : (dats m 0 c).arrAt 9 cfg0.N = result2 m c := by
  refine (dats m 0 c).arrAt_eq_of_covers 9 _ (by decide +kernel) fun t hf y => ?_
  have e0 : ((win0_9.blk t).view.emb y 0).val = 64 * t.val + (y 0).val := by blk_simp [idx t]; omega
  have e1 : ((win0_9.blk t).view.emb y 1).val = (y 1).val := by blk_simp [idx t]
  have ht : t.val < 64 := t.isLt
  blk_simp
  rw [after0_9]
  rcases Nat.lt_or_ge t.val 16 with h | h
  · exact (out2_A m c t (by omega) (by omega) y).trans (by rw [sum0 m c t (by omega) (by omega) y _ e0 e1, read5 m c t y _ e0 e1])
  rcases Nat.lt_or_ge t.val 32 with h' | h'
  · exact (out2_B m c t (by omega) (by omega) y).trans (by rw [sum1 m c t (by omega) (by omega) y _ e0 e1, read5 m c t y _ e0 e1])
  rcases Nat.lt_or_ge t.val 48 with h'' | h''
  · exact (out2_C m c t (by omega) (by omega) y).trans (by rw [sum2 m c t (by omega) (by omega) y _ e0 e1, read5 m c t y _ e0 e1])
  · exact (out2_D m c t (by omega) (by omega) y).trans (by rw [sum3 m c t (by omega) (by omega) y _ e0 e1, read5 m c t y _ e0 e1])

theorem out3_A (t : Fin cfg0.N) (h0 : 0 ≤ t.val) (h1 : t.val < 16) (y : S64x2048.Idx) :
    ((outsAt0 m c t.val t.isLt).2.2.2 y : EReal) = Adam.second (∑ k : Fin 8, (blk0 m c t (ix3 k (y 0) (y 1)) : EReal)) (blk6 m c t y) := by
  rw [outsAt0_A m c t (by omega) (by omega) (by omega) (by omega), Fin.sum_univ_eight]
  dsimp only
  frame_out
  pointwise [k0_pay13, k0_pay14, k0_pay3, k0_pay2, k0_pay1]
  unfold Adam.second
  try rfl

theorem out3_B (t : Fin cfg0.N) (h0 : 16 ≤ t.val) (h1 : t.val < 32) (y : S64x2048.Idx) :
    ((outsAt0 m c t.val t.isLt).2.2.2 y : EReal) = Adam.second (∑ k : Fin 8, (blk1 m c t (ix3 k (y 0) (y 1)) : EReal)) (blk6 m c t y) := by
  rw [outsAt0_B m c t (by omega) (by omega) (by omega) (by omega), Fin.sum_univ_eight]
  dsimp only
  frame_out
  pointwise [k0_pay15, k0_pay16, k0_pay6, k0_pay5, k0_pay4]
  unfold Adam.second
  try rfl

theorem out3_C (t : Fin cfg0.N) (h0 : 32 ≤ t.val) (h1 : t.val < 48) (y : S64x2048.Idx) :
    ((outsAt0 m c t.val t.isLt).2.2.2 y : EReal) = Adam.second (∑ k : Fin 8, (blk2 m c t (ix3 k (y 0) (y 1)) : EReal)) (blk6 m c t y) := by
  rw [outsAt0_C m c t (by omega) (by omega) (by omega) (by omega), Fin.sum_univ_eight]
  dsimp only
  frame_out
  pointwise [k0_pay17, k0_pay18, k0_pay9, k0_pay8, k0_pay7]
  unfold Adam.second
  try rfl

theorem out3_D (t : Fin cfg0.N) (h0 : 48 ≤ t.val) (h1 : t.val < 64) (y : S64x2048.Idx) :
    ((outsAt0 m c t.val t.isLt).2.2.2 y : EReal) = Adam.second (∑ k : Fin 8, (blk3 m c t (ix3 k (y 0) (y 1)) : EReal)) (blk6 m c t y) := by
  rw [outsAt0_D m c t (by omega) (by omega) (by omega) (by omega), Fin.sum_univ_eight]
  dsimp only
  frame_out
  pointwise [k0_pay19, k0_pay20, k0_pay12, k0_pay11, k0_pay10]
  unfold Adam.second
  try rfl

/-- Array 3 after the last point. -/
theorem final3 : (dats m 0 c).arrAt 10 cfg0.N = result3 m c := by
  refine (dats m 0 c).arrAt_eq_of_covers 10 _ (by decide +kernel) fun t hf y => ?_
  have e0 : ((win0_10.blk t).view.emb y 0).val = 64 * t.val + (y 0).val := by blk_simp [idx t]; omega
  have e1 : ((win0_10.blk t).view.emb y 1).val = (y 1).val := by blk_simp [idx t]
  have ht : t.val < 64 := t.isLt
  blk_simp
  rw [after0_10]
  rcases Nat.lt_or_ge t.val 16 with h | h
  · exact (out3_A m c t (by omega) (by omega) y).trans (by rw [sum0 m c t (by omega) (by omega) y _ e0 e1, read6 m c t y _ e0 e1])
  rcases Nat.lt_or_ge t.val 32 with h' | h'
  · exact (out3_B m c t (by omega) (by omega) y).trans (by rw [sum1 m c t (by omega) (by omega) y _ e0 e1, read6 m c t y _ e0 e1])
  rcases Nat.lt_or_ge t.val 48 with h'' | h''
  · exact (out3_C m c t (by omega) (by omega) y).trans (by rw [sum2 m c t (by omega) (by omega) y _ e0 e1, read6 m c t y _ e0 e1])
  · exact (out3_D m c t (by omega) (by omega) y).trans (by rw [sum3 m c t (by omega) (by omega) y _ e0 e1, read6 m c t y _ e0 e1])

/-- The kernel's run: its results, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_v0_2) = result2 m c
      ∧ r.2.mem ((c.tc : Thread nD τ).loc main_v0_3) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).1 7).trans (final0 m c), ((h.1 c).1 8).trans (final1 m c), ((h.1 c).1 9).trans (final2 m c), ((h.1 c).1 10).trans (final3 m c), h.2 c⟩) (θ_run_and (run_main m ρ) (unchanged m ρ))

end Cert.Kernel20Ideal.Step

namespace Cert.Reference20Ideal.Step

open Idealize.ShloMosaic Idealize.ShloMosaic.TcCoe Idealize.ShloMosaic.Tactic Idealize.SL.Sem
open Cert.Reference20Ideal Cert.Reference20Ideal.Gen Cert.Reference20Ideal.Read

variable (m : (ℓ : Loc nD τ sig) → Buf (Elt Ideal) ℓ) (c : Dev nD)

abbrev arg0 : FVec Ideal S8x1024x2048 .bf16 := m ((c : Thread nD τ).loc main_arg0)
abbrev arg1 : FVec Ideal S8x1024x2048 .bf16 := m ((c : Thread nD τ).loc main_arg1)
abbrev arg2 : FVec Ideal S8x1024x2048 .bf16 := m ((c : Thread nD τ).loc main_arg2)
abbrev arg3 : FVec Ideal S8x1024x2048 .bf16 := m ((c : Thread nD τ).loc main_arg3)
abbrev arg4 : FVec Ideal S4096x2048 .f32 := m ((c : Thread nD τ).loc main_arg4)
abbrev arg5 : FVec Ideal S4096x2048 .f32 := m ((c : Thread nD τ).loc main_arg5)
abbrev arg6 : FVec Ideal S4096x2048 .f32 := m ((c : Thread nD τ).loc main_arg6)
abbrev gradAt (i : S4096x2048.Idx) : EReal := Cert.Kernel20Ideal.Step.grad (arg0 m c) (arg1 m c) (arg2 m c) (arg3 m c) i
abbrev result0 : FVec Ideal S4096x2048 .f32 := fun i => gradAt m c i
abbrev result1 : FVec Ideal S4096x2048 .f32 := fun i => Adam.step (gradAt m c i) (arg4 m c i) (arg5 m c i) (arg6 m c i)
abbrev result2 : FVec Ideal S4096x2048 .f32 := fun i => Adam.first (gradAt m c i) (arg5 m c i)
abbrev result3 : FVec Ideal S4096x2048 .f32 := fun i => Adam.second (gradAt m c i) (arg6 m c i)

theorem part0 (x : FVec Ideal S8x1024x2048 .bf16) (a : Fin 1024) (b : Fin 2048) : (val_main_v1 (F := Ideal) x (ix2 a b) : EReal) = ∑ k : Fin 8, x (ix3 k a b) := by
  rw [val_main_v1_apply]
  refine (congrArg (· + _) Adam.zero_word).trans ((zero_add _).trans (Finset.sum_congr rfl fun k _ => ?_))
  exact congrArg x (funext fun a => Fin.ext (by match a with | ⟨0, _⟩ => rfl | ⟨1, _⟩ => rfl | ⟨2, _⟩ => rfl))

theorem part1 (x : FVec Ideal S8x1024x2048 .bf16) (a : Fin 1024) (b : Fin 2048) : (val_main_v3 (F := Ideal) x (ix2 a b) : EReal) = ∑ k : Fin 8, x (ix3 k a b) := by
  rw [val_main_v3_apply]
  refine (congrArg (· + _) Adam.zero_word).trans ((zero_add _).trans (Finset.sum_congr rfl fun k _ => ?_))
  exact congrArg x (funext fun a => Fin.ext (by match a with | ⟨0, _⟩ => rfl | ⟨1, _⟩ => rfl | ⟨2, _⟩ => rfl))

theorem part2 (x : FVec Ideal S8x1024x2048 .bf16) (a : Fin 1024) (b : Fin 2048) : (val_main_v5 (F := Ideal) x (ix2 a b) : EReal) = ∑ k : Fin 8, x (ix3 k a b) := by
  rw [val_main_v5_apply]
  refine (congrArg (· + _) Adam.zero_word).trans ((zero_add _).trans (Finset.sum_congr rfl fun k _ => ?_))
  exact congrArg x (funext fun a => Fin.ext (by match a with | ⟨0, _⟩ => rfl | ⟨1, _⟩ => rfl | ⟨2, _⟩ => rfl))

theorem part3 (x : FVec Ideal S8x1024x2048 .bf16) (a : Fin 1024) (b : Fin 2048) : (val_main_v7 (F := Ideal) x (ix2 a b) : EReal) = ∑ k : Fin 8, x (ix3 k a b) := by
  rw [val_main_v7_apply]
  refine (congrArg (· + _) Adam.zero_word).trans ((zero_add _).trans (Finset.sum_congr rfl fun k _ => ?_))
  exact congrArg x (funext fun a => Fin.ext (by match a with | ⟨0, _⟩ => rfl | ⟨1, _⟩ => rfl | ⟨2, _⟩ => rfl))

theorem value0 (x0 x1 x2 x3 : FVec Ideal S8x1024x2048 .bf16) (i : S4096x2048.Idx) : (val_main_v8 (F := Ideal) x0 x1 x2 x3 i : EReal) = (Cert.Kernel20Ideal.Step.grad x0 x1 x2 x3 i) := by
  unfold val_main_v8 Cert.Kernel20Ideal.Step.grad
  pointwise
  by_cases h0 : (i 0).val < 1024
  · rw [dif_pos h0, dif_pos h0]
    exact part0 _ _ _
  rw [dif_neg h0, dif_neg h0]
  by_cases h1 : (i 0).val - 1024 < 1024
  · rw [dif_pos h1, dif_pos h1]
    exact part1 _ _ _
  rw [dif_neg h1, dif_neg h1]
  by_cases h2 : (i 0).val - 1024 - 1024 < 1024
  · rw [dif_pos h2, dif_pos h2]
    exact part2 _ _ _
  rw [dif_neg h2, dif_neg h2]
  exact part3 _ _ _

theorem value2 (x0 x1 x2 x3 : FVec Ideal S8x1024x2048 .bf16) (x5 : FVec Ideal S4096x2048 .f32) (i : S4096x2048.Idx) :
    (val_main_v13 (F := Ideal) x0 x1 x2 x3 x5 i : EReal) = Adam.first (Cert.Kernel20Ideal.Step.grad x0 x1 x2 x3 i) (x5 i) := by
  rw [← value0]
  unfold val_main_v13 val_main_v12 val_main_v11 val_main_v10 val_main_v9 val_main_cst_4 val_main_cst_3
  generalize val_main_v8 (F := Ideal) x0 x1 x2 x3 = g
  pointwise
  rfl

theorem value3 (x0 x1 x2 x3 : FVec Ideal S8x1024x2048 .bf16) (x6 : FVec Ideal S4096x2048 .f32) (i : S4096x2048.Idx) :
    (val_main_v19 (F := Ideal) x0 x1 x2 x3 x6 i : EReal) = Adam.second (Cert.Kernel20Ideal.Step.grad x0 x1 x2 x3 i) (x6 i) := by
  rw [← value0]
  unfold val_main_v19 val_main_v18 val_main_v17 val_main_v16 val_main_v15 val_main_v14 val_main_cst_6 val_main_cst_5
  generalize val_main_v8 (F := Ideal) x0 x1 x2 x3 = g
  pointwise
  rfl

theorem value1 (x0 x1 x2 x3 : FVec Ideal S8x1024x2048 .bf16) (x4 : FVec Ideal S4096x2048 .f32) (x5 : FVec Ideal S4096x2048 .f32) (x6 : FVec Ideal S4096x2048 .f32) (i : S4096x2048.Idx) :
    (val_main_v32 (F := Ideal) x0 x1 x2 x3 x4 x5 x6 i : EReal) = Adam.step (Cert.Kernel20Ideal.Step.grad x0 x1 x2 x3 i) (x4 i) (x5 i) (x6 i) := by
  rw [← value0]
  unfold val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_cst_11 val_main_cst_10 val_main_cst_9 val_main_cst_8 val_main_cst_7 val_main_cst_6 val_main_cst_5 val_main_cst_4 val_main_cst_3
  generalize val_main_v8 (F := Ideal) x0 x1 x2 x3 = g
  pointwise
  rw [Adam.div1, Adam.div2]
  rfl

/-- The reference's run: its results, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v8) = result0 m c
      ∧ r.2.mem ((c.tc : Thread nD τ).loc main_v32) = result1 m c
      ∧ r.2.mem ((c.tc : Thread nD τ).loc main_v13) = result2 m c
      ∧ r.2.mem ((c.tc : Thread nD τ).loc main_v19) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((val_main_v8_eq _ _ _ _).trans (funext (value0 _ _ _ _))),
    (h c).2.1.trans ((val_main_v32_eq m c).trans (funext (value1 _ _ _ _ _ _ _))),
    (h c).2.2.1.trans ((val_main_v13_eq _ _ _ _ _).trans (funext (value2 _ _ _ _ _))),
    (h c).2.2.2.1.trans ((val_main_v19_eq _ _ _ _ _).trans (funext (value3 _ _ _ _ _))), (h c).2.2.2.2⟩) (Value.run (F := Ideal) m ρ)

/-- The reference's frame. -/
theorem frame : Cert.quiescent_Reference20Ideal := fun m ρ _ =>
  (θ_run defs _ _).mono (fun r h => ⟨fun c => (h c).2.2.2.2, sem_eq_zero_of_no_sems (by decide) r.2⟩) (Value.run (F := Ideal) m ρ)

end Cert.Reference20Ideal.Step

namespace Cert.Proof

open Idealize.ShloMosaic Idealize.SL.Sem

/-- The printed kernel's replaced constants are the ones named. -/
theorem preserves20 : Cert.preserves_Kernel20_Kernel20Ideal :=
  ⟨IdealRules.named_const.statement Cert.Kernel20Ideal.κ "c1" .f32 0x3FC48605#32 _ rfl, IdealRules.named_const.statement Cert.Kernel20Ideal.κ "c2" .f32 0x42C8E6D3#32 _ rfl⟩

/-- From the same arguments kernel and reference leave the same arrays. -/
theorem algebraic20 : Cert.algebraic_Kernel20Ideal_Reference20Ideal (hKernel20Ideal := Cert.Kernel20Ideal.Gen.facts)
    (hReference20Ideal := Cert.Reference20Ideal.Gen.facts) := fun m ρ m' ρ' _ ha =>
  ⟨_, _, _, _, Cert.Kernel20Ideal.Step.run m ρ, (θ_run (Cert.Reference20Ideal.defs (F := Ideal)) _ _).mono
    (fun _ h c => ⟨(h c).1.trans (by
      unfold Cert.Reference20Ideal.Step.result0 Cert.Reference20Ideal.Step.gradAt Cert.Reference20Ideal.Step.arg0 Cert.Reference20Ideal.Step.arg1 Cert.Reference20Ideal.Step.arg2 Cert.Reference20Ideal.Step.arg3
      rw [(ha c).1, (ha c).2.1, (ha c).2.2.1, (ha c).2.2.2.1]),
      (h c).2.1.trans (by
      unfold Cert.Reference20Ideal.Step.result1 Cert.Reference20Ideal.Step.gradAt Cert.Reference20Ideal.Step.arg0 Cert.Reference20Ideal.Step.arg1 Cert.Reference20Ideal.Step.arg2 Cert.Reference20Ideal.Step.arg3 Cert.Reference20Ideal.Step.arg4 Cert.Reference20Ideal.Step.arg5 Cert.Reference20Ideal.Step.arg6
      rw [(ha c).1, (ha c).2.1, (ha c).2.2.1, (ha c).2.2.2.1, (ha c).2.2.2.2.1, (ha c).2.2.2.2.2.1, (ha c).2.2.2.2.2.2]),
      (h c).2.2.1.trans (by
      unfold Cert.Reference20Ideal.Step.result2 Cert.Reference20Ideal.Step.gradAt Cert.Reference20Ideal.Step.arg0 Cert.Reference20Ideal.Step.arg1 Cert.Reference20Ideal.Step.arg2 Cert.Reference20Ideal.Step.arg3 Cert.Reference20Ideal.Step.arg5
      rw [(ha c).1, (ha c).2.1, (ha c).2.2.1, (ha c).2.2.2.1, (ha c).2.2.2.2.2.1]),
      (h c).2.2.2.1.trans (by
      unfold Cert.Reference20Ideal.Step.result3 Cert.Reference20Ideal.Step.gradAt Cert.Reference20Ideal.Step.arg0 Cert.Reference20Ideal.Step.arg1 Cert.Reference20Ideal.Step.arg2 Cert.Reference20Ideal.Step.arg3 Cert.Reference20Ideal.Step.arg6
      rw [(ha c).1, (ha c).2.1, (ha c).2.2.1, (ha c).2.2.2.1, (ha c).2.2.2.2.2.2]),
      (h c).2.2.2.2⟩) (Cert.Reference20Ideal.Step.run m' ρ')⟩

end Cert.Proof

end
-- ==== Proof.Adam21.lean ====
/-
  The optimiser's step on w_branch, from its gradients on the eight devices: kernel and reference leave the same arrays.
-/
module

public import proofs.«01_k».proof.Defs
public import proofs.«01_k».proof.Proof.Adam
public import proofs.«01_k».proof.Proof.Gen.Kernel21Ideal.Frame
public import proofs.«01_k».proof.Proof.Gen.Reference21Ideal.Run
public import proofs.«01_k».proof.Proof.Gen.Reference21Ideal.Read
public import Idealize.ShloMosaic.Lib.Pipeline.ValueKit
public import Idealize.ShloMosaic.Adequacy
public import Idealize.ShloMosaic.Init

@[expose] public section

set_option maxRecDepth 16384

noncomputable section

namespace Cert.Kernel21Ideal.Step

open Idealize.ShloMosaic Idealize.ShloMosaic.TcCoe Idealize.ShloMosaic.Tactic Idealize.SL.Sem
open Cert.Kernel21Ideal Cert.Kernel21Ideal.Gen

/-- An entry of the gradient: the sum over the devices, of the part its row lies in. -/
def grad (s0 s1 s2 s3 : FVec Ideal S8x4096x256 .bf16) (i : S16384x256.Idx) : EReal :=
  if h : (i 0).val < 4096 then ∑ k : Fin 8, s0 (ix3 k ⟨(i 0).val, h⟩ (i 1))
  else if h : (i 0).val - 4096 < 4096 then ∑ k : Fin 8, s1 (ix3 k ⟨(i 0).val - 4096, h⟩ (i 1))
  else if h : (i 0).val - 4096 - 4096 < 4096 then ∑ k : Fin 8, s2 (ix3 k ⟨(i 0).val - 4096 - 4096, h⟩ (i 1))
  else ∑ k : Fin 8, s3 (ix3 k ⟨(i 0).val - 4096 - 4096 - 4096, by have : (i 0).val < 16384 := (i 0).isLt; omega⟩ (i 1))

variable (m : (ℓ : Loc nD τ sig) → Buf (Elt Ideal) ℓ) (c : Dev nD)

abbrev arg0 : FVec Ideal S8x4096x256 .bf16 := m ((c : Thread nD τ).loc main_arg0)
abbrev arg1 : FVec Ideal S8x4096x256 .bf16 := m ((c : Thread nD τ).loc main_arg1)
abbrev arg2 : FVec Ideal S8x4096x256 .bf16 := m ((c : Thread nD τ).loc main_arg2)
abbrev arg3 : FVec Ideal S8x4096x256 .bf16 := m ((c : Thread nD τ).loc main_arg3)
abbrev arg4 : FVec Ideal S16384x256 .f32 := m ((c : Thread nD τ).loc main_arg4)
abbrev arg5 : FVec Ideal S16384x256 .f32 := m ((c : Thread nD τ).loc main_arg5)
abbrev arg6 : FVec Ideal S16384x256 .f32 := m ((c : Thread nD τ).loc main_arg6)
abbrev blk0 (t : Fin cfg0.N) : FVec Ideal S8x512x256 .bf16 := iblk m c 0 t
abbrev blk1 (t : Fin cfg0.N) : FVec Ideal S8x512x256 .bf16 := iblk m c 1 t
abbrev blk2 (t : Fin cfg0.N) : FVec Ideal S8x512x256 .bf16 := iblk m c 2 t
abbrev blk3 (t : Fin cfg0.N) : FVec Ideal S8x512x256 .bf16 := iblk m c 3 t
abbrev blk4 (t : Fin cfg0.N) : FVec Ideal S512x256 .f32 := iblk m c 4 t
abbrev blk5 (t : Fin cfg0.N) : FVec Ideal S512x256 .f32 := iblk m c 5 t
abbrev blk6 (t : Fin cfg0.N) : FVec Ideal S512x256 .f32 := iblk m c 6 t
abbrev gradAt (i : S16384x256.Idx) : EReal := grad (arg0 m c) (arg1 m c) (arg2 m c) (arg3 m c) i
abbrev result0 : FVec Ideal S16384x256 .f32 := fun i => gradAt m c i
abbrev result1 : FVec Ideal S16384x256 .f32 := fun i => Adam.step (gradAt m c i) (arg4 m c i) (arg5 m c i) (arg6 m c i)
abbrev result2 : FVec Ideal S16384x256 .f32 := fun i => Adam.first (gradAt m c i) (arg5 m c i)
abbrev result3 : FVec Ideal S16384x256 .f32 := fun i => Adam.second (gradAt m c i) (arg6 m c i)

/-- Which block each window reads or writes at a point. -/
theorem idx : ∀ t : Fin cfg0.N, win0_0.index t = ![0, min (t.val - 0) 7, 0]
    ∧ win0_1.index t = ![0, min (t.val - 8) 7, 0]
    ∧ win0_2.index t = ![0, min (t.val - 16) 7, 0]
    ∧ win0_3.index t = ![0, min (t.val - 24) 7, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0] := by decide +kernel

/-- An entry of window 4's block. -/
theorem read4 (t : Fin cfg0.N) (y : S512x256.Idx) (i : S16384x256.Idx) (e0 : (i 0).val = 512 * t.val + (y 0).val) (e1 : (i 1).val = (y 1).val) :
    (blk4 m c t y : EReal) = arg4 m c i := by
  blk_ext [blk4, iblk, V_main_arg4, idx t]

/-- An entry of window 5's block. -/
theorem read5 (t : Fin cfg0.N) (y : S512x256.Idx) (i : S16384x256.Idx) (e0 : (i 0).val = 512 * t.val + (y 0).val) (e1 : (i 1).val = (y 1).val) :
    (blk5 m c t y : EReal) = arg5 m c i := by
  blk_ext [blk5, iblk, V_main_arg5, idx t]

/-- An entry of window 6's block. -/
theorem read6 (t : Fin cfg0.N) (y : S512x256.Idx) (i : S16384x256.Idx) (e0 : (i 0).val = 512 * t.val + (y 0).val) (e1 : (i 1).val = (y 1).val) :
    (blk6 m c t y : EReal) = arg6 m c i := by
  blk_ext [blk6, iblk, V_main_arg6, idx t]

/-- The sum over the devices, in part 0. -/
theorem sum0 (t : Fin cfg0.N) (h0 : 0 ≤ t.val) (h1 : t.val < 8) (y : S512x256.Idx) (i : S16384x256.Idx) (e0 : (i 0).val = 512 * t.val + (y 0).val) (e1 : (i 1).val = (y 1).val) :
    ∑ k : Fin 8, (blk0 m c t (ix3 k (y 0) (y 1)) : EReal) = gradAt m c i := by
  have hy : (y 0).val < 512 := (y 0).isLt
  unfold gradAt grad
  rw [dif_pos (by omega)]
  refine Finset.sum_congr rfl fun k _ => ?_
  blk_ext [blk0, iblk, V_main_arg0, idx t]

/-- The sum over the devices, in part 1. -/
theorem sum1 (t : Fin cfg0.N) (h0 : 8 ≤ t.val) (h1 : t.val < 16) (y : S512x256.Idx) (i : S16384x256.Idx) (e0 : (i 0).val = 512 * t.val + (y 0).val) (e1 : (i 1).val = (y 1).val) :
    ∑ k : Fin 8, (blk1 m c t (ix3 k (y 0) (y 1)) : EReal) = gradAt m c i := by
  have hy : (y 0).val < 512 := (y 0).isLt
  unfold gradAt grad
  rw [dif_neg (by omega), dif_pos (by omega)]
  refine Finset.sum_congr rfl fun k _ => ?_
  blk_ext [blk1, iblk, V_main_arg1, idx t]

/-- The sum over the devices, in part 2. -/
theorem sum2 (t : Fin cfg0.N) (h0 : 16 ≤ t.val) (h1 : t.val < 24) (y : S512x256.Idx) (i : S16384x256.Idx) (e0 : (i 0).val = 512 * t.val + (y 0).val) (e1 : (i 1).val = (y 1).val) :
    ∑ k : Fin 8, (blk2 m c t (ix3 k (y 0) (y 1)) : EReal) = gradAt m c i := by
  have hy : (y 0).val < 512 := (y 0).isLt
  unfold gradAt grad
  rw [dif_neg (by omega), dif_neg (by omega), dif_pos (by omega)]
  refine Finset.sum_congr rfl fun k _ => ?_
  blk_ext [blk2, iblk, V_main_arg2, idx t]

/-- The sum over the devices, in part 3. -/
theorem sum3 (t : Fin cfg0.N) (h0 : 24 ≤ t.val) (h1 : t.val < 32) (y : S512x256.Idx) (i : S16384x256.Idx) (e0 : (i 0).val = 512 * t.val + (y 0).val) (e1 : (i 1).val = (y 1).val) :
    ∑ k : Fin 8, (blk3 m c t (ix3 k (y 0) (y 1)) : EReal) = gradAt m c i := by
  have hy : (y 0).val < 512 := (y 0).isLt
  unfold gradAt grad
  rw [dif_neg (by omega), dif_neg (by omega), dif_neg (by omega)]
  refine Finset.sum_congr rfl fun k _ => ?_
  blk_ext [blk3, iblk, V_main_arg3, idx t]

theorem out0_A (t : Fin cfg0.N) (h0 : 0 ≤ t.val) (h1 : t.val < 8) (y : S512x256.Idx) :
    ((outsAt0 m c t.val t.isLt).1 y : EReal) = (∑ k : Fin 8, (blk0 m c t (ix3 k (y 0) (y 1)) : EReal)) := by
  rw [outsAt0_A m c t (by omega) (by omega) (by omega) (by omega), Fin.sum_univ_eight]
  dsimp only
  frame_out
  pointwise [k0_pay13, k0_pay14, k0_pay3, k0_pay2, k0_pay1]
  try rfl

theorem out0_B (t : Fin cfg0.N) (h0 : 8 ≤ t.val) (h1 : t.val < 16) (y : S512x256.Idx) :
    ((outsAt0 m c t.val t.isLt).1 y : EReal) = (∑ k : Fin 8, (blk1 m c t (ix3 k (y 0) (y 1)) : EReal)) := by
  rw [outsAt0_B m c t (by omega) (by omega) (by omega) (by omega), Fin.sum_univ_eight]
  dsimp only
  frame_out
  pointwise [k0_pay15, k0_pay16, k0_pay6, k0_pay5, k0_pay4]
  try rfl

theorem out0_C (t : Fin cfg0.N) (h0 : 16 ≤ t.val) (h1 : t.val < 24) (y : S512x256.Idx) :
    ((outsAt0 m c t.val t.isLt).1 y : EReal) = (∑ k : Fin 8, (blk2 m c t (ix3 k (y 0) (y 1)) : EReal)) := by
  rw [outsAt0_C m c t (by omega) (by omega) (by omega) (by omega), Fin.sum_univ_eight]
  dsimp only
  frame_out
  pointwise [k0_pay17, k0_pay18, k0_pay9, k0_pay8, k0_pay7]
  try rfl

theorem out0_D (t : Fin cfg0.N) (h0 : 24 ≤ t.val) (h1 : t.val < 32) (y : S512x256.Idx) :
    ((outsAt0 m c t.val t.isLt).1 y : EReal) = (∑ k : Fin 8, (blk3 m c t (ix3 k (y 0) (y 1)) : EReal)) := by
  rw [outsAt0_D m c t (by omega) (by omega) (by omega) (by omega), Fin.sum_univ_eight]
  dsimp only
  frame_out
  pointwise [k0_pay19, k0_pay20, k0_pay12, k0_pay11, k0_pay10]
  try rfl

/-- Array 0 after the last point. -/
theorem final0 : (dats m 0 c).arrAt 7 cfg0.N = result0 m c := by
  refine (dats m 0 c).arrAt_eq_of_covers 7 _ (by decide +kernel) fun t hf y => ?_
  have e0 : ((win0_7.blk t).view.emb y 0).val = 512 * t.val + (y 0).val := by blk_simp [idx t]; omega
  have e1 : ((win0_7.blk t).view.emb y 1).val = (y 1).val := by blk_simp [idx t]
  have ht : t.val < 32 := t.isLt
  blk_simp
  rw [after0_7]
  rcases Nat.lt_or_ge t.val 8 with h | h
  · exact (out0_A m c t (by omega) (by omega) y).trans (by rw [sum0 m c t (by omega) (by omega) y _ e0 e1])
  rcases Nat.lt_or_ge t.val 16 with h' | h'
  · exact (out0_B m c t (by omega) (by omega) y).trans (by rw [sum1 m c t (by omega) (by omega) y _ e0 e1])
  rcases Nat.lt_or_ge t.val 24 with h'' | h''
  · exact (out0_C m c t (by omega) (by omega) y).trans (by rw [sum2 m c t (by omega) (by omega) y _ e0 e1])
  · exact (out0_D m c t (by omega) (by omega) y).trans (by rw [sum3 m c t (by omega) (by omega) y _ e0 e1])

theorem out1_A (t : Fin cfg0.N) (h0 : 0 ≤ t.val) (h1 : t.val < 8) (y : S512x256.Idx) :
    ((outsAt0 m c t.val t.isLt).2.1 y : EReal) = Adam.step (∑ k : Fin 8, (blk0 m c t (ix3 k (y 0) (y 1)) : EReal)) (blk4 m c t y) (blk5 m c t y) (blk6 m c t y) := by
  rw [outsAt0_A m c t (by omega) (by omega) (by omega) (by omega), Fin.sum_univ_eight]
  dsimp only
  frame_out
  pointwise [k0_pay13, k0_pay14, k0_pay3, k0_pay2, k0_pay1]
  unfold Adam.step Adam.first Adam.second
  try rfl

theorem out1_B (t : Fin cfg0.N) (h0 : 8 ≤ t.val) (h1 : t.val < 16) (y : S512x256.Idx) :
    ((outsAt0 m c t.val t.isLt).2.1 y : EReal) = Adam.step (∑ k : Fin 8, (blk1 m c t (ix3 k (y 0) (y 1)) : EReal)) (blk4 m c t y) (blk5 m c t y) (blk6 m c t y) := by
  rw [outsAt0_B m c t (by omega) (by omega) (by omega) (by omega), Fin.sum_univ_eight]
  dsimp only
  frame_out
  pointwise [k0_pay15, k0_pay16, k0_pay6, k0_pay5, k0_pay4]
  unfold Adam.step Adam.first Adam.second
  try rfl

theorem out1_C (t : Fin cfg0.N) (h0 : 16 ≤ t.val) (h1 : t.val < 24) (y : S512x256.Idx) :
    ((outsAt0 m c t.val t.isLt).2.1 y : EReal) = Adam.step (∑ k : Fin 8, (blk2 m c t (ix3 k (y 0) (y 1)) : EReal)) (blk4 m c t y) (blk5 m c t y) (blk6 m c t y) := by
  rw [outsAt0_C m c t (by omega) (by omega) (by omega) (by omega), Fin.sum_univ_eight]
  dsimp only
  frame_out
  pointwise [k0_pay17, k0_pay18, k0_pay9, k0_pay8, k0_pay7]
  unfold Adam.step Adam.first Adam.second
  try rfl

theorem out1_D (t : Fin cfg0.N) (h0 : 24 ≤ t.val) (h1 : t.val < 32) (y : S512x256.Idx) :
    ((outsAt0 m c t.val t.isLt).2.1 y : EReal) = Adam.step (∑ k : Fin 8, (blk3 m c t (ix3 k (y 0) (y 1)) : EReal)) (blk4 m c t y) (blk5 m c t y) (blk6 m c t y) := by
  rw [outsAt0_D m c t (by omega) (by omega) (by omega) (by omega), Fin.sum_univ_eight]
  dsimp only
  frame_out
  pointwise [k0_pay19, k0_pay20, k0_pay12, k0_pay11, k0_pay10]
  unfold Adam.step Adam.first Adam.second
  try rfl

/-- Array 1 after the last point. -/
theorem final1 : (dats m 0 c).arrAt 8 cfg0.N = result1 m c := by
  refine (dats m 0 c).arrAt_eq_of_covers 8 _ (by decide +kernel) fun t hf y => ?_
  have e0 : ((win0_8.blk t).view.emb y 0).val = 512 * t.val + (y 0).val := by blk_simp [idx t]; omega
  have e1 : ((win0_8.blk t).view.emb y 1).val = (y 1).val := by blk_simp [idx t]
  have ht : t.val < 32 := t.isLt
  blk_simp
  rw [after0_8]
  rcases Nat.lt_or_ge t.val 8 with h | h
  · exact (out1_A m c t (by omega) (by omega) y).trans (by rw [sum0 m c t (by omega) (by omega) y _ e0 e1, read4 m c t y _ e0 e1, read5 m c t y _ e0 e1, read6 m c t y _ e0 e1])
  rcases Nat.lt_or_ge t.val 16 with h' | h'
  · exact (out1_B m c t (by omega) (by omega) y).trans (by rw [sum1 m c t (by omega) (by omega) y _ e0 e1, read4 m c t y _ e0 e1, read5 m c t y _ e0 e1, read6 m c t y _ e0 e1])
  rcases Nat.lt_or_ge t.val 24 with h'' | h''
  · exact (out1_C m c t (by omega) (by omega) y).trans (by rw [sum2 m c t (by omega) (by omega) y _ e0 e1, read4 m c t y _ e0 e1, read5 m c t y _ e0 e1, read6 m c t y _ e0 e1])
  · exact (out1_D m c t (by omega) (by omega) y).trans (by rw [sum3 m c t (by omega) (by omega) y _ e0 e1, read4 m c t y _ e0 e1, read5 m c t y _ e0 e1, read6 m c t y _ e0 e1])

theorem out2_A (t : Fin cfg0.N) (h0 : 0 ≤ t.val) (h1 : t.val < 8) (y : S512x256.Idx) :
    ((outsAt0 m c t.val t.isLt).2.2.1 y : EReal) = Adam.first (∑ k : Fin 8, (blk0 m c t (ix3 k (y 0) (y 1)) : EReal)) (blk5 m c t y) := by
  rw [outsAt0_A m c t (by omega) (by omega) (by omega) (by omega), Fin.sum_univ_eight]
  dsimp only
  frame_out
  pointwise [k0_pay13, k0_pay14, k0_pay3, k0_pay2, k0_pay1]
  unfold Adam.first
  try rfl

theorem out2_B (t : Fin cfg0.N) (h0 : 8 ≤ t.val) (h1 : t.val < 16) (y : S512x256.Idx) :
    ((outsAt0 m c t.val t.isLt).2.2.1 y : EReal) = Adam.first (∑ k : Fin 8, (blk1 m c t (ix3 k (y 0) (y 1)) : EReal)) (blk5 m c t y) := by
  rw [outsAt0_B m c t (by omega) (by omega) (by omega) (by omega), Fin.sum_univ_eight]
  dsimp only
  frame_out
  pointwise [k0_pay15, k0_pay16, k0_pay6, k0_pay5, k0_pay4]
  unfold Adam.first
  try rfl

theorem out2_C (t : Fin cfg0.N) (h0 : 16 ≤ t.val) (h1 : t.val < 24) (y : S512x256.Idx) :
    ((outsAt0 m c t.val t.isLt).2.2.1 y : EReal) = Adam.first (∑ k : Fin 8, (blk2 m c t (ix3 k (y 0) (y 1)) : EReal)) (blk5 m c t y) := by
  rw [outsAt0_C m c t (by omega) (by omega) (by omega) (by omega), Fin.sum_univ_eight]
  dsimp only
  frame_out
  pointwise [k0_pay17, k0_pay18, k0_pay9, k0_pay8, k0_pay7]
  unfold Adam.first
  try rfl

theorem out2_D (t : Fin cfg0.N) (h0 : 24 ≤ t.val) (h1 : t.val < 32) (y : S512x256.Idx) :
    ((outsAt0 m c t.val t.isLt).2.2.1 y : EReal) = Adam.first (∑ k : Fin 8, (blk3 m c t (ix3 k (y 0) (y 1)) : EReal)) (blk5 m c t y) := by
  rw [outsAt0_D m c t (by omega) (by omega) (by omega) (by omega), Fin.sum_univ_eight]
  dsimp only
  frame_out
  pointwise [k0_pay19, k0_pay20, k0_pay12, k0_pay11, k0_pay10]
  unfold Adam.first
  try rfl

/-- Array 2 after the last point. -/
theorem final2 : (dats m 0 c).arrAt 9 cfg0.N = result2 m c := by
  refine (dats m 0 c).arrAt_eq_of_covers 9 _ (by decide +kernel) fun t hf y => ?_
  have e0 : ((win0_9.blk t).view.emb y 0).val = 512 * t.val + (y 0).val := by blk_simp [idx t]; omega
  have e1 : ((win0_9.blk t).view.emb y 1).val = (y 1).val := by blk_simp [idx t]
  have ht : t.val < 32 := t.isLt
  blk_simp
  rw [after0_9]
  rcases Nat.lt_or_ge t.val 8 with h | h
  · exact (out2_A m c t (by omega) (by omega) y).trans (by rw [sum0 m c t (by omega) (by omega) y _ e0 e1, read5 m c t y _ e0 e1])
  rcases Nat.lt_or_ge t.val 16 with h' | h'
  · exact (out2_B m c t (by omega) (by omega) y).trans (by rw [sum1 m c t (by omega) (by omega) y _ e0 e1, read5 m c t y _ e0 e1])
  rcases Nat.lt_or_ge t.val 24 with h'' | h''
  · exact (out2_C m c t (by omega) (by omega) y).trans (by rw [sum2 m c t (by omega) (by omega) y _ e0 e1, read5 m c t y _ e0 e1])
  · exact (out2_D m c t (by omega) (by omega) y).trans (by rw [sum3 m c t (by omega) (by omega) y _ e0 e1, read5 m c t y _ e0 e1])

theorem out3_A (t : Fin cfg0.N) (h0 : 0 ≤ t.val) (h1 : t.val < 8) (y : S512x256.Idx) :
    ((outsAt0 m c t.val t.isLt).2.2.2 y : EReal) = Adam.second (∑ k : Fin 8, (blk0 m c t (ix3 k (y 0) (y 1)) : EReal)) (blk6 m c t y) := by
  rw [outsAt0_A m c t (by omega) (by omega) (by omega) (by omega), Fin.sum_univ_eight]
  dsimp only
  frame_out
  pointwise [k0_pay13, k0_pay14, k0_pay3, k0_pay2, k0_pay1]
  unfold Adam.second
  try rfl

theorem out3_B (t : Fin cfg0.N) (h0 : 8 ≤ t.val) (h1 : t.val < 16) (y : S512x256.Idx) :
    ((outsAt0 m c t.val t.isLt).2.2.2 y : EReal) = Adam.second (∑ k : Fin 8, (blk1 m c t (ix3 k (y 0) (y 1)) : EReal)) (blk6 m c t y) := by
  rw [outsAt0_B m c t (by omega) (by omega) (by omega) (by omega), Fin.sum_univ_eight]
  dsimp only
  frame_out
  pointwise [k0_pay15, k0_pay16, k0_pay6, k0_pay5, k0_pay4]
  unfold Adam.second
  try rfl

theorem out3_C (t : Fin cfg0.N) (h0 : 16 ≤ t.val) (h1 : t.val < 24) (y : S512x256.Idx) :
    ((outsAt0 m c t.val t.isLt).2.2.2 y : EReal) = Adam.second (∑ k : Fin 8, (blk2 m c t (ix3 k (y 0) (y 1)) : EReal)) (blk6 m c t y) := by
  rw [outsAt0_C m c t (by omega) (by omega) (by omega) (by omega), Fin.sum_univ_eight]
  dsimp only
  frame_out
  pointwise [k0_pay17, k0_pay18, k0_pay9, k0_pay8, k0_pay7]
  unfold Adam.second
  try rfl

theorem out3_D (t : Fin cfg0.N) (h0 : 24 ≤ t.val) (h1 : t.val < 32) (y : S512x256.Idx) :
    ((outsAt0 m c t.val t.isLt).2.2.2 y : EReal) = Adam.second (∑ k : Fin 8, (blk3 m c t (ix3 k (y 0) (y 1)) : EReal)) (blk6 m c t y) := by
  rw [outsAt0_D m c t (by omega) (by omega) (by omega) (by omega), Fin.sum_univ_eight]
  dsimp only
  frame_out
  pointwise [k0_pay19, k0_pay20, k0_pay12, k0_pay11, k0_pay10]
  unfold Adam.second
  try rfl

/-- Array 3 after the last point. -/
theorem final3 : (dats m 0 c).arrAt 10 cfg0.N = result3 m c := by
  refine (dats m 0 c).arrAt_eq_of_covers 10 _ (by decide +kernel) fun t hf y => ?_
  have e0 : ((win0_10.blk t).view.emb y 0).val = 512 * t.val + (y 0).val := by blk_simp [idx t]; omega
  have e1 : ((win0_10.blk t).view.emb y 1).val = (y 1).val := by blk_simp [idx t]
  have ht : t.val < 32 := t.isLt
  blk_simp
  rw [after0_10]
  rcases Nat.lt_or_ge t.val 8 with h | h
  · exact (out3_A m c t (by omega) (by omega) y).trans (by rw [sum0 m c t (by omega) (by omega) y _ e0 e1, read6 m c t y _ e0 e1])
  rcases Nat.lt_or_ge t.val 16 with h' | h'
  · exact (out3_B m c t (by omega) (by omega) y).trans (by rw [sum1 m c t (by omega) (by omega) y _ e0 e1, read6 m c t y _ e0 e1])
  rcases Nat.lt_or_ge t.val 24 with h'' | h''
  · exact (out3_C m c t (by omega) (by omega) y).trans (by rw [sum2 m c t (by omega) (by omega) y _ e0 e1, read6 m c t y _ e0 e1])
  · exact (out3_D m c t (by omega) (by omega) y).trans (by rw [sum3 m c t (by omega) (by omega) y _ e0 e1, read6 m c t y _ e0 e1])

/-- The kernel's run: its results, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_v0_2) = result2 m c
      ∧ r.2.mem ((c.tc : Thread nD τ).loc main_v0_3) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).1 7).trans (final0 m c), ((h.1 c).1 8).trans (final1 m c), ((h.1 c).1 9).trans (final2 m c), ((h.1 c).1 10).trans (final3 m c), h.2 c⟩) (θ_run_and (run_main m ρ) (unchanged m ρ))

end Cert.Kernel21Ideal.Step

namespace Cert.Reference21Ideal.Step

open Idealize.ShloMosaic Idealize.ShloMosaic.TcCoe Idealize.ShloMosaic.Tactic Idealize.SL.Sem
open Cert.Reference21Ideal Cert.Reference21Ideal.Gen Cert.Reference21Ideal.Read

variable (m : (ℓ : Loc nD τ sig) → Buf (Elt Ideal) ℓ) (c : Dev nD)

abbrev arg0 : FVec Ideal S8x4096x256 .bf16 := m ((c : Thread nD τ).loc main_arg0)
abbrev arg1 : FVec Ideal S8x4096x256 .bf16 := m ((c : Thread nD τ).loc main_arg1)
abbrev arg2 : FVec Ideal S8x4096x256 .bf16 := m ((c : Thread nD τ).loc main_arg2)
abbrev arg3 : FVec Ideal S8x4096x256 .bf16 := m ((c : Thread nD τ).loc main_arg3)
abbrev arg4 : FVec Ideal S16384x256 .f32 := m ((c : Thread nD τ).loc main_arg4)
abbrev arg5 : FVec Ideal S16384x256 .f32 := m ((c : Thread nD τ).loc main_arg5)
abbrev arg6 : FVec Ideal S16384x256 .f32 := m ((c : Thread nD τ).loc main_arg6)
abbrev gradAt (i : S16384x256.Idx) : EReal := Cert.Kernel21Ideal.Step.grad (arg0 m c) (arg1 m c) (arg2 m c) (arg3 m c) i
abbrev result0 : FVec Ideal S16384x256 .f32 := fun i => gradAt m c i
abbrev result1 : FVec Ideal S16384x256 .f32 := fun i => Adam.step (gradAt m c i) (arg4 m c i) (arg5 m c i) (arg6 m c i)
abbrev result2 : FVec Ideal S16384x256 .f32 := fun i => Adam.first (gradAt m c i) (arg5 m c i)
abbrev result3 : FVec Ideal S16384x256 .f32 := fun i => Adam.second (gradAt m c i) (arg6 m c i)

theorem part0 (x : FVec Ideal S8x4096x256 .bf16) (a : Fin 4096) (b : Fin 256) : (val_main_v1 (F := Ideal) x (ix2 a b) : EReal) = ∑ k : Fin 8, x (ix3 k a b) := by
  rw [val_main_v1_apply]
  refine (congrArg (· + _) Adam.zero_word).trans ((zero_add _).trans (Finset.sum_congr rfl fun k _ => ?_))
  exact congrArg x (funext fun a => Fin.ext (by match a with | ⟨0, _⟩ => rfl | ⟨1, _⟩ => rfl | ⟨2, _⟩ => rfl))

theorem part1 (x : FVec Ideal S8x4096x256 .bf16) (a : Fin 4096) (b : Fin 256) : (val_main_v3 (F := Ideal) x (ix2 a b) : EReal) = ∑ k : Fin 8, x (ix3 k a b) := by
  rw [val_main_v3_apply]
  refine (congrArg (· + _) Adam.zero_word).trans ((zero_add _).trans (Finset.sum_congr rfl fun k _ => ?_))
  exact congrArg x (funext fun a => Fin.ext (by match a with | ⟨0, _⟩ => rfl | ⟨1, _⟩ => rfl | ⟨2, _⟩ => rfl))

theorem part2 (x : FVec Ideal S8x4096x256 .bf16) (a : Fin 4096) (b : Fin 256) : (val_main_v5 (F := Ideal) x (ix2 a b) : EReal) = ∑ k : Fin 8, x (ix3 k a b) := by
  rw [val_main_v5_apply]
  refine (congrArg (· + _) Adam.zero_word).trans ((zero_add _).trans (Finset.sum_congr rfl fun k _ => ?_))
  exact congrArg x (funext fun a => Fin.ext (by match a with | ⟨0, _⟩ => rfl | ⟨1, _⟩ => rfl | ⟨2, _⟩ => rfl))

theorem part3 (x : FVec Ideal S8x4096x256 .bf16) (a : Fin 4096) (b : Fin 256) : (val_main_v7 (F := Ideal) x (ix2 a b) : EReal) = ∑ k : Fin 8, x (ix3 k a b) := by
  rw [val_main_v7_apply]
  refine (congrArg (· + _) Adam.zero_word).trans ((zero_add _).trans (Finset.sum_congr rfl fun k _ => ?_))
  exact congrArg x (funext fun a => Fin.ext (by match a with | ⟨0, _⟩ => rfl | ⟨1, _⟩ => rfl | ⟨2, _⟩ => rfl))

theorem value0 (x0 x1 x2 x3 : FVec Ideal S8x4096x256 .bf16) (i : S16384x256.Idx) : (val_main_v8 (F := Ideal) x0 x1 x2 x3 i : EReal) = (Cert.Kernel21Ideal.Step.grad x0 x1 x2 x3 i) := by
  unfold val_main_v8 Cert.Kernel21Ideal.Step.grad
  pointwise
  by_cases h0 : (i 0).val < 4096
  · rw [dif_pos h0, dif_pos h0]
    exact part0 _ _ _
  rw [dif_neg h0, dif_neg h0]
  by_cases h1 : (i 0).val - 4096 < 4096
  · rw [dif_pos h1, dif_pos h1]
    exact part1 _ _ _
  rw [dif_neg h1, dif_neg h1]
  by_cases h2 : (i 0).val - 4096 - 4096 < 4096
  · rw [dif_pos h2, dif_pos h2]
    exact part2 _ _ _
  rw [dif_neg h2, dif_neg h2]
  exact part3 _ _ _

theorem value2 (x0 x1 x2 x3 : FVec Ideal S8x4096x256 .bf16) (x5 : FVec Ideal S16384x256 .f32) (i : S16384x256.Idx) :
    (val_main_v13 (F := Ideal) x0 x1 x2 x3 x5 i : EReal) = Adam.first (Cert.Kernel21Ideal.Step.grad x0 x1 x2 x3 i) (x5 i) := by
  rw [← value0]
  unfold val_main_v13 val_main_v12 val_main_v11 val_main_v10 val_main_v9 val_main_cst_4 val_main_cst_3
  generalize val_main_v8 (F := Ideal) x0 x1 x2 x3 = g
  pointwise
  rfl

theorem value3 (x0 x1 x2 x3 : FVec Ideal S8x4096x256 .bf16) (x6 : FVec Ideal S16384x256 .f32) (i : S16384x256.Idx) :
    (val_main_v19 (F := Ideal) x0 x1 x2 x3 x6 i : EReal) = Adam.second (Cert.Kernel21Ideal.Step.grad x0 x1 x2 x3 i) (x6 i) := by
  rw [← value0]
  unfold val_main_v19 val_main_v18 val_main_v17 val_main_v16 val_main_v15 val_main_v14 val_main_cst_6 val_main_cst_5
  generalize val_main_v8 (F := Ideal) x0 x1 x2 x3 = g
  pointwise
  rfl

theorem value1 (x0 x1 x2 x3 : FVec Ideal S8x4096x256 .bf16) (x4 : FVec Ideal S16384x256 .f32) (x5 : FVec Ideal S16384x256 .f32) (x6 : FVec Ideal S16384x256 .f32) (i : S16384x256.Idx) :
    (val_main_v32 (F := Ideal) x0 x1 x2 x3 x4 x5 x6 i : EReal) = Adam.step (Cert.Kernel21Ideal.Step.grad x0 x1 x2 x3 i) (x4 i) (x5 i) (x6 i) := by
  rw [← value0]
  unfold val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_cst_11 val_main_cst_10 val_main_cst_9 val_main_cst_8 val_main_cst_7 val_main_cst_6 val_main_cst_5 val_main_cst_4 val_main_cst_3
  generalize val_main_v8 (F := Ideal) x0 x1 x2 x3 = g
  pointwise
  rw [Adam.div1, Adam.div2]
  rfl

/-- The reference's run: its results, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v8) = result0 m c
      ∧ r.2.mem ((c.tc : Thread nD τ).loc main_v32) = result1 m c
      ∧ r.2.mem ((c.tc : Thread nD τ).loc main_v13) = result2 m c
      ∧ r.2.mem ((c.tc : Thread nD τ).loc main_v19) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((val_main_v8_eq _ _ _ _).trans (funext (value0 _ _ _ _))),
    (h c).2.1.trans ((val_main_v32_eq m c).trans (funext (value1 _ _ _ _ _ _ _))),
    (h c).2.2.1.trans ((val_main_v13_eq _ _ _ _ _).trans (funext (value2 _ _ _ _ _))),
    (h c).2.2.2.1.trans ((val_main_v19_eq _ _ _ _ _).trans (funext (value3 _ _ _ _ _))), (h c).2.2.2.2⟩) (Value.run (F := Ideal) m ρ)

/-- The reference's frame. -/
theorem frame : Cert.quiescent_Reference21Ideal := fun m ρ _ =>
  (θ_run defs _ _).mono (fun r h => ⟨fun c => (h c).2.2.2.2, sem_eq_zero_of_no_sems (by decide) r.2⟩) (Value.run (F := Ideal) m ρ)

end Cert.Reference21Ideal.Step

namespace Cert.Proof

open Idealize.ShloMosaic Idealize.SL.Sem

/-- The printed kernel's replaced constants are the ones named. -/
theorem preserves21 : Cert.preserves_Kernel21_Kernel21Ideal :=
  ⟨IdealRules.named_const.statement Cert.Kernel21Ideal.κ "c1" .f32 0x3FC48605#32 _ rfl, IdealRules.named_const.statement Cert.Kernel21Ideal.κ "c2" .f32 0x42C8E6D3#32 _ rfl⟩

/-- From the same arguments kernel and reference leave the same arrays. -/
theorem algebraic21 : Cert.algebraic_Kernel21Ideal_Reference21Ideal (hKernel21Ideal := Cert.Kernel21Ideal.Gen.facts)
    (hReference21Ideal := Cert.Reference21Ideal.Gen.facts) := fun m ρ m' ρ' _ ha =>
  ⟨_, _, _, _, Cert.Kernel21Ideal.Step.run m ρ, (θ_run (Cert.Reference21Ideal.defs (F := Ideal)) _ _).mono
    (fun _ h c => ⟨(h c).1.trans (by
      unfold Cert.Reference21Ideal.Step.result0 Cert.Reference21Ideal.Step.gradAt Cert.Reference21Ideal.Step.arg0 Cert.Reference21Ideal.Step.arg1 Cert.Reference21Ideal.Step.arg2 Cert.Reference21Ideal.Step.arg3
      rw [(ha c).1, (ha c).2.1, (ha c).2.2.1, (ha c).2.2.2.1]),
      (h c).2.1.trans (by
      unfold Cert.Reference21Ideal.Step.result1 Cert.Reference21Ideal.Step.gradAt Cert.Reference21Ideal.Step.arg0 Cert.Reference21Ideal.Step.arg1 Cert.Reference21Ideal.Step.arg2 Cert.Reference21Ideal.Step.arg3 Cert.Reference21Ideal.Step.arg4 Cert.Reference21Ideal.Step.arg5 Cert.Reference21Ideal.Step.arg6
      rw [(ha c).1, (ha c).2.1, (ha c).2.2.1, (ha c).2.2.2.1, (ha c).2.2.2.2.1, (ha c).2.2.2.2.2.1, (ha c).2.2.2.2.2.2]),
      (h c).2.2.1.trans (by
      unfold Cert.Reference21Ideal.Step.result2 Cert.Reference21Ideal.Step.gradAt Cert.Reference21Ideal.Step.arg0 Cert.Reference21Ideal.Step.arg1 Cert.Reference21Ideal.Step.arg2 Cert.Reference21Ideal.Step.arg3 Cert.Reference21Ideal.Step.arg5
      rw [(ha c).1, (ha c).2.1, (ha c).2.2.1, (ha c).2.2.2.1, (ha c).2.2.2.2.2.1]),
      (h c).2.2.2.1.trans (by
      unfold Cert.Reference21Ideal.Step.result3 Cert.Reference21Ideal.Step.gradAt Cert.Reference21Ideal.Step.arg0 Cert.Reference21Ideal.Step.arg1 Cert.Reference21Ideal.Step.arg2 Cert.Reference21Ideal.Step.arg3 Cert.Reference21Ideal.Step.arg6
      rw [(ha c).1, (ha c).2.1, (ha c).2.2.1, (ha c).2.2.2.1, (ha c).2.2.2.2.2.2]),
      (h c).2.2.2.2⟩) (Cert.Reference21Ideal.Step.run m' ρ')⟩

end Cert.Proof

end
-- ==== Proof.Adam22.lean ====
/-
  The optimiser's step on w_out, from its gradients on the eight devices: kernel and reference leave the same arrays.
-/
module

public import proofs.«01_k».proof.Defs
public import proofs.«01_k».proof.Proof.Adam
public import proofs.«01_k».proof.Proof.Gen.Kernel22Ideal.Frame
public import proofs.«01_k».proof.Proof.Gen.Reference22Ideal.Run
public import proofs.«01_k».proof.Proof.Gen.Reference22Ideal.Read
public import Idealize.ShloMosaic.Lib.Pipeline.ValueKit
public import Idealize.ShloMosaic.Adequacy
public import Idealize.ShloMosaic.Init

@[expose] public section

set_option maxRecDepth 16384

noncomputable section

namespace Cert.Kernel22Ideal.Step

open Idealize.ShloMosaic Idealize.ShloMosaic.TcCoe Idealize.ShloMosaic.Tactic Idealize.SL.Sem
open Cert.Kernel22Ideal Cert.Kernel22Ideal.Gen

/-- An entry of the gradient: the sum over the devices, of the part its row lies in. -/
def grad (s0 s1 s2 s3 : FVec Ideal S8x256x2048 .bf16) (i : S1024x2048.Idx) : EReal :=
  if h : (i 0).val < 256 then ∑ k : Fin 8, s0 (ix3 k ⟨(i 0).val, h⟩ (i 1))
  else if h : (i 0).val - 256 < 256 then ∑ k : Fin 8, s1 (ix3 k ⟨(i 0).val - 256, h⟩ (i 1))
  else if h : (i 0).val - 256 - 256 < 256 then ∑ k : Fin 8, s2 (ix3 k ⟨(i 0).val - 256 - 256, h⟩ (i 1))
  else ∑ k : Fin 8, s3 (ix3 k ⟨(i 0).val - 256 - 256 - 256, by have : (i 0).val < 1024 := (i 0).isLt; omega⟩ (i 1))

variable (m : (ℓ : Loc nD τ sig) → Buf (Elt Ideal) ℓ) (c : Dev nD)

abbrev arg0 : FVec Ideal S8x256x2048 .bf16 := m ((c : Thread nD τ).loc main_arg0)
abbrev arg1 : FVec Ideal S8x256x2048 .bf16 := m ((c : Thread nD τ).loc main_arg1)
abbrev arg2 : FVec Ideal S8x256x2048 .bf16 := m ((c : Thread nD τ).loc main_arg2)
abbrev arg3 : FVec Ideal S8x256x2048 .bf16 := m ((c : Thread nD τ).loc main_arg3)
abbrev arg4 : FVec Ideal S1024x2048 .f32 := m ((c : Thread nD τ).loc main_arg4)
abbrev arg5 : FVec Ideal S1024x2048 .f32 := m ((c : Thread nD τ).loc main_arg5)
abbrev arg6 : FVec Ideal S1024x2048 .f32 := m ((c : Thread nD τ).loc main_arg6)
abbrev blk0 (t : Fin cfg0.N) : FVec Ideal S8x64x2048 .bf16 := iblk m c 0 t
abbrev blk1 (t : Fin cfg0.N) : FVec Ideal S8x64x2048 .bf16 := iblk m c 1 t
abbrev blk2 (t : Fin cfg0.N) : FVec Ideal S8x64x2048 .bf16 := iblk m c 2 t
abbrev blk3 (t : Fin cfg0.N) : FVec Ideal S8x64x2048 .bf16 := iblk m c 3 t
abbrev blk4 (t : Fin cfg0.N) : FVec Ideal S64x2048 .f32 := iblk m c 4 t
abbrev blk5 (t : Fin cfg0.N) : FVec Ideal S64x2048 .f32 := iblk m c 5 t
abbrev blk6 (t : Fin cfg0.N) : FVec Ideal S64x2048 .f32 := iblk m c 6 t
abbrev gradAt (i : S1024x2048.Idx) : EReal := grad (arg0 m c) (arg1 m c) (arg2 m c) (arg3 m c) i
abbrev result0 : FVec Ideal S1024x2048 .f32 := fun i => gradAt m c i
abbrev result1 : FVec Ideal S1024x2048 .f32 := fun i => Adam.step (gradAt m c i) (arg4 m c i) (arg5 m c i) (arg6 m c i)
abbrev result2 : FVec Ideal S1024x2048 .f32 := fun i => Adam.first (gradAt m c i) (arg5 m c i)
abbrev result3 : FVec Ideal S1024x2048 .f32 := fun i => Adam.second (gradAt m c i) (arg6 m c i)

/-- Which block each window reads or writes at a point. -/
theorem idx : ∀ t : Fin cfg0.N, win0_0.index t = ![0, min (t.val - 0) 3, 0]
    ∧ win0_1.index t = ![0, min (t.val - 4) 3, 0]
    ∧ win0_2.index t = ![0, min (t.val - 8) 3, 0]
    ∧ win0_3.index t = ![0, min (t.val - 12) 3, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0] := by decide +kernel

/-- An entry of window 4's block. -/
theorem read4 (t : Fin cfg0.N) (y : S64x2048.Idx) (i : S1024x2048.Idx) (e0 : (i 0).val = 64 * t.val + (y 0).val) (e1 : (i 1).val = (y 1).val) :
    (blk4 m c t y : EReal) = arg4 m c i := by
  blk_ext [blk4, iblk, V_main_arg4, idx t]

/-- An entry of window 5's block. -/
theorem read5 (t : Fin cfg0.N) (y : S64x2048.Idx) (i : S1024x2048.Idx) (e0 : (i 0).val = 64 * t.val + (y 0).val) (e1 : (i 1).val = (y 1).val) :
    (blk5 m c t y : EReal) = arg5 m c i := by
  blk_ext [blk5, iblk, V_main_arg5, idx t]

/-- An entry of window 6's block. -/
theorem read6 (t : Fin cfg0.N) (y : S64x2048.Idx) (i : S1024x2048.Idx) (e0 : (i 0).val = 64 * t.val + (y 0).val) (e1 : (i 1).val = (y 1).val) :
    (blk6 m c t y : EReal) = arg6 m c i := by
  blk_ext [blk6, iblk, V_main_arg6, idx t]

/-- The sum over the devices, in part 0. -/
theorem sum0 (t : Fin cfg0.N) (h0 : 0 ≤ t.val) (h1 : t.val < 4) (y : S64x2048.Idx) (i : S1024x2048.Idx) (e0 : (i 0).val = 64 * t.val + (y 0).val) (e1 : (i 1).val = (y 1).val) :
    ∑ k : Fin 8, (blk0 m c t (ix3 k (y 0) (y 1)) : EReal) = gradAt m c i := by
  have hy : (y 0).val < 64 := (y 0).isLt
  unfold gradAt grad
  rw [dif_pos (by omega)]
  refine Finset.sum_congr rfl fun k _ => ?_
  blk_ext [blk0, iblk, V_main_arg0, idx t]

/-- The sum over the devices, in part 1. -/
theorem sum1 (t : Fin cfg0.N) (h0 : 4 ≤ t.val) (h1 : t.val < 8) (y : S64x2048.Idx) (i : S1024x2048.Idx) (e0 : (i 0).val = 64 * t.val + (y 0).val) (e1 : (i 1).val = (y 1).val) :
    ∑ k : Fin 8, (blk1 m c t (ix3 k (y 0) (y 1)) : EReal) = gradAt m c i := by
  have hy : (y 0).val < 64 := (y 0).isLt
  unfold gradAt grad
  rw [dif_neg (by omega), dif_pos (by omega)]
  refine Finset.sum_congr rfl fun k _ => ?_
  blk_ext [blk1, iblk, V_main_arg1, idx t]

/-- The sum over the devices, in part 2. -/
theorem sum2 (t : Fin cfg0.N) (h0 : 8 ≤ t.val) (h1 : t.val < 12) (y : S64x2048.Idx) (i : S1024x2048.Idx) (e0 : (i 0).val = 64 * t.val + (y 0).val) (e1 : (i 1).val = (y 1).val) :
    ∑ k : Fin 8, (blk2 m c t (ix3 k (y 0) (y 1)) : EReal) = gradAt m c i := by
  have hy : (y 0).val < 64 := (y 0).isLt
  unfold gradAt grad
  rw [dif_neg (by omega), dif_neg (by omega), dif_pos (by omega)]
  refine Finset.sum_congr rfl fun k _ => ?_
  blk_ext [blk2, iblk, V_main_arg2, idx t]

/-- The sum over the devices, in part 3. -/
theorem sum3 (t : Fin cfg0.N) (h0 : 12 ≤ t.val) (h1 : t.val < 16) (y : S64x2048.Idx) (i : S1024x2048.Idx) (e0 : (i 0).val = 64 * t.val + (y 0).val) (e1 : (i 1).val = (y 1).val) :
    ∑ k : Fin 8, (blk3 m c t (ix3 k (y 0) (y 1)) : EReal) = gradAt m c i := by
  have hy : (y 0).val < 64 := (y 0).isLt
  unfold gradAt grad
  rw [dif_neg (by omega), dif_neg (by omega), dif_neg (by omega)]
  refine Finset.sum_congr rfl fun k _ => ?_
  blk_ext [blk3, iblk, V_main_arg3, idx t]

theorem out0_A (t : Fin cfg0.N) (h0 : 0 ≤ t.val) (h1 : t.val < 4) (y : S64x2048.Idx) :
    ((outsAt0 m c t.val t.isLt).1 y : EReal) = (∑ k : Fin 8, (blk0 m c t (ix3 k (y 0) (y 1)) : EReal)) := by
  rw [outsAt0_A m c t (by omega) (by omega) (by omega) (by omega), Fin.sum_univ_eight]
  dsimp only
  frame_out
  pointwise [k0_pay13, k0_pay14, k0_pay3, k0_pay2, k0_pay1]
  try rfl

theorem out0_B (t : Fin cfg0.N) (h0 : 4 ≤ t.val) (h1 : t.val < 8) (y : S64x2048.Idx) :
    ((outsAt0 m c t.val t.isLt).1 y : EReal) = (∑ k : Fin 8, (blk1 m c t (ix3 k (y 0) (y 1)) : EReal)) := by
  rw [outsAt0_B m c t (by omega) (by omega) (by omega) (by omega), Fin.sum_univ_eight]
  dsimp only
  frame_out
  pointwise [k0_pay15, k0_pay16, k0_pay6, k0_pay5, k0_pay4]
  try rfl

theorem out0_C (t : Fin cfg0.N) (h0 : 8 ≤ t.val) (h1 : t.val < 12) (y : S64x2048.Idx) :
    ((outsAt0 m c t.val t.isLt).1 y : EReal) = (∑ k : Fin 8, (blk2 m c t (ix3 k (y 0) (y 1)) : EReal)) := by
  rw [outsAt0_C m c t (by omega) (by omega) (by omega) (by omega), Fin.sum_univ_eight]
  dsimp only
  frame_out
  pointwise [k0_pay17, k0_pay18, k0_pay9, k0_pay8, k0_pay7]
  try rfl

theorem out0_D (t : Fin cfg0.N) (h0 : 12 ≤ t.val) (h1 : t.val < 16) (y : S64x2048.Idx) :
    ((outsAt0 m c t.val t.isLt).1 y : EReal) = (∑ k : Fin 8, (blk3 m c t (ix3 k (y 0) (y 1)) : EReal)) := by
  rw [outsAt0_D m c t (by omega) (by omega) (by omega) (by omega), Fin.sum_univ_eight]
  dsimp only
  frame_out
  pointwise [k0_pay19, k0_pay20, k0_pay12, k0_pay11, k0_pay10]
  try rfl

/-- Array 0 after the last point. -/
theorem final0 : (dats m 0 c).arrAt 7 cfg0.N = result0 m c := by
  refine (dats m 0 c).arrAt_eq_of_covers 7 _ (by decide +kernel) fun t hf y => ?_
  have e0 : ((win0_7.blk t).view.emb y 0).val = 64 * t.val + (y 0).val := by blk_simp [idx t]; omega
  have e1 : ((win0_7.blk t).view.emb y 1).val = (y 1).val := by blk_simp [idx t]
  have ht : t.val < 16 := t.isLt
  blk_simp
  rw [after0_7]
  rcases Nat.lt_or_ge t.val 4 with h | h
  · exact (out0_A m c t (by omega) (by omega) y).trans (by rw [sum0 m c t (by omega) (by omega) y _ e0 e1])
  rcases Nat.lt_or_ge t.val 8 with h' | h'
  · exact (out0_B m c t (by omega) (by omega) y).trans (by rw [sum1 m c t (by omega) (by omega) y _ e0 e1])
  rcases Nat.lt_or_ge t.val 12 with h'' | h''
  · exact (out0_C m c t (by omega) (by omega) y).trans (by rw [sum2 m c t (by omega) (by omega) y _ e0 e1])
  · exact (out0_D m c t (by omega) (by omega) y).trans (by rw [sum3 m c t (by omega) (by omega) y _ e0 e1])

theorem out1_A (t : Fin cfg0.N) (h0 : 0 ≤ t.val) (h1 : t.val < 4) (y : S64x2048.Idx) :
    ((outsAt0 m c t.val t.isLt).2.1 y : EReal) = Adam.step (∑ k : Fin 8, (blk0 m c t (ix3 k (y 0) (y 1)) : EReal)) (blk4 m c t y) (blk5 m c t y) (blk6 m c t y) := by
  rw [outsAt0_A m c t (by omega) (by omega) (by omega) (by omega), Fin.sum_univ_eight]
  dsimp only
  frame_out
  pointwise [k0_pay13, k0_pay14, k0_pay3, k0_pay2, k0_pay1]
  unfold Adam.step Adam.first Adam.second
  try rfl

theorem out1_B (t : Fin cfg0.N) (h0 : 4 ≤ t.val) (h1 : t.val < 8) (y : S64x2048.Idx) :
    ((outsAt0 m c t.val t.isLt).2.1 y : EReal) = Adam.step (∑ k : Fin 8, (blk1 m c t (ix3 k (y 0) (y 1)) : EReal)) (blk4 m c t y) (blk5 m c t y) (blk6 m c t y) := by
  rw [outsAt0_B m c t (by omega) (by omega) (by omega) (by omega), Fin.sum_univ_eight]
  dsimp only
  frame_out
  pointwise [k0_pay15, k0_pay16, k0_pay6, k0_pay5, k0_pay4]
  unfold Adam.step Adam.first Adam.second
  try rfl

theorem out1_C (t : Fin cfg0.N) (h0 : 8 ≤ t.val) (h1 : t.val < 12) (y : S64x2048.Idx) :
    ((outsAt0 m c t.val t.isLt).2.1 y : EReal) = Adam.step (∑ k : Fin 8, (blk2 m c t (ix3 k (y 0) (y 1)) : EReal)) (blk4 m c t y) (blk5 m c t y) (blk6 m c t y) := by
  rw [outsAt0_C m c t (by omega) (by omega) (by omega) (by omega), Fin.sum_univ_eight]
  dsimp only
  frame_out
  pointwise [k0_pay17, k0_pay18, k0_pay9, k0_pay8, k0_pay7]
  unfold Adam.step Adam.first Adam.second
  try rfl

theorem out1_D (t : Fin cfg0.N) (h0 : 12 ≤ t.val) (h1 : t.val < 16) (y : S64x2048.Idx) :
    ((outsAt0 m c t.val t.isLt).2.1 y : EReal) = Adam.step (∑ k : Fin 8, (blk3 m c t (ix3 k (y 0) (y 1)) : EReal)) (blk4 m c t y) (blk5 m c t y) (blk6 m c t y) := by
  rw [outsAt0_D m c t (by omega) (by omega) (by omega) (by omega), Fin.sum_univ_eight]
  dsimp only
  frame_out
  pointwise [k0_pay19, k0_pay20, k0_pay12, k0_pay11, k0_pay10]
  unfold Adam.step Adam.first Adam.second
  try rfl

/-- Array 1 after the last point. -/
theorem final1 : (dats m 0 c).arrAt 8 cfg0.N = result1 m c := by
  refine (dats m 0 c).arrAt_eq_of_covers 8 _ (by decide +kernel) fun t hf y => ?_
  have e0 : ((win0_8.blk t).view.emb y 0).val = 64 * t.val + (y 0).val := by blk_simp [idx t]; omega
  have e1 : ((win0_8.blk t).view.emb y 1).val = (y 1).val := by blk_simp [idx t]
  have ht : t.val < 16 := t.isLt
  blk_simp
  rw [after0_8]
  rcases Nat.lt_or_ge t.val 4 with h | h
  · exact (out1_A m c t (by omega) (by omega) y).trans (by rw [sum0 m c t (by omega) (by omega) y _ e0 e1, read4 m c t y _ e0 e1, read5 m c t y _ e0 e1, read6 m c t y _ e0 e1])
  rcases Nat.lt_or_ge t.val 8 with h' | h'
  · exact (out1_B m c t (by omega) (by omega) y).trans (by rw [sum1 m c t (by omega) (by omega) y _ e0 e1, read4 m c t y _ e0 e1, read5 m c t y _ e0 e1, read6 m c t y _ e0 e1])
  rcases Nat.lt_or_ge t.val 12 with h'' | h''
  · exact (out1_C m c t (by omega) (by omega) y).trans (by rw [sum2 m c t (by omega) (by omega) y _ e0 e1, read4 m c t y _ e0 e1, read5 m c t y _ e0 e1, read6 m c t y _ e0 e1])
  · exact (out1_D m c t (by omega) (by omega) y).trans (by rw [sum3 m c t (by omega) (by omega) y _ e0 e1, read4 m c t y _ e0 e1, read5 m c t y _ e0 e1, read6 m c t y _ e0 e1])

theorem out2_A (t : Fin cfg0.N) (h0 : 0 ≤ t.val) (h1 : t.val < 4) (y : S64x2048.Idx) :
    ((outsAt0 m c t.val t.isLt).2.2.1 y : EReal) = Adam.first (∑ k : Fin 8, (blk0 m c t (ix3 k (y 0) (y 1)) : EReal)) (blk5 m c t y) := by
  rw [outsAt0_A m c t (by omega) (by omega) (by omega) (by omega), Fin.sum_univ_eight]
  dsimp only
  frame_out
  pointwise [k0_pay13, k0_pay14, k0_pay3, k0_pay2, k0_pay1]
  unfold Adam.first
  try rfl

theorem out2_B (t : Fin cfg0.N) (h0 : 4 ≤ t.val) (h1 : t.val < 8) (y : S64x2048.Idx) :
    ((outsAt0 m c t.val t.isLt).2.2.1 y : EReal) = Adam.first (∑ k : Fin 8, (blk1 m c t (ix3 k (y 0) (y 1)) : EReal)) (blk5 m c t y) := by
  rw [outsAt0_B m c t (by omega) (by omega) (by omega) (by omega), Fin.sum_univ_eight]
  dsimp only
  frame_out
  pointwise [k0_pay15, k0_pay16, k0_pay6, k0_pay5, k0_pay4]
  unfold Adam.first
  try rfl

theorem out2_C (t : Fin cfg0.N) (h0 : 8 ≤ t.val) (h1 : t.val < 12) (y : S64x2048.Idx) :
    ((outsAt0 m c t.val t.isLt).2.2.1 y : EReal) = Adam.first (∑ k : Fin 8, (blk2 m c t (ix3 k (y 0) (y 1)) : EReal)) (blk5 m c t y) := by
  rw [outsAt0_C m c t (by omega) (by omega) (by omega) (by omega), Fin.sum_univ_eight]
  dsimp only
  frame_out
  pointwise [k0_pay17, k0_pay18, k0_pay9, k0_pay8, k0_pay7]
  unfold Adam.first
  try rfl

theorem out2_D (t : Fin cfg0.N) (h0 : 12 ≤ t.val) (h1 : t.val < 16) (y : S64x2048.Idx) :
    ((outsAt0 m c t.val t.isLt).2.2.1 y : EReal) = Adam.first (∑ k : Fin 8, (blk3 m c t (ix3 k (y 0) (y 1)) : EReal)) (blk5 m c t y) := by
  rw [outsAt0_D m c t (by omega) (by omega) (by omega) (by omega), Fin.sum_univ_eight]
  dsimp only
  frame_out
  pointwise [k0_pay19, k0_pay20, k0_pay12, k0_pay11, k0_pay10]
  unfold Adam.first
  try rfl

/-- Array 2 after the last point. -/
theorem final2 : (dats m 0 c).arrAt 9 cfg0.N = result2 m c := by
  refine (dats m 0 c).arrAt_eq_of_covers 9 _ (by decide +kernel) fun t hf y => ?_
  have e0 : ((win0_9.blk t).view.emb y 0).val = 64 * t.val + (y 0).val := by blk_simp [idx t]; omega
  have e1 : ((win0_9.blk t).view.emb y 1).val = (y 1).val := by blk_simp [idx t]
  have ht : t.val < 16 := t.isLt
  blk_simp
  rw [after0_9]
  rcases Nat.lt_or_ge t.val 4 with h | h
  · exact (out2_A m c t (by omega) (by omega) y).trans (by rw [sum0 m c t (by omega) (by omega) y _ e0 e1, read5 m c t y _ e0 e1])
  rcases Nat.lt_or_ge t.val 8 with h' | h'
  · exact (out2_B m c t (by omega) (by omega) y).trans (by rw [sum1 m c t (by omega) (by omega) y _ e0 e1, read5 m c t y _ e0 e1])
  rcases Nat.lt_or_ge t.val 12 with h'' | h''
  · exact (out2_C m c t (by omega) (by omega) y).trans (by rw [sum2 m c t (by omega) (by omega) y _ e0 e1, read5 m c t y _ e0 e1])
  · exact (out2_D m c t (by omega) (by omega) y).trans (by rw [sum3 m c t (by omega) (by omega) y _ e0 e1, read5 m c t y _ e0 e1])

theorem out3_A (t : Fin cfg0.N) (h0 : 0 ≤ t.val) (h1 : t.val < 4) (y : S64x2048.Idx) :
    ((outsAt0 m c t.val t.isLt).2.2.2 y : EReal) = Adam.second (∑ k : Fin 8, (blk0 m c t (ix3 k (y 0) (y 1)) : EReal)) (blk6 m c t y) := by
  rw [outsAt0_A m c t (by omega) (by omega) (by omega) (by omega), Fin.sum_univ_eight]
  dsimp only
  frame_out
  pointwise [k0_pay13, k0_pay14, k0_pay3, k0_pay2, k0_pay1]
  unfold Adam.second
  try rfl

theorem out3_B (t : Fin cfg0.N) (h0 : 4 ≤ t.val) (h1 : t.val < 8) (y : S64x2048.Idx) :
    ((outsAt0 m c t.val t.isLt).2.2.2 y : EReal) = Adam.second (∑ k : Fin 8, (blk1 m c t (ix3 k (y 0) (y 1)) : EReal)) (blk6 m c t y) := by
  rw [outsAt0_B m c t (by omega) (by omega) (by omega) (by omega), Fin.sum_univ_eight]
  dsimp only
  frame_out
  pointwise [k0_pay15, k0_pay16, k0_pay6, k0_pay5, k0_pay4]
  unfold Adam.second
  try rfl

theorem out3_C (t : Fin cfg0.N) (h0 : 8 ≤ t.val) (h1 : t.val < 12) (y : S64x2048.Idx) :
    ((outsAt0 m c t.val t.isLt).2.2.2 y : EReal) = Adam.second (∑ k : Fin 8, (blk2 m c t (ix3 k (y 0) (y 1)) : EReal)) (blk6 m c t y) := by
  rw [outsAt0_C m c t (by omega) (by omega) (by omega) (by omega), Fin.sum_univ_eight]
  dsimp only
  frame_out
  pointwise [k0_pay17, k0_pay18, k0_pay9, k0_pay8, k0_pay7]
  unfold Adam.second
  try rfl

theorem out3_D (t : Fin cfg0.N) (h0 : 12 ≤ t.val) (h1 : t.val < 16) (y : S64x2048.Idx) :
    ((outsAt0 m c t.val t.isLt).2.2.2 y : EReal) = Adam.second (∑ k : Fin 8, (blk3 m c t (ix3 k (y 0) (y 1)) : EReal)) (blk6 m c t y) := by
  rw [outsAt0_D m c t (by omega) (by omega) (by omega) (by omega), Fin.sum_univ_eight]
  dsimp only
  frame_out
  pointwise [k0_pay19, k0_pay20, k0_pay12, k0_pay11, k0_pay10]
  unfold Adam.second
  try rfl

/-- Array 3 after the last point. -/
theorem final3 : (dats m 0 c).arrAt 10 cfg0.N = result3 m c := by
  refine (dats m 0 c).arrAt_eq_of_covers 10 _ (by decide +kernel) fun t hf y => ?_
  have e0 : ((win0_10.blk t).view.emb y 0).val = 64 * t.val + (y 0).val := by blk_simp [idx t]; omega
  have e1 : ((win0_10.blk t).view.emb y 1).val = (y 1).val := by blk_simp [idx t]
  have ht : t.val < 16 := t.isLt
  blk_simp
  rw [after0_10]
  rcases Nat.lt_or_ge t.val 4 with h | h
  · exact (out3_A m c t (by omega) (by omega) y).trans (by rw [sum0 m c t (by omega) (by omega) y _ e0 e1, read6 m c t y _ e0 e1])
  rcases Nat.lt_or_ge t.val 8 with h' | h'
  · exact (out3_B m c t (by omega) (by omega) y).trans (by rw [sum1 m c t (by omega) (by omega) y _ e0 e1, read6 m c t y _ e0 e1])
  rcases Nat.lt_or_ge t.val 12 with h'' | h''
  · exact (out3_C m c t (by omega) (by omega) y).trans (by rw [sum2 m c t (by omega) (by omega) y _ e0 e1, read6 m c t y _ e0 e1])
  · exact (out3_D m c t (by omega) (by omega) y).trans (by rw [sum3 m c t (by omega) (by omega) y _ e0 e1, read6 m c t y _ e0 e1])

/-- The kernel's run: its results, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = result0 m c
      ∧ r.2.mem ((c.tc : Thread nD τ).loc main_v0_1) = result1 m c
      ∧ r.2.mem ((c.tc : Thread nD τ).loc main_v0_2) = result2 m c
      ∧ r.2.mem ((c.tc : Thread nD τ).loc main_v0_3) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).1 7).trans (final0 m c), ((h.1 c).1 8).trans (final1 m c), ((h.1 c).1 9).trans (final2 m c), ((h.1 c).1 10).trans (final3 m c), h.2 c⟩) (θ_run_and (run_main m ρ) (unchanged m ρ))

end Cert.Kernel22Ideal.Step

namespace Cert.Reference22Ideal.Step

open Idealize.ShloMosaic Idealize.ShloMosaic.TcCoe Idealize.ShloMosaic.Tactic Idealize.SL.Sem
open Cert.Reference22Ideal Cert.Reference22Ideal.Gen Cert.Reference22Ideal.Read

variable (m : (ℓ : Loc nD τ sig) → Buf (Elt Ideal) ℓ) (c : Dev nD)

abbrev arg0 : FVec Ideal S8x256x2048 .bf16 := m ((c : Thread nD τ).loc main_arg0)
abbrev arg1 : FVec Ideal S8x256x2048 .bf16 := m ((c : Thread nD τ).loc main_arg1)
abbrev arg2 : FVec Ideal S8x256x2048 .bf16 := m ((c : Thread nD τ).loc main_arg2)
abbrev arg3 : FVec Ideal S8x256x2048 .bf16 := m ((c : Thread nD τ).loc main_arg3)
abbrev arg4 : FVec Ideal S1024x2048 .f32 := m ((c : Thread nD τ).loc main_arg4)
abbrev arg5 : FVec Ideal S1024x2048 .f32 := m ((c : Thread nD τ).loc main_arg5)
abbrev arg6 : FVec Ideal S1024x2048 .f32 := m ((c : Thread nD τ).loc main_arg6)
abbrev gradAt (i : S1024x2048.Idx) : EReal := Cert.Kernel22Ideal.Step.grad (arg0 m c) (arg1 m c) (arg2 m c) (arg3 m c) i
abbrev result0 : FVec Ideal S1024x2048 .f32 := fun i => gradAt m c i
abbrev result1 : FVec Ideal S1024x2048 .f32 := fun i => Adam.step (gradAt m c i) (arg4 m c i) (arg5 m c i) (arg6 m c i)
abbrev result2 : FVec Ideal S1024x2048 .f32 := fun i => Adam.first (gradAt m c i) (arg5 m c i)
abbrev result3 : FVec Ideal S1024x2048 .f32 := fun i => Adam.second (gradAt m c i) (arg6 m c i)

theorem part0 (x : FVec Ideal S8x256x2048 .bf16) (a : Fin 256) (b : Fin 2048) : (val_main_v1 (F := Ideal) x (ix2 a b) : EReal) = ∑ k : Fin 8, x (ix3 k a b) := by
  rw [val_main_v1_apply]
  refine (congrArg (· + _) Adam.zero_word).trans ((zero_add _).trans (Finset.sum_congr rfl fun k _ => ?_))
  exact congrArg x (funext fun a => Fin.ext (by match a with | ⟨0, _⟩ => rfl | ⟨1, _⟩ => rfl | ⟨2, _⟩ => rfl))

theorem part1 (x : FVec Ideal S8x256x2048 .bf16) (a : Fin 256) (b : Fin 2048) : (val_main_v3 (F := Ideal) x (ix2 a b) : EReal) = ∑ k : Fin 8, x (ix3 k a b) := by
  rw [val_main_v3_apply]
  refine (congrArg (· + _) Adam.zero_word).trans ((zero_add _).trans (Finset.sum_congr rfl fun k _ => ?_))
  exact congrArg x (funext fun a => Fin.ext (by match a with | ⟨0, _⟩ => rfl | ⟨1, _⟩ => rfl | ⟨2, _⟩ => rfl))

theorem part2 (x : FVec Ideal S8x256x2048 .bf16) (a : Fin 256) (b : Fin 2048) : (val_main_v5 (F := Ideal) x (ix2 a b) : EReal) = ∑ k : Fin 8, x (ix3 k a b) := by
  rw [val_main_v5_apply]
  refine (congrArg (· + _) Adam.zero_word).trans ((zero_add _).trans (Finset.sum_congr rfl fun k _ => ?_))
  exact congrArg x (funext fun a => Fin.ext (by match a with | ⟨0, _⟩ => rfl | ⟨1, _⟩ => rfl | ⟨2, _⟩ => rfl))

theorem part3 (x : FVec Ideal S8x256x2048 .bf16) (a : Fin 256) (b : Fin 2048) : (val_main_v7 (F := Ideal) x (ix2 a b) : EReal) = ∑ k : Fin 8, x (ix3 k a b) := by
  rw [val_main_v7_apply]
  refine (congrArg (· + _) Adam.zero_word).trans ((zero_add _).trans (Finset.sum_congr rfl fun k _ => ?_))
  exact congrArg x (funext fun a => Fin.ext (by match a with | ⟨0, _⟩ => rfl | ⟨1, _⟩ => rfl | ⟨2, _⟩ => rfl))

theorem value0 (x0 x1 x2 x3 : FVec Ideal S8x256x2048 .bf16) (i : S1024x2048.Idx) : (val_main_v8 (F := Ideal) x0 x1 x2 x3 i : EReal) = (Cert.Kernel22Ideal.Step.grad x0 x1 x2 x3 i) := by
  unfold val_main_v8 Cert.Kernel22Ideal.Step.grad
  pointwise
  by_cases h0 : (i 0).val < 256
  · rw [dif_pos h0, dif_pos h0]
    exact part0 _ _ _
  rw [dif_neg h0, dif_neg h0]
  by_cases h1 : (i 0).val - 256 < 256
  · rw [dif_pos h1, dif_pos h1]
    exact part1 _ _ _
  rw [dif_neg h1, dif_neg h1]
  by_cases h2 : (i 0).val - 256 - 256 < 256
  · rw [dif_pos h2, dif_pos h2]
    exact part2 _ _ _
  rw [dif_neg h2, dif_neg h2]
  exact part3 _ _ _

theorem value2 (x0 x1 x2 x3 : FVec Ideal S8x256x2048 .bf16) (x5 : FVec Ideal S1024x2048 .f32) (i : S1024x2048.Idx) :
    (val_main_v13 (F := Ideal) x0 x1 x2 x3 x5 i : EReal) = Adam.first (Cert.Kernel22Ideal.Step.grad x0 x1 x2 x3 i) (x5 i) := by
  rw [← value0]
  unfold val_main_v13 val_main_v12 val_main_v11 val_main_v10 val_main_v9 val_main_cst_4 val_main_cst_3
  generalize val_main_v8 (F := Ideal) x0 x1 x2 x3 = g
  pointwise
  rfl

theorem value3 (x0 x1 x2 x3 : FVec Ideal S8x256x2048 .bf16) (x6 : FVec Ideal S1024x2048 .f32) (i : S1024x2048.Idx) :
    (val_main_v19 (F := Ideal) x0 x1 x2 x3 x6 i : EReal) = Adam.second (Cert.Kernel22Ideal.Step.grad x0 x1 x2 x3 i) (x6 i) := by
  rw [← value0]
  unfold val_main_v19 val_main_v18 val_main_v17 val_main_v16 val_main_v15 val_main_v14 val_main_cst_6 val_main_cst_5
  generalize val_main_v8 (F := Ideal) x0 x1 x2 x3 = g
  pointwise
  rfl

theorem value1 (x0 x1 x2 x3 : FVec Ideal S8x256x2048 .bf16) (x4 : FVec Ideal S1024x2048 .f32) (x5 : FVec Ideal S1024x2048 .f32) (x6 : FVec Ideal S1024x2048 .f32) (i : S1024x2048.Idx) :
    (val_main_v32 (F := Ideal) x0 x1 x2 x3 x4 x5 x6 i : EReal) = Adam.step (Cert.Kernel22Ideal.Step.grad x0 x1 x2 x3 i) (x4 i) (x5 i) (x6 i) := by
  rw [← value0]
  unfold val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_cst_11 val_main_cst_10 val_main_cst_9 val_main_cst_8 val_main_cst_7 val_main_cst_6 val_main_cst_5 val_main_cst_4 val_main_cst_3
  generalize val_main_v8 (F := Ideal) x0 x1 x2 x3 = g
  pointwise
  rw [Adam.div1, Adam.div2]
  rfl

/-- The reference's run: its results, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v8) = result0 m c
      ∧ r.2.mem ((c.tc : Thread nD τ).loc main_v32) = result1 m c
      ∧ r.2.mem ((c.tc : Thread nD τ).loc main_v13) = result2 m c
      ∧ r.2.mem ((c.tc : Thread nD τ).loc main_v19) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((val_main_v8_eq _ _ _ _).trans (funext (value0 _ _ _ _))),
    (h c).2.1.trans ((val_main_v32_eq m c).trans (funext (value1 _ _ _ _ _ _ _))),
    (h c).2.2.1.trans ((val_main_v13_eq _ _ _ _ _).trans (funext (value2 _ _ _ _ _))),
    (h c).2.2.2.1.trans ((val_main_v19_eq _ _ _ _ _).trans (funext (value3 _ _ _ _ _))), (h c).2.2.2.2⟩) (Value.run (F := Ideal) m ρ)

/-- The reference's frame. -/
theorem frame : Cert.quiescent_Reference22Ideal := fun m ρ _ =>
  (θ_run defs _ _).mono (fun r h => ⟨fun c => (h c).2.2.2.2, sem_eq_zero_of_no_sems (by decide) r.2⟩) (Value.run (F := Ideal) m ρ)

end Cert.Reference22Ideal.Step

namespace Cert.Proof

open Idealize.ShloMosaic Idealize.SL.Sem

/-- The printed kernel's replaced constants are the ones named. -/
theorem preserves22 : Cert.preserves_Kernel22_Kernel22Ideal :=
  ⟨IdealRules.named_const.statement Cert.Kernel22Ideal.κ "c1" .f32 0x3FC48605#32 _ rfl, IdealRules.named_const.statement Cert.Kernel22Ideal.κ "c2" .f32 0x42C8E6D3#32 _ rfl⟩

/-- From the same arguments kernel and reference leave the same arrays. -/
theorem algebraic22 : Cert.algebraic_Kernel22Ideal_Reference22Ideal (hKernel22Ideal := Cert.Kernel22Ideal.Gen.facts)
    (hReference22Ideal := Cert.Reference22Ideal.Gen.facts) := fun m ρ m' ρ' _ ha =>
  ⟨_, _, _, _, Cert.Kernel22Ideal.Step.run m ρ, (θ_run (Cert.Reference22Ideal.defs (F := Ideal)) _ _).mono
    (fun _ h c => ⟨(h c).1.trans (by
      unfold Cert.Reference22Ideal.Step.result0 Cert.Reference22Ideal.Step.gradAt Cert.Reference22Ideal.Step.arg0 Cert.Reference22Ideal.Step.arg1 Cert.Reference22Ideal.Step.arg2 Cert.Reference22Ideal.Step.arg3
      rw [(ha c).1, (ha c).2.1, (ha c).2.2.1, (ha c).2.2.2.1]),
      (h c).2.1.trans (by
      unfold Cert.Reference22Ideal.Step.result1 Cert.Reference22Ideal.Step.gradAt Cert.Reference22Ideal.Step.arg0 Cert.Reference22Ideal.Step.arg1 Cert.Reference22Ideal.Step.arg2 Cert.Reference22Ideal.Step.arg3 Cert.Reference22Ideal.Step.arg4 Cert.Reference22Ideal.Step.arg5 Cert.Reference22Ideal.Step.arg6
      rw [(ha c).1, (ha c).2.1, (ha c).2.2.1, (ha c).2.2.2.1, (ha c).2.2.2.2.1, (ha c).2.2.2.2.2.1, (ha c).2.2.2.2.2.2]),
      (h c).2.2.1.trans (by
      unfold Cert.Reference22Ideal.Step.result2 Cert.Reference22Ideal.Step.gradAt Cert.Reference22Ideal.Step.arg0 Cert.Reference22Ideal.Step.arg1 Cert.Reference22Ideal.Step.arg2 Cert.Reference22Ideal.Step.arg3 Cert.Reference22Ideal.Step.arg5
      rw [(ha c).1, (ha c).2.1, (ha c).2.2.1, (ha c).2.2.2.1, (ha c).2.2.2.2.2.1]),
      (h c).2.2.2.1.trans (by
      unfold Cert.Reference22Ideal.Step.result3 Cert.Reference22Ideal.Step.gradAt Cert.Reference22Ideal.Step.arg0 Cert.Reference22Ideal.Step.arg1 Cert.Reference22Ideal.Step.arg2 Cert.Reference22Ideal.Step.arg3 Cert.Reference22Ideal.Step.arg6
      rw [(ha c).1, (ha c).2.1, (ha c).2.2.1, (ha c).2.2.2.1, (ha c).2.2.2.2.2.2]),
      (h c).2.2.2.2⟩) (Cert.Reference22Ideal.Step.run m' ρ')⟩

end Cert.Proof

end
-- ==== Proof.lean ====
/-
  The claim: the frames of all programs, the named constants of the attention's gradient, that, of finite arguments, its
  kernel and its reference leave the same arrays, and that each matrix product, gate gradient and optimiser call leaves what its reference leaves.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.Run
public import proofs.«01_k».proof.Proof.PrintedRun
public import proofs.«01_k».proof.Proof.Final
public import proofs.«01_k».proof.Proof.ReferenceValue
public import proofs.«01_k».proof.Proof.Finite
public import proofs.«01_k».proof.Proof.Product2
public import proofs.«01_k».proof.Proof.Product3
public import proofs.«01_k».proof.Proof.Product4
public import proofs.«01_k».proof.Proof.Product5
public import proofs.«01_k».proof.Proof.Product6
public import proofs.«01_k».proof.Proof.Product7
public import proofs.«01_k».proof.Proof.Product8
public import proofs.«01_k».proof.Proof.Product9
public import proofs.«01_k».proof.Proof.Product10
public import proofs.«01_k».proof.Proof.Product11
public import proofs.«01_k».proof.Proof.Product12
public import proofs.«01_k».proof.Proof.Product13
public import proofs.«01_k».proof.Proof.Gate14
public import proofs.«01_k».proof.Proof.Gate15
public import proofs.«01_k».proof.Proof.Gate16
public import proofs.«01_k».proof.Proof.Gate17
public import proofs.«01_k».proof.Proof.Gate18
public import proofs.«01_k».proof.Proof.Adam20
public import proofs.«01_k».proof.Proof.Adam21
public import proofs.«01_k».proof.Proof.Adam22
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "scale2" .f32 0x3E0293EE#32 _ rfl,
    IdealRules.named_const.statement Cert.KernelIdeal.κ "mask" .f32 0xF149F2CA#32 _ rfl,
    IdealRules.named_const.statement Cert.KernelIdeal.κ "scale" .f32 0x3DB504F3#32 _ rfl⟩

/-- The kernel's five arrays, of arguments that hold the sources `R`. -/
theorem kernel_value (m : (ℓ : Loc Cert.KernelIdeal.nD Cert.KernelIdeal.τ Cert.KernelIdeal.sig) → Buf (Elt Ideal) ℓ) (ρ : Dev Cert.KernelIdeal.nD → PrngReg)
    (R : Dev Cert.KernelIdeal.nD → Cert.FoxMath.Src)
    (hS : ∀ c, Cert.FoxMath.SrcIs (R c) (Cert.KernelIdeal.FoxBody.argU m c) (Cert.KernelIdeal.FoxBody.argG m c) (Cert.KernelIdeal.FoxBody.argC m c)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v59_0) = (R c).dkArr
      ∧ r.2.mem ((c.tc : Thread Cert.KernelIdeal.nD Cert.KernelIdeal.τ).loc Cert.KernelIdeal.main_v59_1) = (R c).dvArr
      ∧ r.2.mem ((c.tc : Thread Cert.KernelIdeal.nD Cert.KernelIdeal.τ).loc Cert.KernelIdeal.main_v59_2) = (R c).dckArr
      ∧ r.2.mem ((c.tc : Thread Cert.KernelIdeal.nD Cert.KernelIdeal.τ).loc Cert.KernelIdeal.main_v59_3) = (R c).dqArr
      ∧ r.2.mem ((c.tc : Thread Cert.KernelIdeal.nD Cert.KernelIdeal.τ).loc Cert.KernelIdeal.main_v59_4) = (R c).dcqArr) :=
  (θ_run Cert.KernelIdeal.defs _ _).mono (fun _ h c =>
    ⟨((h c).1 10).trans (Cert.KernelIdeal.FoxBody.final_dk m c (hS c)), ((h c).1 11).trans (Cert.KernelIdeal.FoxBody.final_dv m c (hS c)),
      ((h c).1 12).trans (Cert.KernelIdeal.FoxBody.final_dck m c (hS c)), ((h c).1 13).trans (Cert.KernelIdeal.FoxBody.final_dq m c (hS c)),
      ((h c).1 14).trans (Cert.KernelIdeal.FoxBody.final_dcq m c (hS c))⟩)
    (Cert.KernelIdeal.FoxBody.run_main m ρ)

section

variable {m : (ℓ : Loc Cert.ReferenceIdeal.nD Cert.ReferenceIdeal.τ Cert.ReferenceIdeal.sig) → Buf (Elt Ideal) ℓ} {c : Dev Cert.ReferenceIdeal.nD}
  {R : Cert.FoxMath.Src}
  (hS : Cert.FoxMath.SrcIs R (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2)))

include hS

theorem reference_dk : Cert.ReferenceIdeal.Value.res_main_v93 m c = R.dkArr :=
  (Cert.ReferenceIdeal.Read.val_main_v93_eq m c).trans ((Cert.ReferenceIdeal.FoxRef.result_dk _ _ _).trans (Cert.ReferenceIdeal.FoxRef.dk_real hS))
theorem reference_dv : Cert.ReferenceIdeal.Value.res_main_v95 m c = R.dvArr :=
  (Cert.ReferenceIdeal.Read.val_main_v95_eq m c).trans ((Cert.ReferenceIdeal.FoxRef.result_dv _ _ _).trans (Cert.ReferenceIdeal.FoxRef.dv_real hS))
theorem reference_dck : Cert.ReferenceIdeal.Value.res_main_v97 m c = R.dckArr :=
  (Cert.ReferenceIdeal.Read.val_main_v97_eq m c).trans ((Cert.ReferenceIdeal.FoxRef.result_dck _ _ _).trans (Cert.ReferenceIdeal.FoxRef.dck_real hS))
theorem reference_dq : Cert.ReferenceIdeal.Value.res_main_v99 m c = R.dqArr :=
  (Cert.ReferenceIdeal.Read.val_main_v99_eq m c).trans ((Cert.ReferenceIdeal.FoxRef.result_dq _ _ _).trans (Cert.ReferenceIdeal.FoxRef.dq_real hS))
theorem reference_dcq : Cert.ReferenceIdeal.Value.res_main_v101 m c = R.dcqArr :=
  (Cert.ReferenceIdeal.Read.val_main_v101_eq m c).trans ((Cert.ReferenceIdeal.FoxRef.result_dcq _ _ _).trans (Cert.ReferenceIdeal.FoxRef.dcq_real hS))

end

/-- The sources the kernel's arguments hold. -/
def sources (m : (ℓ : Loc Cert.KernelIdeal.nD Cert.KernelIdeal.τ Cert.KernelIdeal.sig) → Buf (Elt Ideal) ℓ) (c : Dev Cert.KernelIdeal.nD) : Cert.FoxMath.Src :=
  Cert.Pre_finite.sources (Cert.KernelIdeal.FoxBody.argU m c) (Cert.KernelIdeal.FoxBody.argG m c) (Cert.KernelIdeal.FoxBody.argC m c)

theorem kernel_sources (m : (ℓ : Loc Cert.KernelIdeal.nD Cert.KernelIdeal.τ Cert.KernelIdeal.sig) → Buf (Elt Ideal) ℓ)
    (hp : Cert.Pre_KernelIdeal_finite (hPre_finite := Cert.Pre_finite.facts) m) (c : Dev Cert.KernelIdeal.nD) :
    Cert.FoxMath.SrcIs (sources m c) (Cert.KernelIdeal.FoxBody.argU m c) (Cert.KernelIdeal.FoxBody.argG m c) (Cert.KernelIdeal.FoxBody.argC m c) :=
  haveI := Cert.Pre_finite.facts
  Cert.Pre_finite.sources_is _ _ _ (hp c)

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := fun m ρ m' ρ' hp ha =>
  have hS := kernel_sources m hp
  have hS' : ∀ c : Dev Cert.KernelIdeal.nD, Cert.FoxMath.SrcIs (sources m c)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) := fun c => by
    rw [(ha c).1, (ha c).2.1, (ha c).2.2]; exact hS c
  ⟨fun c => (sources m c).dkArr, fun c => (sources m c).dvArr, fun c => (sources m c).dckArr, fun c => (sources m c).dqArr, fun c => (sources m c).dcqArr,
    (θ_run (Cert.KernelIdeal.defs (F := Ideal)) _ _).mono
      (fun _ h c => ⟨(h.1 c).1, (h.1 c).2.1, (h.1 c).2.2.1, (h.1 c).2.2.2.1, (h.1 c).2.2.2.2, h.2 c⟩)
      (θ_run_and (kernel_value m ρ (sources m) hS) (Cert.KernelIdeal.FoxBody.unchanged m ρ)),
    (θ_run (Cert.ReferenceIdeal.defs (F := Ideal)) _ _).mono
      (fun _ h c => ⟨(h c).1.trans (reference_dk (hS' c)), (h c).2.1.trans (reference_dv (hS' c)),
        (h c).2.2.1.trans (reference_dck (hS' c)), (h c).2.2.2.1.trans (reference_dq (hS' c)), (h c).2.2.2.2.1.trans (reference_dcq (hS' c)),
        (h c).2.2.2.2.2⟩) (Cert.ReferenceIdeal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Pre_finite.facts,
  fun m ρ _ => Cert.Kernel.FoxBody.frame m ρ, fun m ρ _ => Cert.KernelIdeal.FoxBody.frame m ρ, fun m ρ _ => Cert.KernelIdeal.FoxBody.frame m ρ,
  frame_reference, fun m ρ _ => frame_reference m ρ trivial,
  fun m ρ _ => Cert.Kernel2.Gen.frame m ρ, fun m ρ _ => Cert.Kernel2Ideal.Gen.frame m ρ, Cert.Reference2Ideal.Product.frame,
  fun m ρ _ => Cert.Kernel3.Gen.frame m ρ, fun m ρ _ => Cert.Kernel3Ideal.Gen.frame m ρ, Cert.Reference3Ideal.Product.frame,
  fun m ρ _ => Cert.Kernel4.Gen.frame m ρ, fun m ρ _ => Cert.Kernel4Ideal.Gen.frame m ρ, Cert.Reference4Ideal.Product.frame,
  fun m ρ _ => Cert.Kernel5.Gen.frame m ρ, fun m ρ _ => Cert.Kernel5Ideal.Gen.frame m ρ, Cert.Reference5Ideal.Product.frame,
  fun m ρ _ => Cert.Kernel6.Gen.frame m ρ, fun m ρ _ => Cert.Kernel6Ideal.Gen.frame m ρ, Cert.Reference6Ideal.Product.frame,
  fun m ρ _ => Cert.Kernel7.Gen.frame m ρ, fun m ρ _ => Cert.Kernel7Ideal.Gen.frame m ρ, Cert.Reference7Ideal.Product.frame,
  fun m ρ _ => Cert.Kernel8.Gen.frame m ρ, fun m ρ _ => Cert.Kernel8Ideal.Gen.frame m ρ, Cert.Reference8Ideal.Product.frame,
  fun m ρ _ => Cert.Kernel9.Gen.frame m ρ, fun m ρ _ => Cert.Kernel9Ideal.Gen.frame m ρ, Cert.Reference9Ideal.Product.frame,
  fun m ρ _ => Cert.Kernel10.Gen.frame m ρ, fun m ρ _ => Cert.Kernel10Ideal.Gen.frame m ρ, Cert.Reference10Ideal.Product.frame,
  fun m ρ _ => Cert.Kernel11.Gen.frame m ρ, fun m ρ _ => Cert.Kernel11Ideal.Gen.frame m ρ, Cert.Reference11Ideal.Product.frame,
  fun m ρ _ => Cert.Kernel12.Gen.frame m ρ, fun m ρ _ => Cert.Kernel12Ideal.Gen.frame m ρ, Cert.Reference12Ideal.Product.frame,
  fun m ρ _ => Cert.Kernel13.Gen.frame m ρ, fun m ρ _ => Cert.Kernel13Ideal.Gen.frame m ρ, Cert.Reference13Ideal.Product.frame,
  fun m ρ _ => Cert.Kernel14.Gen.frame m ρ, fun m ρ _ => Cert.Kernel14Ideal.Gen.frame m ρ, Cert.Reference14Ideal.Gate.frame,
  fun m ρ _ => Cert.Kernel15.Gen.frame m ρ, fun m ρ _ => Cert.Kernel15Ideal.Gen.frame m ρ, Cert.Reference15Ideal.Gate.frame,
  fun m ρ _ => Cert.Kernel16.Gen.frame m ρ, fun m ρ _ => Cert.Kernel16Ideal.Gen.frame m ρ, Cert.Reference16Ideal.Gate.frame,
  fun m ρ _ => Cert.Kernel17.Gen.frame m ρ, fun m ρ _ => Cert.Kernel17Ideal.Gen.frame m ρ, Cert.Reference17Ideal.Gate.frame,
  fun m ρ _ => Cert.Kernel18.Gen.frame m ρ, fun m ρ _ => Cert.Kernel18Ideal.Gen.frame m ρ, Cert.Reference18Ideal.Gate.frame,
  fun m ρ _ => Cert.Kernel20.Gen.frame m ρ, fun m ρ _ => Cert.Kernel20Ideal.Gen.frame m ρ, Cert.Reference20Ideal.Step.frame,
  fun m ρ _ => Cert.Kernel21.Gen.frame m ρ, fun m ρ _ => Cert.Kernel21Ideal.Gen.frame m ρ, Cert.Reference21Ideal.Step.frame,
  fun m ρ _ => Cert.Kernel22.Gen.frame m ρ, fun m ρ _ => Cert.Kernel22Ideal.Gen.frame m ρ, Cert.Reference22Ideal.Step.frame,
  preserves, algebraic,
  trivial, algebraic2, trivial, algebraic3, trivial, algebraic4, trivial, algebraic5, trivial, algebraic6, trivial, algebraic7, trivial, algebraic8, trivial, algebraic9, trivial, algebraic10, trivial, algebraic11, trivial, algebraic12, trivial, algebraic13,
  trivial, algebraic14, trivial, algebraic15, trivial, algebraic16, trivial, algebraic17, trivial, algebraic18, preserves20, algebraic20, preserves21, algebraic21, preserves22, algebraic22⟩

end Cert.Proof

end
